-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v62_0)) (v1 : (c : Dev Cert.Kernel4Ideal.nD) → Buf (Elt Ideal) ((c.tc : Thread Cert.Kernel4Ideal.nD Cert.Kernel4Ideal.τ).loc Cert.Kernel4Ideal.main_v62_1)) (v2 : (c : Dev Cert.Kernel4Ideal.nD) → Buf (Elt Ideal) ((c.tc : Thread Cert.Kernel4Ideal.nD Cert.Kernel4Ideal.τ).loc Cert.Kernel4Ideal.main_v62_2)) (v3 : (c : Dev Cert.Kernel4Ideal.nD) → Buf (Elt Ideal) ((c.tc : Thread Cert.Kernel4Ideal.nD Cert.Kernel4Ideal.τ).loc Cert.Kernel4Ideal.main_v62_3)) (v4 : (c : Dev Cert.Kernel4Ideal.nD) → Buf (Elt Ideal) ((c.tc : Thread Cert.Kernel4Ideal.nD Cert.Kernel4Ideal.τ).loc Cert.Kernel4Ideal.main_v62_5)) (v5 : (c : Dev Cert.Kernel4Ideal.nD) → Buf (Elt Ideal) ((c.tc : Thread Cert.Kernel4Ideal.nD Cert.Kernel4Ideal.τ).loc Cert.Kernel4Ideal.main_v62_7)) (v6 : (c : Dev Cert.Kernel4Ideal.nD) → Buf (Elt Ideal) ((c.tc : Thread Cert.Kernel4Ideal.nD Cert.Kernel4Ideal.τ).loc Cert.Kernel4Ideal.main_v62_8)) (v7 : (c : Dev Cert.Kernel4Ideal.nD) → Buf (Elt Ideal) ((c.tc : Thread Cert.Kernel4Ideal.nD Cert.Kernel4Ideal.τ).loc Cert.Kernel4Ideal.main_v62_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62_0) = v0 c
          ∧ r.2.mem ((c.tc : Thread Cert.Kernel4Ideal.nD Cert.Kernel4Ideal.τ).loc Cert.Kernel4Ideal.main_v62_1) = v1 c
          ∧ r.2.mem ((c.tc : Thread Cert.Kernel4Ideal.nD Cert.Kernel4Ideal.τ).loc Cert.Kernel4Ideal.main_v62_2) = v2 c
          ∧ r.2.mem ((c.tc : Thread Cert.Kernel4Ideal.nD Cert.Kernel4Ideal.τ).loc Cert.Kernel4Ideal.main_v62_3) = v3 c
          ∧ r.2.mem ((c.tc : Thread Cert.Kernel4Ideal.nD Cert.Kernel4Ideal.τ).loc Cert.Kernel4Ideal.main_v62_5) = v4 c
          ∧ r.2.mem ((c.tc : Thread Cert.Kernel4Ideal.nD Cert.Kernel4Ideal.τ).loc Cert.Kernel4Ideal.main_v62_7) = v5 c
          ∧ r.2.mem ((c.tc : Thread Cert.Kernel4Ideal.nD Cert.Kernel4Ideal.τ).loc Cert.Kernel4Ideal.main_v62_8) = v6 c
          ∧ r.2.mem ((c.tc : Thread Cert.Kernel4Ideal.nD Cert.Kernel4Ideal.τ).loc Cert.Kernel4Ideal.main_v62_9) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_v51) = v4 c
          ∧ r.2.mem ((c.tc : Thread Cert.Reference4Ideal.nD Cert.Reference4Ideal.τ).loc Cert.Reference4Ideal.main_v52) = v5 c
          ∧ r.2.mem ((c.tc : Thread Cert.Reference4Ideal.nD Cert.Reference4Ideal.τ).loc Cert.Reference4Ideal.main_v53) = v6 c
          ∧ r.2.mem ((c.tc : Thread Cert.Reference4Ideal.nD Cert.Reference4Ideal.τ).loc Cert.Reference4Ideal.main_v54) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x512 : Shape := ⟨3, ![2, 8192, 512]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn {F : FTy → Type} [FloatOps F] (main_arg0 : FVec F S2x8192x512 .f32) (main_arg1 : FVec F S2x8192x512 .f32) (main_arg2 : FVec F S2x8192x512 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8192x512 .f32 := Host.absf main_arg1
  let main_cst_0 : FVec F S_ .f32 := constant S_ .f32 0x7F800000#32
  let main_v5 : FVec F S2x8192x512 .f32 := broadcastInDim S2x8192x512 ![] bcast_S_S2x8192x512 main_cst_0
  let main_v6 : IVec S2x8192x512 1 := cmpf .olt main_v4 main_v5
  let main_c_1 : IVec S_ 1 := constantI S_ 1 1#1
  let main_v7 : IVec S_ 1 := (fun x v => Host.reduce IntOp.andi x v reducesTo_S2x8192x512_S_d0_1_2 h_S_) main_v6 main_c_1
  let main_v8 : IVec S_ 1 := andi main_v3 main_v7
  main_v8
-- ==== Kernel.lean ====
abbrev S2x8192x512 : Shape := ⟨3, ![2, 8192, 512]⟩
abbrev S_ : Shape := ⟨0, ![]⟩
abbrev S2x16x512x512 : Shape := ⟨4, ![2, 16, 512, 512]⟩
abbrev S2x32x256x512 : Shape := ⟨4, ![2, 32, 256, 512]⟩
abbrev S2x32x512x256 : Shape := ⟨4, ![2, 32, 512, 256]⟩
abbrev S1x16x128x512 : Shape := ⟨4, ![1, 16, 128, 512]⟩
abbrev S1x8192x128 : Shape := ⟨3, ![1, 8192, 128]⟩
abbrev S1x32x128x256 : Shape := ⟨4, ![1, 32, 128, 256]⟩
abbrev S2x2x256x512 : Shape := ⟨4, ![2, 2, 256, 512]⟩
abbrev S256x512 : Shape := ⟨2, ![256, 512]⟩
abbrev S256x256 : Shape := ⟨2, ![256, 256]⟩
abbrev S1x1x128x512 : Shape := ⟨4, ![1, 1, 128, 512]⟩
abbrev S128x512 : Shape := ⟨2, ![128, 512]⟩
abbrev S1x256x128 : Shape := ⟨3, ![1, 256, 128]⟩
abbrev S256x128 : Shape := ⟨2, ![256, 128]⟩
abbrev S1x1x256x512 : Shape := ⟨4, ![1, 1, 256, 512]⟩
abbrev S1x512 : Shape := ⟨2, ![1, 512]⟩
abbrev S64x512 : Shape := ⟨2, ![64, 512]⟩
abbrev S1x1x64x256 : Shape := ⟨4, ![1, 1, 64, 256]⟩
abbrev S64x256 : Shape := ⟨2, ![64, 256]⟩
abbrev S512x128 : Shape := ⟨2, ![512, 128]⟩
abbrev S1x512x128 : Shape := ⟨3, ![1, 512, 128]⟩

abbrev nBuf : Space → Nat
  | .hbm => 17
  | .vmem => 11
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8192x512, .f32⟩
  | .hbm, ⟨8, _⟩ => ⟨S2x8192x512, .f32⟩
  | .hbm, ⟨9, _⟩ => ⟨S2x8192x512, .bf16⟩
  | .hbm, ⟨10, _⟩ => ⟨S2x16x512x512, .bf16⟩
  | .hbm, ⟨11, _⟩ => ⟨S2x16x512x512, .bf16⟩
  | .hbm, ⟨12, _⟩ => ⟨S2x8192x512, .bf16⟩
  | .hbm, ⟨13, _⟩ => ⟨S2x8192x512, .bf16⟩
  | .hbm, ⟨14, _⟩ => ⟨S2x32x256x512, .bf16⟩
  | .hbm, ⟨15, _⟩ => ⟨S2x32x512x256, .bf16⟩
  | .hbm, ⟨16, _⟩ => ⟨S2x8192x512, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x8192x128, .bf16⟩
  | .local _ .vmem, ⟨7, _⟩ => ⟨S1x8192x128, .bf16⟩
  | .local _ .vmem, ⟨8, _⟩ => ⟨S2x2x256x512, .bf16⟩
  | .local _ .vmem, ⟨9, _⟩ => ⟨S2x2x256x512, .f32⟩
  | .local _ .vmem, ⟨10, _⟩ => ⟨S2x2x256x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 : BitVec 32 :=
  let c256_i32 : BitVec 32 := 256#32
  c256_i32
def k0_mult2 : BitVec 32 :=
  let c0_i32 : BitVec 32 := 0#32
  c0_i32
@[reducible] def k0_t1_loop : Scf.Loop 32 :=
  let c1_i32 : BitVec 32 := 1#32
  let c15_i32 : BitVec 32 := 15#32
  let v159 : BitVec 32 := Scalar.addi c1_i32 c15_i32
  let c1_i32_98 : BitVec 32 := 1#32
  ⟨c1_i32, v159, c1_i32_98⟩
def k0_off1 (k0_t1 : Fin k0_t1_loop.trips) : Fin 4 → Nat :=
  let c0_164 : Index := 0#32
  let c1_i32 : BitVec 32 := 1#32
  let c1_i32_98 : BitVec 32 := 1#32
  let arg9 : BitVec 32 := Scf.iv c1_i32 c1_i32_98 k0_t1
  let v230 : Index := Scalar.indexCast arg9
  let c0_165 : Index := 0#32
  let c0_166 : Index := 0#32
  ![0, v230.toNat, 0, 0]
def k0_mult3 (k0_t1 : Fin k0_t1_loop.trips) : BitVec 32 :=
  let c1_i32 : BitVec 32 := 1#32
  let c1_i32_98 : BitVec 32 := 1#32
  let arg9 : BitVec 32 := Scf.iv c1_i32 c1_i32_98 k0_t1
  let c1_i32_170 : BitVec 32 := 1#32
  let v241 : BitVec 32 := Scalar.addi arg9 c1_i32_170
  let c2_i32 : BitVec 32 := 2#32
  let v242 : BitVec 32 := Scalar.muli v241 c2_i32
  let c1_i32_171 : BitVec 32 := 1#32
  let v243 : BitVec 32 := Scalar.subi v242 c1_i32_171
  let c0_i32_172 : BitVec 32 := 0#32
  let v244 : BitVec 32 := Scalar.subi v243 c0_i32_172
  let c256_i32_173 : BitVec 32 := 256#32
  let v245 : BitVec 32 := Scalar.muli v244 c256_i32_173
  v245
def k0_off2 (k0_t1 : Fin k0_t1_loop.trips) (c0_i32_172 : BitVec 32) : Fin 3 → Nat :=
  let c0_174 : Index := 0#32
  let c1_i32 : BitVec 32 := 1#32
  let c1_i32_98 : BitVec 32 := 1#32
  let arg9 : BitVec 32 := Scf.iv c1_i32 c1_i32_98 k0_t1
  let c1_i32_170 : BitVec 32 := 1#32
  let v241 : BitVec 32 := Scalar.addi arg9 c1_i32_170
  let c2_i32 : BitVec 32 := 2#32
  let v242 : BitVec 32 := Scalar.muli v241 c2_i32
  let c1_i32_171 : BitVec 32 := 1#32
  let v243 : BitVec 32 := Scalar.subi v242 c1_i32_171
  let v244 : BitVec 32 := Scalar.subi v243 c0_i32_172
  let c256_i32_173 : BitVec 32 := 256#32
  let v245 : BitVec 32 := Scalar.muli v244 c256_i32_173
  let v246 : BitVec 32 := v245
  let v247 : Index := Scalar.indexCast v246
  let c0_175 : Index := 0#32
  ![0, v247.toNat, 0]
def k0_mult4 (k0_t1 : Fin k0_t1_loop.trips) : BitVec 32 :=
  let c1_i32 : BitVec 32 := 1#32
  let c1_i32_98 : BitVec 32 := 1#32
  let arg9 : BitVec 32 := Scf.iv c1_i32 c1_i32_98 k0_t1
  let c1_i32_170 : BitVec 32 := 1#32
  let v241 : BitVec 32 := Scalar.addi arg9 c1_i32_170
  let c2_i32 : BitVec 32 := 2#32
  let v242 : BitVec 32 := Scalar.muli v241 c2_i32
  let c1_i32_171 : BitVec 32 := 1#32
  let v243 : BitVec 32 := Scalar.subi v242 c1_i32_171
  let c1_i32_236 : BitVec 32 := 1#32
  let v325 : BitVec 32 := Scalar.subi v243 c1_i32_236
  let c256_i32_237 : BitVec 32 := 256#32
  let v326 : BitVec 32 := Scalar.muli v325 c256_i32_237
  v326
def k0_off3 (k0_t1 : Fin k0_t1_loop.trips) : Fin 4 → Nat :=
  let c0_280 : Index := 0#32
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c1_i32_207 : BitVec 32 := 1#32
  let v304 : BitVec 32 := Scalar.addi v229 c1_i32_207
  let c2_i32_208 : BitVec 32 := 2#32
  let v305 : BitVec 32 := Scalar.muli v304 c2_i32_208
  let c1_i32_209 : BitVec 32 := 1#32
  let v306 : BitVec 32 := Scalar.subi v305 c1_i32_209
  let c1_i32_271 : BitVec 32 := 1#32
  let v385 : BitVec 32 := Scalar.subi v306 c1_i32_271
  let v386 : BitVec 32 := Scalar.subi v306 v385
  let v399 : Index := Scalar.indexCast v386
  let c0_281 : Index := 0#32
  let c0_282 : Index := 0#32
  ![0, v399.toNat, 0, 0]
def k0_off4 (k0_t1 : Fin k0_t1_loop.trips) : Fin 4 → Nat :=
  let c0_284 : Index := 0#32
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c1_i32_207 : BitVec 32 := 1#32
  let v304 : BitVec 32 := Scalar.addi v229 c1_i32_207
  let c2_i32_208 : BitVec 32 := 2#32
  let v305 : BitVec 32 := Scalar.muli v304 c2_i32_208
  let c1_i32_209 : BitVec 32 := 1#32
  let v306 : BitVec 32 := Scalar.subi v305 c1_i32_209
  let c1_i32_271 : BitVec 32 := 1#32
  let v385 : BitVec 32 := Scalar.subi v306 c1_i32_271
  let v386 : BitVec 32 := Scalar.subi v306 v385
  let v405 : Index := Scalar.indexCast v386
  let c64_285 : Index := 64#32
  let c0_286 : Index := 0#32
  ![0, v405.toNat, 64, 0]
def k0_off5 (k0_t1 : Fin k0_t1_loop.trips) : Fin 4 → Nat :=
  let c0_296 : Index := 0#32
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c1_i32_207 : BitVec 32 := 1#32
  let v304 : BitVec 32 := Scalar.addi v229 c1_i32_207
  let c2_i32_208 : BitVec 32 := 2#32
  let v305 : BitVec 32 := Scalar.muli v304 c2_i32_208
  let c1_i32_209 : BitVec 32 := 1#32
  let v306 : BitVec 32 := Scalar.subi v305 c1_i32_209
  let v411 : BitVec 32 := Scalar.subi v306 v306
  let v424 : Index := Scalar.indexCast v411
  let c0_297 : Index := 0#32
  let c0_298 : Index := 0#32
  ![0, v424.toNat, 0, 0]
def k0_off6 (k0_t1 : Fin k0_t1_loop.trips) : Fin 4 → Nat :=
  let c0_300 : Index := 0#32
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c1_i32_207 : BitVec 32 := 1#32
  let v304 : BitVec 32 := Scalar.addi v229 c1_i32_207
  let c2_i32_208 : BitVec 32 := 2#32
  let v305 : BitVec 32 := Scalar.muli v304 c2_i32_208
  let c1_i32_209 : BitVec 32 := 1#32
  let v306 : BitVec 32 := Scalar.subi v305 c1_i32_209
  let v411 : BitVec 32 := Scalar.subi v306 v306
  let v429 : Index := Scalar.indexCast v411
  let c64_301 : Index := 64#32
  let c0_302 : Index := 0#32
  ![0, v429.toNat, 64, 0]
def k0_mult5 (k0_t1 : Fin k0_t1_loop.trips) : BitVec 32 :=
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c512_i32 : BitVec 32 := 512#32
  let v459 : BitVec 32 := Scalar.muli v229 c512_i32
  v459
def k0_off7 (k0_t1 : Fin k0_t1_loop.trips) : Fin 3 → Nat :=
  let c0_330 : Index := 0#32
  let c1_i32 : BitVec 32 := 1#32
  let c1_i32_98 : BitVec 32 := 1#32
  let arg9 : BitVec 32 := Scf.iv c1_i32 c1_i32_98 k0_t1
  let c1_i32_163 : BitVec 32 := 1#32
  let v229 : BitVec 32 := Scalar.subi arg9 c1_i32_163
  let c512_i32 : BitVec 32 := 512#32
  let v459 : BitVec 32 := Scalar.muli v229 c512_i32
  let v460 : BitVec 32 := v459
  let v461 : Index := Scalar.indexCast v460
  let c0_331 : Index := 0#32
  ![0, v461.toNat, 0]
@[reducible] def k0_t2_loop (k0_t1 : Fin k0_t1_loop.trips) : Scf.Loop 32 :=
  let c0_i32_342 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_344 : BitVec 32 := 1#32
  ⟨c0_i32_342, v479, c1_i32_344⟩
def k0_mult6 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let c0_i32_360 : BitVec 32 := 0#32
  let v506 : BitVec 32 := Scalar.addi v505 c0_i32_360
  let v507 : BitVec 32 := Scalar.muli c2_i32_361 v506
  let v508 : BitVec 32 := Scalar.subi v472 v507
  let c256_i32_362 : BitVec 32 := 256#32
  let v509 : BitVec 32 := Scalar.muli v508 c256_i32_362
  v509
def k0_off8 (k0_t1 : Fin k0_t1_loop.trips) (k0_t2 : Fin (k0_t2_loop k0_t1).trips) (c0_i32_360 : BitVec 32) : Fin 3 → Nat :=
  let c0_363 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v508 : BitVec 32 := Scalar.subi v472 v507
  let c256_i32_362 : BitVec 32 := 256#32
  let v509 : BitVec 32 := Scalar.muli v508 c256_i32_362
  let v510 : BitVec 32 := v509
  let v511 : Index := Scalar.indexCast v510
  let c0_364 : Index := 0#32
  ![0, v511.toNat, 0]
def k0_off9 (k0_t1 : Fin k0_t1_loop.trips) (k0_t2 : Fin (k0_t2_loop k0_t1).trips) (c0_i32_360 : BitVec 32) (c2_i32_391 : BitVec 32) : Fin 4 → Nat :=
  let c0_400 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v558 : BitVec 32 := Scalar.subi v507 c2_i32_391
  let v559 : BitVec 32 := Scalar.subi v472 v558
  let v572 : Index := Scalar.indexCast v559
  let c0_401 : Index := 0#32
  let c0_402 : Index := 0#32
  ![0, v572.toNat, 0, 0]
def k0_off10 (k0_t1 : Fin k0_t1_loop.trips) (k0_t2 : Fin (k0_t2_loop k0_t1).trips) (c0_i32_360 : BitVec 32) (c2_i32_391 : BitVec 32) : Fin 4 → Nat :=
  let c0_404 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v558 : BitVec 32 := Scalar.subi v507 c2_i32_391
  let v559 : BitVec 32 := Scalar.subi v472 v558
  let v578 : Index := Scalar.indexCast v559
  let c64_405 : Index := 64#32
  let c0_406 : Index := 0#32
  ![0, v578.toNat, 64, 0]
def k0_mult7 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let c0_i32_360 : BitVec 32 := 0#32
  let v506 : BitVec 32 := Scalar.addi v505 c0_i32_360
  let v507 : BitVec 32 := Scalar.muli c2_i32_361 v506
  let c1_i32_434 : BitVec 32 := 1#32
  let v606 : BitVec 32 := Scalar.addi v507 c1_i32_434
  let v607 : BitVec 32 := Scalar.subi v472 v606
  let c256_i32_435 : BitVec 32 := 256#32
  let v608 : BitVec 32 := Scalar.muli v607 c256_i32_435
  v608
def k0_off11 (k0_t1 : Fin k0_t1_loop.trips) (k0_t2 : Fin (k0_t2_loop k0_t1).trips) (c0_i32_360 : BitVec 32) : Fin 3 → Nat :=
  let c0_436 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_344 : BitVec 32 := 1#32
  let arg16 : BitVec 32 := Scf.iv c0_i32_342 c1_i32_344 k0_t2
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let c1_i32_434 : BitVec 32 := 1#32
  let v606 : BitVec 32 := Scalar.addi v507 c1_i32_434
  let v607 : BitVec 32 := Scalar.subi v472 v606
  let c256_i32_435 : BitVec 32 := 256#32
  let v608 : BitVec 32 := Scalar.muli v607 c256_i32_435
  let v609 : BitVec 32 := v608
  let v610 : Index := Scalar.indexCast v609
  let c0_437 : Index := 0#32
  ![0, v610.toNat, 0]
def k0_mult8 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_510 : BitVec 32 := 2#32
  let c1_i32_508 : BitVec 32 := 1#32
  let c4_i32_507 : BitVec 32 := 4#32
  let c0_i32_342 : BitVec 32 := 0#32
  let c1_i32_344 : BitVec 32 := 1#32
  let arg16 : BitVec 32 := Scf.iv c0_i32_342 c1_i32_344 k0_t2
  let v705 : BitVec 32 := Scalar.muli c4_i32_507 arg16
  let v706 : BitVec 32 := Scalar.addi c1_i32_508 v705
  let c1_i32_509 : BitVec 32 := 1#32
  let v707 : BitVec 32 := Scalar.addi v706 c1_i32_509
  let v708 : BitVec 32 := Scalar.muli c2_i32_510 v707
  let v709 : BitVec 32 := Scalar.subi v472 v708
  let c256_i32_511 : BitVec 32 := 256#32
  let v710 : BitVec 32 := Scalar.muli v709 c256_i32_511
  v710
def k0_mult9 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_510 : BitVec 32 := 2#32
  let c1_i32_508 : BitVec 32 := 1#32
  let c4_i32_507 : BitVec 32 := 4#32
  let c0_i32_342 : BitVec 32 := 0#32
  let c1_i32_344 : BitVec 32 := 1#32
  let arg16 : BitVec 32 := Scf.iv c0_i32_342 c1_i32_344 k0_t2
  let v705 : BitVec 32 := Scalar.muli c4_i32_507 arg16
  let v706 : BitVec 32 := Scalar.addi c1_i32_508 v705
  let c1_i32_509 : BitVec 32 := 1#32
  let v707 : BitVec 32 := Scalar.addi v706 c1_i32_509
  let v708 : BitVec 32 := Scalar.muli c2_i32_510 v707
  let c1_i32_583 : BitVec 32 := 1#32
  let v807 : BitVec 32 := Scalar.addi v708 c1_i32_583
  let v808 : BitVec 32 := Scalar.subi v472 v807
  let c256_i32_584 : BitVec 32 := 256#32
  let v809 : BitVec 32 := Scalar.muli v808 c256_i32_584
  v809
def k0_mult10 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_659 : BitVec 32 := 2#32
  let c1_i32_657 : BitVec 32 := 1#32
  let c4_i32_656 : BitVec 32 := 4#32
  let c0_i32_342 : BitVec 32 := 0#32
  let c1_i32_344 : BitVec 32 := 1#32
  let arg16 : BitVec 32 := Scf.iv c0_i32_342 c1_i32_344 k0_t2
  let v906 : BitVec 32 := Scalar.muli c4_i32_656 arg16
  let v907 : BitVec 32 := Scalar.addi c1_i32_657 v906
  let c2_i32_658 : BitVec 32 := 2#32
  let v908 : BitVec 32 := Scalar.addi v907 c2_i32_658
  let v909 : BitVec 32 := Scalar.muli c2_i32_659 v908
  let v910 : BitVec 32 := Scalar.subi v472 v909
  let c256_i32_660 : BitVec 32 := 256#32
  let v911 : BitVec 32 := Scalar.muli v910 c256_i32_660
  v911
def k0_mult11 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_659 : BitVec 32 := 2#32
  let c1_i32_657 : BitVec 32 := 1#32
  let c4_i32_656 : BitVec 32 := 4#32
  let c0_i32_342 : BitVec 32 := 0#32
  let c1_i32_344 : BitVec 32 := 1#32
  let arg16 : BitVec 32 := Scf.iv c0_i32_342 c1_i32_344 k0_t2
  let v906 : BitVec 32 := Scalar.muli c4_i32_656 arg16
  let v907 : BitVec 32 := Scalar.addi c1_i32_657 v906
  let c2_i32_658 : BitVec 32 := 2#32
  let v908 : BitVec 32 := Scalar.addi v907 c2_i32_658
  let v909 : BitVec 32 := Scalar.muli c2_i32_659 v908
  let c1_i32_732 : BitVec 32 := 1#32
  let v1008 : BitVec 32 := Scalar.addi v909 c1_i32_732
  let v1009 : BitVec 32 := Scalar.subi v472 v1008
  let c256_i32_733 : BitVec 32 := 256#32
  let v1010 : BitVec 32 := Scalar.muli v1009 c256_i32_733
  v1010
def k0_mult12 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_807 : BitVec 32 := 2#32
  let c1_i32_806 : BitVec 32 := 1#32
  let c4_i32_805 : BitVec 32 := 4#32
  let c0_i32_342 : BitVec 32 := 0#32
  let c1_i32_344 : BitVec 32 := 1#32
  let arg16 : BitVec 32 := Scf.iv c0_i32_342 c1_i32_344 k0_t2
  let v1107 : BitVec 32 := Scalar.muli c4_i32_805 arg16
  let v1108 : BitVec 32 := Scalar.addi c1_i32_806 v1107
  let c3_i32 : BitVec 32 := 3#32
  let v1109 : BitVec 32 := Scalar.addi v1108 c3_i32
  let v1110 : BitVec 32 := Scalar.muli c2_i32_807 v1109
  let v1111 : BitVec 32 := Scalar.subi v472 v1110
  let c256_i32_808 : BitVec 32 := 256#32
  let v1112 : BitVec 32 := Scalar.muli v1111 c256_i32_808
  v1112
def k0_mult13 (k0_t1 : Fin k0_t1_loop.trips) (k0_t2 : Fin (k0_t2_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_807 : BitVec 32 := 2#32
  let c1_i32_806 : BitVec 32 := 1#32
  let c4_i32_805 : BitVec 32 := 4#32
  let c0_i32_342 : BitVec 32 := 0#32
  let c1_i32_344 : BitVec 32 := 1#32
  let arg16 : BitVec 32 := Scf.iv c0_i32_342 c1_i32_344 k0_t2
  let v1107 : BitVec 32 := Scalar.muli c4_i32_805 arg16
  let v1108 : BitVec 32 := Scalar.addi c1_i32_806 v1107
  let c3_i32 : BitVec 32 := 3#32
  let v1109 : BitVec 32 := Scalar.addi v1108 c3_i32
  let v1110 : BitVec 32 := Scalar.muli c2_i32_807 v1109
  let c1_i32_880 : BitVec 32 := 1#32
  let v1209 : BitVec 32 := Scalar.addi v1110 c1_i32_880
  let v1210 : BitVec 32 := Scalar.subi v472 v1209
  let c256_i32_881 : BitVec 32 := 256#32
  let v1211 : BitVec 32 := Scalar.muli v1210 c256_i32_881
  v1211
@[reducible] def k0_t3_loop (k0_t1 : Fin k0_t1_loop.trips) : Scf.Loop 32 :=
  let c0_i32_342 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let v476 : BitVec 32 := Scalar.addi c0_i32_342 v475
  let c1_i32_345 : BitVec 32 := 1#32
  ⟨v479, v476, c1_i32_345⟩
def k0_mult14 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let c0_i32_360 : BitVec 32 := 0#32
  let v506 : BitVec 32 := Scalar.addi v505 c0_i32_360
  let v507 : BitVec 32 := Scalar.muli c2_i32_361 v506
  let v508 : BitVec 32 := Scalar.subi v472 v507
  let c256_i32_362 : BitVec 32 := 256#32
  let v509 : BitVec 32 := Scalar.muli v508 c256_i32_362
  v509
def k0_off12 (k0_t1 : Fin k0_t1_loop.trips) (k0_t3 : Fin (k0_t3_loop k0_t1).trips) (c0_i32_360 : BitVec 32) : Fin 3 → Nat :=
  let c0_363 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v508 : BitVec 32 := Scalar.subi v472 v507
  let c256_i32_362 : BitVec 32 := 256#32
  let v509 : BitVec 32 := Scalar.muli v508 c256_i32_362
  let v510 : BitVec 32 := v509
  let v511 : Index := Scalar.indexCast v510
  let c0_364 : Index := 0#32
  ![0, v511.toNat, 0]
def k0_off13 (k0_t1 : Fin k0_t1_loop.trips) (k0_t3 : Fin (k0_t3_loop k0_t1).trips) (c0_i32_360 : BitVec 32) (c2_i32_391 : BitVec 32) : Fin 4 → Nat :=
  let c0_400 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v558 : BitVec 32 := Scalar.subi v507 c2_i32_391
  let v559 : BitVec 32 := Scalar.subi v472 v558
  let v572 : Index := Scalar.indexCast v559
  let c0_401 : Index := 0#32
  let c0_402 : Index := 0#32
  ![0, v572.toNat, 0, 0]
def k0_off14 (k0_t1 : Fin k0_t1_loop.trips) (k0_t3 : Fin (k0_t3_loop k0_t1).trips) (c0_i32_360 : BitVec 32) (c2_i32_391 : BitVec 32) : Fin 4 → Nat :=
  let c0_404 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let v558 : BitVec 32 := Scalar.subi v507 c2_i32_391
  let v559 : BitVec 32 := Scalar.subi v472 v558
  let v578 : Index := Scalar.indexCast v559
  let c64_405 : Index := 64#32
  let c0_406 : Index := 0#32
  ![0, v578.toNat, 64, 0]
def k0_mult15 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let c0_i32_360 : BitVec 32 := 0#32
  let v506 : BitVec 32 := Scalar.addi v505 c0_i32_360
  let v507 : BitVec 32 := Scalar.muli c2_i32_361 v506
  let c1_i32_434 : BitVec 32 := 1#32
  let v606 : BitVec 32 := Scalar.addi v507 c1_i32_434
  let v607 : BitVec 32 := Scalar.subi v472 v606
  let c256_i32_435 : BitVec 32 := 256#32
  let v608 : BitVec 32 := Scalar.muli v607 c256_i32_435
  v608
def k0_off15 (k0_t1 : Fin k0_t1_loop.trips) (k0_t3 : Fin (k0_t3_loop k0_t1).trips) (c0_i32_360 : BitVec 32) : Fin 3 → Nat :=
  let c0_436 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_361 : BitVec 32 := 2#32
  let c1_i32_359 : BitVec 32 := 1#32
  let c4_i32_358 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v504 : BitVec 32 := Scalar.muli c4_i32_358 arg16
  let v505 : BitVec 32 := Scalar.addi c1_i32_359 v504
  let v506 : BitVec 32 := Scalar.addi v505 c0_i32_360
  let v507 : BitVec 32 := Scalar.muli c2_i32_361 v506
  let c1_i32_434 : BitVec 32 := 1#32
  let v606 : BitVec 32 := Scalar.addi v507 c1_i32_434
  let v607 : BitVec 32 := Scalar.subi v472 v606
  let c256_i32_435 : BitVec 32 := 256#32
  let v608 : BitVec 32 := Scalar.muli v607 c256_i32_435
  let v609 : BitVec 32 := v608
  let v610 : Index := Scalar.indexCast v609
  let c0_437 : Index := 0#32
  ![0, v610.toNat, 0]
def k0_mult16 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_510 : BitVec 32 := 2#32
  let c1_i32_508 : BitVec 32 := 1#32
  let c4_i32_507 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v705 : BitVec 32 := Scalar.muli c4_i32_507 arg16
  let v706 : BitVec 32 := Scalar.addi c1_i32_508 v705
  let c1_i32_509 : BitVec 32 := 1#32
  let v707 : BitVec 32 := Scalar.addi v706 c1_i32_509
  let v708 : BitVec 32 := Scalar.muli c2_i32_510 v707
  let v709 : BitVec 32 := Scalar.subi v472 v708
  let c256_i32_511 : BitVec 32 := 256#32
  let v710 : BitVec 32 := Scalar.muli v709 c256_i32_511
  v710
def k0_mult17 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_510 : BitVec 32 := 2#32
  let c1_i32_508 : BitVec 32 := 1#32
  let c4_i32_507 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v705 : BitVec 32 := Scalar.muli c4_i32_507 arg16
  let v706 : BitVec 32 := Scalar.addi c1_i32_508 v705
  let c1_i32_509 : BitVec 32 := 1#32
  let v707 : BitVec 32 := Scalar.addi v706 c1_i32_509
  let v708 : BitVec 32 := Scalar.muli c2_i32_510 v707
  let c1_i32_583 : BitVec 32 := 1#32
  let v807 : BitVec 32 := Scalar.addi v708 c1_i32_583
  let v808 : BitVec 32 := Scalar.subi v472 v807
  let c256_i32_584 : BitVec 32 := 256#32
  let v809 : BitVec 32 := Scalar.muli v808 c256_i32_584
  v809
def k0_mult18 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_659 : BitVec 32 := 2#32
  let c1_i32_657 : BitVec 32 := 1#32
  let c4_i32_656 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v906 : BitVec 32 := Scalar.muli c4_i32_656 arg16
  let v907 : BitVec 32 := Scalar.addi c1_i32_657 v906
  let c2_i32_658 : BitVec 32 := 2#32
  let v908 : BitVec 32 := Scalar.addi v907 c2_i32_658
  let v909 : BitVec 32 := Scalar.muli c2_i32_659 v908
  let v910 : BitVec 32 := Scalar.subi v472 v909
  let c256_i32_660 : BitVec 32 := 256#32
  let v911 : BitVec 32 := Scalar.muli v910 c256_i32_660
  v911
def k0_mult19 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_659 : BitVec 32 := 2#32
  let c1_i32_657 : BitVec 32 := 1#32
  let c4_i32_656 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v906 : BitVec 32 := Scalar.muli c4_i32_656 arg16
  let v907 : BitVec 32 := Scalar.addi c1_i32_657 v906
  let c2_i32_658 : BitVec 32 := 2#32
  let v908 : BitVec 32 := Scalar.addi v907 c2_i32_658
  let v909 : BitVec 32 := Scalar.muli c2_i32_659 v908
  let c1_i32_732 : BitVec 32 := 1#32
  let v1008 : BitVec 32 := Scalar.addi v909 c1_i32_732
  let v1009 : BitVec 32 := Scalar.subi v472 v1008
  let c256_i32_733 : BitVec 32 := 256#32
  let v1010 : BitVec 32 := Scalar.muli v1009 c256_i32_733
  v1010
def k0_mult20 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_807 : BitVec 32 := 2#32
  let c1_i32_806 : BitVec 32 := 1#32
  let c4_i32_805 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v1107 : BitVec 32 := Scalar.muli c4_i32_805 arg16
  let v1108 : BitVec 32 := Scalar.addi c1_i32_806 v1107
  let c3_i32 : BitVec 32 := 3#32
  let v1109 : BitVec 32 := Scalar.addi v1108 c3_i32
  let v1110 : BitVec 32 := Scalar.muli c2_i32_807 v1109
  let v1111 : BitVec 32 := Scalar.subi v472 v1110
  let c256_i32_808 : BitVec 32 := 256#32
  let v1112 : BitVec 32 := Scalar.muli v1111 c256_i32_808
  v1112
def k0_mult21 (k0_t1 : Fin k0_t1_loop.trips) (k0_t3 : Fin (k0_t3_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_807 : BitVec 32 := 2#32
  let c1_i32_806 : BitVec 32 := 1#32
  let c4_i32_805 : BitVec 32 := 4#32
  let c0_i32_342 : BitVec 32 := 0#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v475 : BitVec 32 := Scalar.subi v474 c0_i32_342
  let c1_i32_343 : BitVec 32 := 1#32
  let v477 : BitVec 32 := Scalar.divsi v475 c1_i32_343
  let v478 : BitVec 32 := Scalar.muli v477 c1_i32_343
  let v479 : BitVec 32 := Scalar.addi c0_i32_342 v478
  let c1_i32_345 : BitVec 32 := 1#32
  let arg16 : BitVec 32 := Scf.iv v479 c1_i32_345 k0_t3
  let v1107 : BitVec 32 := Scalar.muli c4_i32_805 arg16
  let v1108 : BitVec 32 := Scalar.addi c1_i32_806 v1107
  let c3_i32 : BitVec 32 := 3#32
  let v1109 : BitVec 32 := Scalar.addi v1108 c3_i32
  let v1110 : BitVec 32 := Scalar.muli c2_i32_807 v1109
  let c1_i32_880 : BitVec 32 := 1#32
  let v1209 : BitVec 32 := Scalar.addi v1110 c1_i32_880
  let v1210 : BitVec 32 := Scalar.subi v472 v1209
  let c256_i32_881 : BitVec 32 := 256#32
  let v1211 : BitVec 32 := Scalar.muli v1210 c256_i32_881
  v1211
@[reducible] def k0_t4_loop (k0_t1 : Fin k0_t1_loop.trips) : Scf.Loop 32 :=
  let c0_i32_348 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_346 : BitVec 32 := 1#32
  let c4_i32 : BitVec 32 := 4#32
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_350 : BitVec 32 := 1#32
  ⟨c0_i32_348, v490, c1_i32_350⟩
def k0_mult22 (k0_t1 : Fin k0_t1_loop.trips) (k0_t4 : Fin (k0_t4_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  v509
def k0_off16 (k0_t1 : Fin k0_t1_loop.trips) (k0_t4 : Fin (k0_t4_loop k0_t1).trips) (c0_i32_359 : BitVec 32) : Fin 3 → Nat :=
  let c0_362 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  let v510 : BitVec 32 := v509
  let v511 : Index := Scalar.indexCast v510
  let c0_363 : Index := 0#32
  ![0, v511.toNat, 0]
def k0_off17 (k0_t1 : Fin k0_t1_loop.trips) (k0_t4 : Fin (k0_t4_loop k0_t1).trips) (c0_i32_359 : BitVec 32) (c2_i32_390 : BitVec 32) : Fin 4 → Nat :=
  let c0_399 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v572 : Index := Scalar.indexCast v559
  let c0_400 : Index := 0#32
  let c0_401 : Index := 0#32
  ![0, v572.toNat, 0, 0]
def k0_off18 (k0_t1 : Fin k0_t1_loop.trips) (k0_t4 : Fin (k0_t4_loop k0_t1).trips) (c0_i32_359 : BitVec 32) (c2_i32_390 : BitVec 32) : Fin 4 → Nat :=
  let c0_403 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v578 : Index := Scalar.indexCast v559
  let c64_404 : Index := 64#32
  let c0_405 : Index := 0#32
  ![0, v578.toNat, 64, 0]
def k0_mult23 (k0_t1 : Fin k0_t1_loop.trips) (k0_t4 : Fin (k0_t4_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  v608
def k0_off19 (k0_t1 : Fin k0_t1_loop.trips) (k0_t4 : Fin (k0_t4_loop k0_t1).trips) (c0_i32_359 : BitVec 32) : Fin 3 → Nat :=
  let c0_435 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let c1_i32_350 : BitVec 32 := 1#32
  let arg16 : BitVec 32 := Scf.iv c0_i32_348 c1_i32_350 k0_t4
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  let v609 : BitVec 32 := v608
  let v610 : Index := Scalar.indexCast v609
  let c0_436 : Index := 0#32
  ![0, v610.toNat, 0]
def k0_mult24 (k0_t1 : Fin k0_t1_loop.trips) (k0_t4 : Fin (k0_t4_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_508 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_506 : BitVec 32 := 2#32
  let c0_i32_348 : BitVec 32 := 0#32
  let c1_i32_350 : BitVec 32 := 1#32
  let arg16 : BitVec 32 := Scf.iv c0_i32_348 c1_i32_350 k0_t4
  let v705 : BitVec 32 := Scalar.muli c2_i32_506 arg16
  let v706 : BitVec 32 := Scalar.addi v483 v705
  let c1_i32_507 : BitVec 32 := 1#32
  let v707 : BitVec 32 := Scalar.addi v706 c1_i32_507
  let v708 : BitVec 32 := Scalar.muli c2_i32_508 v707
  let v709 : BitVec 32 := Scalar.subi v472 v708
  let c256_i32_509 : BitVec 32 := 256#32
  let v710 : BitVec 32 := Scalar.muli v709 c256_i32_509
  v710
def k0_mult25 (k0_t1 : Fin k0_t1_loop.trips) (k0_t4 : Fin (k0_t4_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_508 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_506 : BitVec 32 := 2#32
  let c0_i32_348 : BitVec 32 := 0#32
  let c1_i32_350 : BitVec 32 := 1#32
  let arg16 : BitVec 32 := Scf.iv c0_i32_348 c1_i32_350 k0_t4
  let v705 : BitVec 32 := Scalar.muli c2_i32_506 arg16
  let v706 : BitVec 32 := Scalar.addi v483 v705
  let c1_i32_507 : BitVec 32 := 1#32
  let v707 : BitVec 32 := Scalar.addi v706 c1_i32_507
  let v708 : BitVec 32 := Scalar.muli c2_i32_508 v707
  let c1_i32_581 : BitVec 32 := 1#32
  let v807 : BitVec 32 := Scalar.addi v708 c1_i32_581
  let v808 : BitVec 32 := Scalar.subi v472 v807
  let c256_i32_582 : BitVec 32 := 256#32
  let v809 : BitVec 32 := Scalar.muli v808 c256_i32_582
  v809
@[reducible] def k0_t5_loop (k0_t1 : Fin k0_t1_loop.trips) : Scf.Loop 32 :=
  let c0_i32_348 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_346 : BitVec 32 := 1#32
  let c4_i32 : BitVec 32 := 4#32
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let v487 : BitVec 32 := Scalar.addi c0_i32_348 v486
  let c1_i32_351 : BitVec 32 := 1#32
  ⟨v490, v487, c1_i32_351⟩
def k0_mult26 (k0_t1 : Fin k0_t1_loop.trips) (k0_t5 : Fin (k0_t5_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  v509
def k0_off20 (k0_t1 : Fin k0_t1_loop.trips) (k0_t5 : Fin (k0_t5_loop k0_t1).trips) (c0_i32_359 : BitVec 32) : Fin 3 → Nat :=
  let c0_362 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  let v510 : BitVec 32 := v509
  let v511 : Index := Scalar.indexCast v510
  let c0_363 : Index := 0#32
  ![0, v511.toNat, 0]
def k0_off21 (k0_t1 : Fin k0_t1_loop.trips) (k0_t5 : Fin (k0_t5_loop k0_t1).trips) (c0_i32_359 : BitVec 32) (c2_i32_390 : BitVec 32) : Fin 4 → Nat :=
  let c0_399 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v572 : Index := Scalar.indexCast v559
  let c0_400 : Index := 0#32
  let c0_401 : Index := 0#32
  ![0, v572.toNat, 0, 0]
def k0_off22 (k0_t1 : Fin k0_t1_loop.trips) (k0_t5 : Fin (k0_t5_loop k0_t1).trips) (c0_i32_359 : BitVec 32) (c2_i32_390 : BitVec 32) : Fin 4 → Nat :=
  let c0_403 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v578 : Index := Scalar.indexCast v559
  let c64_404 : Index := 64#32
  let c0_405 : Index := 0#32
  ![0, v578.toNat, 64, 0]
def k0_mult27 (k0_t1 : Fin k0_t1_loop.trips) (k0_t5 : Fin (k0_t5_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  v608
def k0_off23 (k0_t1 : Fin k0_t1_loop.trips) (k0_t5 : Fin (k0_t5_loop k0_t1).trips) (c0_i32_359 : BitVec 32) : Fin 3 → Nat :=
  let c0_435 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_358 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v504 : BitVec 32 := Scalar.muli c2_i32_358 arg16
  let v505 : BitVec 32 := Scalar.addi v483 v504
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  let v609 : BitVec 32 := v608
  let v610 : Index := Scalar.indexCast v609
  let c0_436 : Index := 0#32
  ![0, v610.toNat, 0]
def k0_mult28 (k0_t1 : Fin k0_t1_loop.trips) (k0_t5 : Fin (k0_t5_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_508 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_506 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v705 : BitVec 32 := Scalar.muli c2_i32_506 arg16
  let v706 : BitVec 32 := Scalar.addi v483 v705
  let c1_i32_507 : BitVec 32 := 1#32
  let v707 : BitVec 32 := Scalar.addi v706 c1_i32_507
  let v708 : BitVec 32 := Scalar.muli c2_i32_508 v707
  let v709 : BitVec 32 := Scalar.subi v472 v708
  let c256_i32_509 : BitVec 32 := 256#32
  let v710 : BitVec 32 := Scalar.muli v709 c256_i32_509
  v710
def k0_mult29 (k0_t1 : Fin k0_t1_loop.trips) (k0_t5 : Fin (k0_t5_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_508 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_506 : BitVec 32 := 2#32
  let c0_i32_348 : BitVec 32 := 0#32
  let v484 : BitVec 32 := Scalar.subi v469 v483
  let c1_i32_347 : BitVec 32 := 1#32
  let v485 : BitVec 32 := Scalar.shrui v484 c1_i32_347
  let v486 : BitVec 32 := Scalar.subi v485 c0_i32_348
  let c1_i32_349 : BitVec 32 := 1#32
  let v488 : BitVec 32 := Scalar.divsi v486 c1_i32_349
  let v489 : BitVec 32 := Scalar.muli v488 c1_i32_349
  let v490 : BitVec 32 := Scalar.addi c0_i32_348 v489
  let c1_i32_351 : BitVec 32 := 1#32
  let arg16 : BitVec 32 := Scf.iv v490 c1_i32_351 k0_t5
  let v705 : BitVec 32 := Scalar.muli c2_i32_506 arg16
  let v706 : BitVec 32 := Scalar.addi v483 v705
  let c1_i32_507 : BitVec 32 := 1#32
  let v707 : BitVec 32 := Scalar.addi v706 c1_i32_507
  let v708 : BitVec 32 := Scalar.muli c2_i32_508 v707
  let c1_i32_581 : BitVec 32 := 1#32
  let v807 : BitVec 32 := Scalar.addi v708 c1_i32_581
  let v808 : BitVec 32 := Scalar.subi v472 v807
  let c256_i32_582 : BitVec 32 := 256#32
  let v809 : BitVec 32 := Scalar.muli v808 c256_i32_582
  v809
@[reducible] def k0_t6_loop (k0_t1 : Fin k0_t1_loop.trips) : Scf.Loop 32 :=
  let c0_i32_354 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_346 : BitVec 32 := 1#32
  let c4_i32 : BitVec 32 := 4#32
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_356 : BitVec 32 := 1#32
  ⟨c0_i32_354, v501, c1_i32_356⟩
def k0_mult30 (k0_t1 : Fin k0_t1_loop.trips) (k0_t6 : Fin (k0_t6_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  v509
def k0_off24 (k0_t1 : Fin k0_t1_loop.trips) (k0_t6 : Fin (k0_t6_loop k0_t1).trips) : Fin 3 → Nat :=
  let c0_362 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  let v510 : BitVec 32 := v509
  let v511 : Index := Scalar.indexCast v510
  let c0_363 : Index := 0#32
  ![0, v511.toNat, 0]
def k0_off25 (k0_t1 : Fin k0_t1_loop.trips) (k0_t6 : Fin (k0_t6_loop k0_t1).trips) (c2_i32_390 : BitVec 32) : Fin 4 → Nat :=
  let c0_399 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v572 : Index := Scalar.indexCast v559
  let c0_400 : Index := 0#32
  let c0_401 : Index := 0#32
  ![0, v572.toNat, 0, 0]
def k0_off26 (k0_t1 : Fin k0_t1_loop.trips) (k0_t6 : Fin (k0_t6_loop k0_t1).trips) (c2_i32_390 : BitVec 32) : Fin 4 → Nat :=
  let c0_403 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v578 : Index := Scalar.indexCast v559
  let c64_404 : Index := 64#32
  let c0_405 : Index := 0#32
  ![0, v578.toNat, 64, 0]
def k0_mult31 (k0_t1 : Fin k0_t1_loop.trips) (k0_t6 : Fin (k0_t6_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  v608
def k0_off27 (k0_t1 : Fin k0_t1_loop.trips) (k0_t6 : Fin (k0_t6_loop k0_t1).trips) : Fin 3 → Nat :=
  let c0_435 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let c1_i32_356 : BitVec 32 := 1#32
  let arg16 : BitVec 32 := Scf.iv c0_i32_354 c1_i32_356 k0_t6
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  let v609 : BitVec 32 := v608
  let v610 : Index := Scalar.indexCast v609
  let c0_436 : Index := 0#32
  ![0, v610.toNat, 0]
@[reducible] def k0_t7_loop (k0_t1 : Fin k0_t1_loop.trips) : Scf.Loop 32 :=
  let c0_i32_354 : BitVec 32 := 0#32
  let c1_i32 : BitVec 32 := 1#32
  let c1_i32_98 : BitVec 32 := 1#32
  let arg9 : BitVec 32 := Scf.iv c1_i32 c1_i32_98 k0_t1
  let c1_i32_336 : BitVec 32 := 1#32
  let v469 : BitVec 32 := Scalar.addi arg9 c1_i32_336
  let c1_i32_346 : BitVec 32 := 1#32
  let c4_i32 : BitVec 32 := 4#32
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let v498 : BitVec 32 := Scalar.addi c0_i32_354 v497
  let c1_i32_357 : BitVec 32 := 1#32
  ⟨v501, v498, c1_i32_357⟩
def k0_mult32 (k0_t1 : Fin k0_t1_loop.trips) (k0_t7 : Fin (k0_t7_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  v509
def k0_off28 (k0_t1 : Fin k0_t1_loop.trips) (k0_t7 : Fin (k0_t7_loop k0_t1).trips) : Fin 3 → Nat :=
  let c0_362 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v508 : BitVec 32 := Scalar.subi v472 v507
  let c256_i32_361 : BitVec 32 := 256#32
  let v509 : BitVec 32 := Scalar.muli v508 c256_i32_361
  let v510 : BitVec 32 := v509
  let v511 : Index := Scalar.indexCast v510
  let c0_363 : Index := 0#32
  ![0, v511.toNat, 0]
def k0_off29 (k0_t1 : Fin k0_t1_loop.trips) (k0_t7 : Fin (k0_t7_loop k0_t1).trips) (c2_i32_390 : BitVec 32) : Fin 4 → Nat :=
  let c0_399 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v572 : Index := Scalar.indexCast v559
  let c0_400 : Index := 0#32
  let c0_401 : Index := 0#32
  ![0, v572.toNat, 0, 0]
def k0_off30 (k0_t1 : Fin k0_t1_loop.trips) (k0_t7 : Fin (k0_t7_loop k0_t1).trips) (c2_i32_390 : BitVec 32) : Fin 4 → Nat :=
  let c0_403 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let v558 : BitVec 32 := Scalar.subi v507 c2_i32_390
  let v559 : BitVec 32 := Scalar.subi v472 v558
  let v578 : Index := Scalar.indexCast v559
  let c64_404 : Index := 64#32
  let c0_405 : Index := 0#32
  ![0, v578.toNat, 64, 0]
def k0_mult33 (k0_t1 : Fin k0_t1_loop.trips) (k0_t7 : Fin (k0_t7_loop k0_t1).trips) : BitVec 32 :=
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  v608
def k0_off31 (k0_t1 : Fin k0_t1_loop.trips) (k0_t7 : Fin (k0_t7_loop k0_t1).trips) : Fin 3 → Nat :=
  let c0_435 : Index := 0#32
  let c1_i32 : BitVec 32 := 1#32
  let c1_i32_98 : BitVec 32 := 1#32
  let arg9 : BitVec 32 := Scf.iv c1_i32 c1_i32_98 k0_t1
  let c1_i32_337 : BitVec 32 := 1#32
  let v470 : BitVec 32 := Scalar.addi arg9 c1_i32_337
  let c2_i32_338 : BitVec 32 := 2#32
  let v471 : BitVec 32 := Scalar.muli v470 c2_i32_338
  let c1_i32_339 : BitVec 32 := 1#32
  let v472 : BitVec 32 := Scalar.subi v471 c1_i32_339
  let c2_i32_360 : BitVec 32 := 2#32
  let c1_i32_346 : BitVec 32 := 1#32
  let c4_i32 : BitVec 32 := 4#32
  let c1_i32_336 : BitVec 32 := 1#32
  let v469 : BitVec 32 := Scalar.addi arg9 c1_i32_336
  let c1_i32_340 : BitVec 32 := 1#32
  let v473 : BitVec 32 := Scalar.subi v469 c1_i32_340
  let c2_i32_341 : BitVec 32 := 2#32
  let v474 : BitVec 32 := Scalar.shrui v473 c2_i32_341
  let v482 : BitVec 32 := Scalar.muli c4_i32 v474
  let v483 : BitVec 32 := Scalar.addi c1_i32_346 v482
  let c2_i32_352 : BitVec 32 := 2#32
  let v484 : BitVec 32 := Scalar.subi v469 v483
  let c1_i32_347 : BitVec 32 := 1#32
  let v485 : BitVec 32 := Scalar.shrui v484 c1_i32_347
  let v493 : BitVec 32 := Scalar.muli c2_i32_352 v485
  let v494 : BitVec 32 := Scalar.addi v483 v493
  let c1_i32_358 : BitVec 32 := 1#32
  let c0_i32_354 : BitVec 32 := 0#32
  let v495 : BitVec 32 := Scalar.subi v469 v494
  let c0_i32_353 : BitVec 32 := 0#32
  let v496 : BitVec 32 := Scalar.shrui v495 c0_i32_353
  let v497 : BitVec 32 := Scalar.subi v496 c0_i32_354
  let c1_i32_355 : BitVec 32 := 1#32
  let v499 : BitVec 32 := Scalar.divsi v497 c1_i32_355
  let v500 : BitVec 32 := Scalar.muli v499 c1_i32_355
  let v501 : BitVec 32 := Scalar.addi c0_i32_354 v500
  let c1_i32_357 : BitVec 32 := 1#32
  let arg16 : BitVec 32 := Scf.iv v501 c1_i32_357 k0_t7
  let v504 : BitVec 32 := Scalar.muli c1_i32_358 arg16
  let v505 : BitVec 32 := Scalar.addi v494 v504
  let c0_i32_359 : BitVec 32 := 0#32
  let v506 : BitVec 32 := Scalar.addi v505 c0_i32_359
  let v507 : BitVec 32 := Scalar.muli c2_i32_360 v506
  let c1_i32_433 : BitVec 32 := 1#32
  let v606 : BitVec 32 := Scalar.addi v507 c1_i32_433
  let v607 : BitVec 32 := Scalar.subi v472 v606
  let c256_i32_434 : BitVec 32 := 256#32
  let v608 : BitVec 32 := Scalar.muli v607 c256_i32_434
  let v609 : BitVec 32 := v608
  let v610 : Index := Scalar.indexCast v609
  let c0_436 : Index := 0#32
  ![0, v610.toNat, 0]
def k0_mult34 : BitVec 32 :=
  let c7680_i32 : BitVec 32 := 7680#32
  c7680_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "inv_ln2" => some (((Real.log 2)⁻¹ : ℝ) : EReal)
  | "mask" => some ⊥
  | _ => none
-- ==== ReferenceIdeal.lean ====
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x8x64, .f32⟩
  | .hbm, ⟨4, _⟩ => ⟨S2x8x8192x64, .f32⟩
  | .hbm, ⟨5, _⟩ => ⟨S2x8192x8x64, .f32⟩
  | .hbm, ⟨6, _⟩ => ⟨S2x8x8192x64, .f32⟩
  | .hbm, ⟨7, _⟩ => ⟨S2x8192x8x64, .f32⟩
  | .hbm, ⟨8, _⟩ => ⟨S2x8x8192x64, .f32⟩
  | .hbm, ⟨9, _⟩ => ⟨S8192, .i32⟩
  | .hbm, ⟨10, _⟩ => ⟨S2x8x8192x8192, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .i1⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S_, .f32⟩
  | .hbm, ⟨54, _⟩ => ⟨S2x8x8192x8192, .i1⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .i1⟩
  | .hbm, ⟨66, _⟩ => ⟨S2x8x8192x8192, .f32⟩
  | .hbm, ⟨67, _⟩ => ⟨S2x8x8192x8192, .f32⟩
  | .hbm, ⟨68, _⟩ => ⟨S2x8x8192x64, .f32⟩
  | .hbm, ⟨69, _⟩ => ⟨S2x8192x8x64, .f32⟩
  | .hbm, ⟨70, _⟩ => ⟨S2x8192x512, .f32⟩
  | .hbm, ⟨71, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v17 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v18 : Ref sig .tc := ⟨.hbm, 56, rfl⟩
abbrev main_call3_cst : Ref sig .tc := ⟨.hbm, 57, rfl⟩
abbrev main_call3_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x256 : Shape := ⟨3, ![2, 8192, 256]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S256x1024 : Shape := ⟨2, ![256, 1024]⟩
abbrev S1024x1024 : Shape := ⟨2, ![1024, 1024]⟩
abbrev S1x5632 : Shape := ⟨2, ![1, 5632]⟩
abbrev S1x1024 : Shape := ⟨2, ![1, 1024]⟩
abbrev S1x512x1024 : Shape := ⟨3, ![1, 512, 1024]⟩
abbrev S1x16x1024 : Shape := ⟨3, ![1, 16, 1024]⟩
abbrev S1x512x256 : Shape := ⟨3, ![1, 512, 256]⟩
abbrev S2x528x256 : Shape := ⟨3, ![2, 528, 256]⟩
abbrev S512x2816 : Shape := ⟨2, ![512, 2816]⟩
abbrev S16x1024 : Shape := ⟨2, ![16, 1024]⟩
abbrev S512x1024 : Shape := ⟨2, ![512, 1024]⟩
abbrev S528x1024 : Shape := ⟨2, ![528, 1024]⟩
abbrev S1024x256 : Shape := ⟨2, ![1024, 256]⟩
abbrev S528x256 : Shape := ⟨2, ![528, 256]⟩
abbrev S1x528x256 : Shape := ⟨3, ![1, 528, 256]⟩
abbrev S1x256 : Shape := ⟨2, ![1, 256]⟩
abbrev S512x256 : Shape := ⟨2, ![512, 256]⟩
abbrev S512x1536 : Shape := ⟨2, ![512, 1536]⟩
abbrev S1536x1024 : Shape := ⟨2, ![1536, 1024]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S256x1024, .f32⟩
  | .hbm, ⟨9, _⟩ => ⟨S1024x1024, .f32⟩
  | .hbm, ⟨10, _⟩ => ⟨S2x8192x1024, .bf16⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S1024x1024, .bf16⟩
  | .hbm, ⟨16, _⟩ => ⟨S256x1024, .bf16⟩
  | .hbm, ⟨17, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x256, .f32⟩
  | .local _ .vmem, ⟨7, _⟩ => ⟨S1x512x256, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S1x512x1024, .f32⟩
  | .local _ .vmem, ⟨16, _⟩ => ⟨S1x512x1024, .f32⟩
  | .local _ .vmem, ⟨17, _⟩ => ⟨S2x528x256, .f32⟩
  | .local _ .vmem, ⟨18, _⟩ => ⟨S2x528x256, .f32⟩
  | .local _ .vmem, ⟨19, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x8192x1024 : Shape := ⟨3, ![2, 8192, 1024]⟩
abbrev S2x8192x256 : Shape := ⟨3, ![2, 8192, 256]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S256x1024 : Shape := ⟨2, ![256, 1024]⟩
abbrev S1024x1024 : Shape := ⟨2, ![1024, 1024]⟩
abbrev S1024x2816 : Shape := ⟨2, ![1024, 2816]⟩
abbrev S2x8192x2816 : Shape := ⟨3, ![2, 8192, 2816]⟩
abbrev S3x2816 : Shape := ⟨2, ![3, 2816]⟩
abbrev S2816 : Shape := ⟨1, ![2816]⟩
abbrev S_ : Shape := ⟨0, ![]⟩
abbrev S2x8194x2816 : Shape := ⟨3, ![2, 8194, 2816]⟩
abbrev S1x2816 : Shape := ⟨2, ![1, 2816]⟩
abbrev S1x1x2816 : Shape := ⟨3, ![1, 1, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S256x1024, .f32⟩
  | .hbm, ⟨9, _⟩ => ⟨S1024x1024, .f32⟩
  | .hbm, ⟨10, _⟩ => ⟨S1024x2816, .f32⟩
  | .hbm, ⟨11, _⟩ => ⟨S2x8192x2816, .f32⟩
  | .hbm, ⟨12, _⟩ => ⟨S3x2816, .f32⟩
  | .hbm, ⟨13, _⟩ => ⟨S2816, .f32⟩
  | .hbm, ⟨14, _⟩ => ⟨S_, .i32⟩
  | .hbm, ⟨15, _⟩ => ⟨S_, .f32⟩
  | .hbm, ⟨16, _⟩ => ⟨S2x8194x2816, .f32⟩
  | .hbm, ⟨17, _⟩ => ⟨S2x8192x2816, .f32⟩
  | .hbm, ⟨18, _⟩ => ⟨S1x2816, .f32⟩
  | .hbm, ⟨19, _⟩ => ⟨S2816, .f32⟩
  | .hbm, ⟨20, _⟩ => ⟨S1x1x2816, .f32⟩
  | .hbm, ⟨21, _⟩ => ⟨S2x8192x2816, .f32⟩
  | .hbm, ⟨22, _⟩ => ⟨S2x8192x2816, .f32⟩
  | .hbm, ⟨23, _⟩ => ⟨S_, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S1x1x2816, .f32⟩
  | .hbm, ⟨41, _⟩ => ⟨S2x8192x2816, .f32⟩
  | .hbm, ⟨42, _⟩ => ⟨S2x8192x2816, .f32⟩
  | .hbm, ⟨43, _⟩ => ⟨S1024x2816, .f32⟩
  | .hbm, ⟨44, _⟩ => ⟨S2x8192x2816, .f32⟩
  | .hbm, ⟨45, _⟩ => ⟨S3x2816, .f32⟩
  | .hbm, ⟨46, _⟩ => ⟨S2816, .f32⟩
  | .hbm, ⟨47, _⟩ => ⟨S_, .i32⟩
  | .hbm, ⟨48, _⟩ => ⟨S_, .f32⟩
  | .hbm, ⟨49, _⟩ => ⟨S2x8194x2816, .f32⟩
  | .hbm, ⟨50, _⟩ => ⟨S2x8192x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S1x2816, .f32⟩
  | .hbm, ⟨61, _⟩ => ⟨S2816, .f32⟩
  | .hbm, ⟨62, _⟩ => ⟨S1x1x2816, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S1x2816, .f32⟩
  | .hbm, ⟨68, _⟩ => ⟨S2816, .f32⟩
  | .hbm, ⟨69, _⟩ => ⟨S1x1x2816, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S1x1x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S_, .f32⟩
  | .hbm, ⟨79, _⟩ => ⟨S2x8192x2816, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S_, .f32⟩
  | .hbm, ⟨87, _⟩ => ⟨S2x8192x2816, .f32⟩
  | .hbm, ⟨88, _⟩ => ⟨S2x8192x2816, .f32⟩
  | .hbm, ⟨89, _⟩ => ⟨S_, .f32⟩
  | .hbm, ⟨90, _⟩ => ⟨S2x8192x2816, .f32⟩
  | .hbm, ⟨91, _⟩ => ⟨S2x8192x2816, .f32⟩
  | .hbm, ⟨92, _⟩ => ⟨S2x8192x2816, .f32⟩
  | .hbm, ⟨93, _⟩ => ⟨S2x8192x2816, .f32⟩
  | .hbm, ⟨94, _⟩ => ⟨S2x8192x1024, .f32⟩
  | .hbm, ⟨95, _⟩ => ⟨S2x8192x1024, .f32⟩
  | .hbm, ⟨96, _⟩ => ⟨S_, .f32⟩
  | .hbm, ⟨97, _⟩ => ⟨S2x8192, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1, .f32⟩
  | .hbm, ⟨106, _⟩ => ⟨S2x8192x1024, .f32⟩
  | .hbm, ⟨107, _⟩ => ⟨S2x8192x1024, .f32⟩
  | .hbm, ⟨108, _⟩ => ⟨S1x1x1024, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S2x8192x1024, .f32⟩
  | .hbm, ⟨115, _⟩ => ⟨S_, .f32⟩
  | .hbm, ⟨116, _⟩ => ⟨S2x8192x1024, .f32⟩
  | .hbm, ⟨117, _⟩ => ⟨S2x8192x1024, .f32⟩
  | .hbm, ⟨118, _⟩ => ⟨S_, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | .hbm, ⟨122, _⟩ => ⟨S2x8192x1024, .f32⟩
  | .hbm, ⟨123, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_0 : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_2 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_6 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_cst_8 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_9 : Ref sig .tc := ⟨.hbm, 115, rfl⟩
abbrev main_v92 : Ref sig .tc := ⟨.hbm, 116, rfl⟩
abbrev main_v93 : Ref sig .tc := ⟨.hbm, 117, rfl⟩
abbrev main_cst_10 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 21
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x512, .bf16⟩
  | .hbm, ⟨11, _⟩ => ⟨S2x8192x512, .bf16⟩
  | .hbm, ⟨12, _⟩ => ⟨S2x8192x1024, .bf16⟩
  | .hbm, ⟨13, _⟩ => ⟨S2x8192x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S2x8192x1024, .f32⟩
  | .hbm, ⟨20, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x5128 : Shape := ⟨2, ![1024, 5128]⟩
abbrev S8 : Shape := ⟨1, ![8]⟩
abbrev S1024x3072 : Shape := ⟨2, ![1024, 3072]⟩
abbrev S1024x8 : Shape := ⟨2, ![1024, 8]⟩
abbrev S1x1024x1x8 : Shape := ⟨4, ![1, 1024, 1, 8]⟩
abbrev S1x1024x3x8 : Shape := ⟨4, ![1, 1024, 3, 8]⟩
abbrev S1024x24 : Shape := ⟨2, ![1024, 24]⟩
abbrev S_ : Shape := ⟨0, ![]⟩
abbrev S1024x128 : Shape := ⟨2, ![1024, 128]⟩
abbrev S1x8 : Shape := ⟨2, ![1, 8]⟩
abbrev S3x8 : Shape := ⟨2, ![3, 8]⟩
abbrev S24 : Shape := ⟨1, ![24]⟩
abbrev S128 : Shape := ⟨1, ![128]⟩
abbrev S1x128 : Shape := ⟨2, ![1, 128]⟩
abbrev S1024x2048 : Shape := ⟨2, ![1024, 2048]⟩
abbrev S128x512 : Shape := ⟨2, ![128, 512]⟩
abbrev S1x512 : Shape := ⟨2, ![1, 512]⟩
abbrev S1x1024 : Shape := ⟨2, ![1, 1024]⟩
abbrev S2x16x512x512 : Shape := ⟨4, ![2, 16, 512, 512]⟩
abbrev S2x8192x512 : Shape := ⟨3, ![2, 8192, 512]⟩
abbrev S2x32x512x256 : Shape := ⟨4, ![2, 32, 512, 256]⟩
abbrev S1x256x1024 : Shape := ⟨3, ![1, 256, 1024]⟩
abbrev S1x1x512x256 : Shape := ⟨4, ![1, 1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩
abbrev S512x256 : Shape := ⟨2, ![512, 256]⟩
abbrev S256x256 : Shape := ⟨2, ![256, 256]⟩
abbrev S1024x1024 : Shape := ⟨2, ![1024, 1024]⟩

abbrev nBuf : Space → Nat
  | .hbm => 110
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S1024x3072, .f32⟩
  | .hbm, ⟨5, _⟩ => ⟨S1024x3072, .bf16⟩
  | .hbm, ⟨6, _⟩ => ⟨S1024x8, .f32⟩
  | .hbm, ⟨7, _⟩ => ⟨S1x1024x1x8, .f32⟩
  | .hbm, ⟨8, _⟩ => ⟨S1x1024x3x8, .f32⟩
  | .hbm, ⟨9, _⟩ => ⟨S1024x24, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x8, .f32⟩
  | .hbm, ⟨15, _⟩ => ⟨S3x8, .f32⟩
  | .hbm, ⟨16, _⟩ => ⟨S24, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1024x2048, .f32⟩
  | .hbm, ⟨22, _⟩ => ⟨S1024x2048, .bf16⟩
  | .hbm, ⟨23, _⟩ => ⟨S128x512, .i32⟩
  | .hbm, ⟨24, _⟩ => ⟨S128x512, .i32⟩
  | .hbm, ⟨25, _⟩ => ⟨S_, .i32⟩
  | .hbm, ⟨26, _⟩ => ⟨S128x512, .i32⟩
  | .hbm, ⟨27, _⟩ => ⟨S128x512, .i32⟩
  | .hbm, ⟨28, _⟩ => ⟨S_, .i32⟩
  | .hbm, ⟨29, _⟩ => ⟨S128x512, .i32⟩
  | .hbm, ⟨30, _⟩ => ⟨S128x512, .i32⟩
  | .hbm, ⟨31, _⟩ => ⟨S_, .i32⟩
  | .hbm, ⟨32, _⟩ => ⟨S128x512, .i32⟩
  | .hbm, ⟨33, _⟩ => ⟨S128x512, .i32⟩
  | .hbm, ⟨34, _⟩ => ⟨S_, .i32⟩
  | .hbm, ⟨35, _⟩ => ⟨S128x512, .i32⟩
  | .hbm, ⟨36, _⟩ => ⟨S128x512, .i32⟩
  | .hbm, ⟨37, _⟩ => ⟨S128x512, .i32⟩
  | .hbm, ⟨38, _⟩ => ⟨S_, .i32⟩
  | .hbm, ⟨39, _⟩ => ⟨S128x512, .i32⟩
  | .hbm, ⟨40, _⟩ => ⟨S128x512, .i32⟩
  | .hbm, ⟨41, _⟩ => ⟨S_, .i32⟩
  | .hbm, ⟨42, _⟩ => ⟨S128x512, .i32⟩
  | .hbm, ⟨43, _⟩ => ⟨S128x512, .i32⟩
  | .hbm, ⟨44, _⟩ => ⟨S128x512, .i32⟩
  | .hbm, ⟨45, _⟩ => ⟨S_, .i32⟩
  | .hbm, ⟨46, _⟩ => ⟨S128x512, .i32⟩
  | .hbm, ⟨47, _⟩ => ⟨S128x512, .i1⟩
  | .hbm, ⟨48, _⟩ => ⟨S128x512, .i1⟩
  | .hbm, ⟨49, _⟩ => ⟨S128x512, .i1⟩
  | .hbm, ⟨50, _⟩ => ⟨S_, .f32⟩
  | .hbm, ⟨51, _⟩ => ⟨S_, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S128x512, .bf16⟩
  | .hbm, ⟨56, _⟩ => ⟨S_, .i32⟩
  | .hbm, ⟨57, _⟩ => ⟨S128x512, .i32⟩
  | .hbm, ⟨58, _⟩ => ⟨S128x512, .i32⟩
  | .hbm, ⟨59, _⟩ => ⟨S128x512, .i1⟩
  | .hbm, ⟨60, _⟩ => ⟨S128x512, .i1⟩
  | .hbm, ⟨61, _⟩ => ⟨S_, .f32⟩
  | .hbm, ⟨62, _⟩ => ⟨S_, .f32⟩
  | .hbm, ⟨63, _⟩ => ⟨S128x512, .f32⟩
  | .hbm, ⟨64, _⟩ => ⟨S128x512, .f32⟩
  | .hbm, ⟨65, _⟩ => ⟨S128x512, .f32⟩
  | .hbm, ⟨66, _⟩ => ⟨S128x512, .bf16⟩
  | .hbm, ⟨67, _⟩ => ⟨S1x512, .i32⟩
  | .hbm, ⟨68, _⟩ => ⟨S_, .i32⟩
  | .hbm, ⟨69, _⟩ => ⟨S1x512, .i32⟩
  | .hbm, ⟨70, _⟩ => ⟨S1x512, .i32⟩
  | .hbm, ⟨71, _⟩ => ⟨S_, .i32⟩
  | .hbm, ⟨72, _⟩ => ⟨S1x512, .i32⟩
  | .hbm, ⟨73, _⟩ => ⟨S1x512, .i32⟩
  | .hbm, ⟨74, _⟩ => ⟨S_, .i32⟩
  | .hbm, ⟨75, _⟩ => ⟨S1x512, .i32⟩
  | .hbm, ⟨76, _⟩ => ⟨S1x512, .i1⟩
  | .hbm, ⟨77, _⟩ => ⟨S_, .i32⟩
  | .hbm, ⟨78, _⟩ => ⟨S1x512, .i32⟩
  | .hbm, ⟨79, _⟩ => ⟨S1x512, .i1⟩
  | .hbm, ⟨80, _⟩ => ⟨S1x512, .i1⟩
  | .hbm, ⟨81, _⟩ => ⟨S_, .f32⟩
  | .hbm, ⟨82, _⟩ => ⟨S_, .f32⟩
  | .hbm, ⟨83, _⟩ => ⟨S1x512, .f32⟩
  | .hbm, ⟨84, _⟩ => ⟨S1x512, .f32⟩
  | .hbm, ⟨85, _⟩ => ⟨S1x512, .f32⟩
  | .hbm, ⟨86, _⟩ => ⟨S_, .i32⟩
  | .hbm, ⟨87, _⟩ => ⟨S1x512, .i32⟩
  | .hbm, ⟨88, _⟩ => ⟨S1x512, .i1⟩
  | .hbm, ⟨89, _⟩ => ⟨S1x512, .i1⟩
  | .hbm, ⟨90, _⟩ => ⟨S_, .i32⟩
  | .hbm, ⟨91, _⟩ => ⟨S1x512, .i32⟩
  | .hbm, ⟨92, _⟩ => ⟨S1x512, .i1⟩
  | .hbm, ⟨93, _⟩ => ⟨S1x512, .i1⟩
  | .hbm, ⟨94, _⟩ => ⟨S_, .f32⟩
  | .hbm, ⟨95, _⟩ => ⟨S_, .f32⟩
  | .hbm, ⟨96, _⟩ => ⟨S1x512, .f32⟩
  | .hbm, ⟨97, _⟩ => ⟨S1x512, .f32⟩
  | .hbm, ⟨98, _⟩ => ⟨S1x512, .f32⟩
  | .hbm, ⟨99, _⟩ => ⟨S1x1024, .f32⟩
  | .hbm, ⟨100, _⟩ => ⟨S2x16x512x512, .bf16⟩
  | .hbm, ⟨101, _⟩ => ⟨S2x8192x512, .bf16⟩
  | .hbm, ⟨102, _⟩ => ⟨S2x32x512x256, .bf16⟩
  | .hbm, ⟨103, _⟩ => ⟨S2x16x512x512, .bf16⟩
  | .hbm, ⟨104, _⟩ => ⟨S2x16x512x512, .bf16⟩
  | .hbm, ⟨105, _⟩ => ⟨S2x8192x512, .bf16⟩
  | .hbm, ⟨106, _⟩ => ⟨S2x8192x512, .bf16⟩
  | .hbm, ⟨107, _⟩ => ⟨S2x32x512x256, .bf16⟩
  | .hbm, ⟨108, _⟩ => ⟨S2x8192x1024, .bf16⟩
  | .hbm, ⟨109, _⟩ => ⟨S2x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1024x2048, .bf16⟩
  | .local _ .vmem, ⟨7, _⟩ => ⟨S128x512, .bf16⟩
  | .local _ .vmem, ⟨8, _⟩ => ⟨S128x512, .bf16⟩
  | .local _ .vmem, ⟨9, _⟩ => ⟨S1x512, .f32⟩
  | .local _ .vmem, ⟨10, _⟩ => ⟨S1x512, .f32⟩
  | .local _ .vmem, ⟨11, _⟩ => ⟨S1x1x512x256, .bf16⟩
  | .local _ .vmem, ⟨12, _⟩ => ⟨S1x1x512x256, .bf16⟩
  | .local _ .vmem, ⟨13, _⟩ => ⟨S1x256x512, .bf16⟩
  | .local _ .vmem, ⟨14, _⟩ => ⟨S1x256x512, .bf16⟩
  | .local _ .vmem, ⟨15, _⟩ => ⟨S1x1x512x256, .bf16⟩
  | .local _ .vmem, ⟨16, _⟩ => ⟨S1x1x512x256, .bf16⟩
  | .local _ .vmem, ⟨17, _⟩ => ⟨S1x1x512x256, .bf16⟩
  | .local _ .vmem, ⟨18, _⟩ => ⟨S1x1x512x256, .bf16⟩
  | .local _ .vmem, ⟨19, _⟩ => ⟨S1x1x512x256, .bf16⟩
  | .local _ .vmem, ⟨20, _⟩ => ⟨S1x1x512x256, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x1x512x256, .bf16⟩
  | .local _ .vmem, ⟨26, _⟩ => ⟨S1x1x512x256, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_cst_11 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_v47 : Ref sig .tc := ⟨.hbm, 73, rfl⟩
abbrev main_c_14 : Ref sig .tc := ⟨.hbm, 74, rfl⟩
abbrev main_v48 : Ref sig .tc := ⟨.hbm, 75, rfl⟩
abbrev main_v49 : Ref sig .tc := ⟨.hbm, 76, rfl⟩
abbrev main_c_15 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_16 : Ref sig .tc := ⟨.hbm, 81, rfl⟩
abbrev main_cst_17 : Ref sig .tc := ⟨.hbm, 82, rfl⟩
abbrev main_call4_v0 : Ref sig .tc := ⟨.hbm, 83, rfl⟩
abbrev main_call4_v1 : Ref sig .tc := ⟨.hbm, 84, rfl⟩
abbrev main_v53 : Ref sig .tc := ⟨.hbm, 85, rfl⟩
abbrev main_c_18 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_20 : Ref sig .tc := ⟨.hbm, 94, rfl⟩
abbrev main_cst_21 : Ref sig .tc := ⟨.hbm, 95, rfl⟩
abbrev main_call5_v0 : Ref sig .tc := ⟨.hbm, 96, rfl⟩
abbrev main_call5_v1 : Ref sig .tc := ⟨.hbm, 97, rfl⟩
abbrev main_v60 : Ref sig .tc := ⟨.hbm, 98, rfl⟩
abbrev main_v61 : Ref sig .tc := ⟨.hbm, 99, rfl⟩
abbrev main_v62_0 : Ref sig .tc := ⟨.hbm, 100, rfl⟩
abbrev main_v62_1 : Ref sig .tc := ⟨.hbm, 101, rfl⟩
abbrev main_v62_2 : Ref sig .tc := ⟨.hbm, 102, rfl⟩
abbrev main_v62_3 : Ref sig .tc := ⟨.hbm, 103, rfl⟩
abbrev main_v62_4 : Ref sig .tc := ⟨.hbm, 104, rfl⟩
abbrev main_v62_5 : Ref sig .tc := ⟨.hbm, 105, rfl⟩
abbrev main_v62_6 : Ref sig .tc := ⟨.hbm, 106, rfl⟩
abbrev main_v62_7 : Ref sig .tc := ⟨.hbm, 107, rfl⟩
abbrev main_v62_8 : Ref sig .tc := ⟨.hbm, 108, rfl⟩
abbrev main_v62_9 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

def cc0_transform_14 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S2x8192x1024 : Shape := ⟨3, ![2, 8192, 1024]⟩
abbrev S1024 : Shape := ⟨1, ![1024]⟩
abbrev S1024x5128 : Shape := ⟨2, ![1024, 5128]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5128 : Shape := ⟨3, ![2, 8192, 5128]⟩
abbrev S2x8192x512 : Shape := ⟨3, ![2, 8192, 512]⟩
abbrev S2x8192x8 : Shape := ⟨3, ![2, 8192, 8]⟩
abbrev S2x16x512x512 : Shape := ⟨4, ![2, 16, 512, 512]⟩
abbrev S2x32x256x512 : Shape := ⟨4, ![2, 32, 256, 512]⟩
abbrev S2x32x512x256 : Shape := ⟨4, ![2, 32, 512, 256]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x5128, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x8, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x8192x512, .f32⟩
  | .hbm, ⟨32, _⟩ => ⟨S2x8192x512, .f32⟩
  | .hbm, ⟨33, _⟩ => ⟨S2x16x512x512, .f32⟩
  | .hbm, ⟨34, _⟩ => ⟨S2x16x512x512, .f32⟩
  | .hbm, ⟨35, _⟩ => ⟨S2x32x256x512, .f32⟩
  | .hbm, ⟨36, _⟩ => ⟨S2x32x512x256, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S2x16x512x512, .f32⟩
  | .hbm, ⟨41, _⟩ => ⟨S2x16x512x512, .f32⟩
  | .hbm, ⟨42, _⟩ => ⟨S2x32x256x512, .f32⟩
  | .hbm, ⟨43, _⟩ => ⟨S2x32x512x256, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192x1024, .f32⟩
  | .hbm, ⟨59, _⟩ => ⟨S2x8192x1024, .f32⟩
  | .hbm, ⟨60, _⟩ => ⟨S2x16x512x512, .bf16⟩
  | .hbm, ⟨61, _⟩ => ⟨S2x8192x512, .bf16⟩
  | .hbm, ⟨62, _⟩ => ⟨S2x32x512x256, .bf16⟩
  | .hbm, ⟨63, _⟩ => ⟨S2x16x512x512, .bf16⟩
  | .hbm, ⟨64, _⟩ => ⟨S2x8192x512, .bf16⟩
  | .hbm, ⟨65, _⟩ => ⟨S2x32x512x256, .bf16⟩
  | .hbm, ⟨66, _⟩ => ⟨S2x8192x1024, .bf16⟩
  | .hbm, ⟨67, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.Stages.lean ====
/-
  The stick-breaking attention kernel's stages as programs of their own: what the printed body does between two of its loop
  headers is a sequence of three stages (a key block's log weights; their suffix sums; the weighted values), each over two
  heads. They are stated for any program's signature and any value instance, so that the printed kernel and its ideal form
  are both sequences of them.
-/
module

public import proofs.«01_k».proof.Proof.Gen.KernelIdeal
public import Idealize.ShloMosaic.Lib.Exec
public import Idealize.ShloMosaic.Lib.Tactic

@[expose] public section

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512 dot_S256x128_S128x512_S256x512_1_0_0_1_n_n
  dot_S256x256_S256x512_S256x512_1_0_0_1_n_n dot_S64x256_S256x512_S64x512_1_0_0_1_n_n)
open Cert.KernelIdeal.Gen
open Idealize.ShloMosaic Idealize.SL.Sem

variable {F : FTy → Type} [FloatOps F]

/-! ## The pure steps -/

/-- A key block read as a matrix. -/
def kMat (kb : Vec F S1x256x128 .bf16) : FVec F S256x128 .bf16 := shapeCast S256x128 kb shapeCasts_S1x256x128_S256x128

/-- The scores of a key block against a query tile. -/
def zOf (kb : Vec F S1x256x128 .bf16) (q : FVec F S128x512 .bf16) : FVec F S256x512 .f32 :=
  matmul dot_S256x128_S128x512_S256x512_1_0_0_1_n_n none (kMat kb) q (constant S256x512 .f32 0x00000000#32)

/-- The base-two log of a score's sigmoid; `il` is the constant `1 / log 2`. -/
def lbOf (il : F .f32) (z : FVec F S256x512 .f32) : FVec F S256x512 .f32 :=
  subf (minimumf z (broadcast S256x512 (Scalar.ofBits .f32 0x00000000#32)))
    (mulf (log (addf (broadcast S256x512 (Scalar.ofBits .f32 0x3F800000#32))
      (exp2 (subf (broadcast S256x512 (Scalar.ofBits .f32 0x00000000#32)) (absf z))))) (broadcast S256x512 il))

/-- The base-two log of a score's complementary sigmoid. -/
def lrOf (il : F .f32) (z : FVec F S256x512 .f32) : FVec F S256x512 .f32 := subf (lbOf il z) z

/-- The log sigmoid under the causal mask, where there is one: the constant `mk` off it. -/
def mlb (mk : F .f32) (c : Option (IVec S256x512 1)) (x : FVec F S256x512 .f32) : FVec F S256x512 .f32 :=
  match c with
  | none => x
  | some c => select c x (broadcast S256x512 mk)

/-- The complementary log under the causal mask, where there is one: zero off it. -/
def mlr (c : Option (IVec S256x512 1)) (x : FVec F S256x512 .f32) : FVec F S256x512 .f32 :=
  match c with
  | none => x
  | some c => select c x (broadcast S256x512 (Scalar.ofBits .f32 0x00000000#32))

def pack (x : FVec F S256x512 .f32) : FVec F S1x1x256x512 .f32 := shapeCast S1x1x256x512 x shapeCasts_S256x512_S1x1x256x512
def pack16 (x : FVec F S256x512 .f32) : FVec F S1x1x256x512 .bf16 :=
  shapeCast S1x1x256x512 (truncf .bf16 x bitsLt_bf16_f32) shapeCasts_S256x512_S1x1x256x512
def unpack (x : Vec F S1x1x256x512 .f32) : FVec F S256x512 .f32 := shapeCast S256x512 x shapeCasts_S1x1x256x512_S256x512
def row0 (x : FVec F S256x512 .f32) : FVec F S1x512 .f32 := extractStridedSlice S1x512 ![0, 0] x slices_S256x512_o0_0_S1x512

/-- The sums over the later rows of a block of complementary logs: `su` is the strictly upper matrix of ones. -/
def within (su : FVec F S256x256 .bf16) (x : Vec F S1x1x256x512 .bf16) : FVec F S256x512 .f32 :=
  matmul dot_S256x256_S256x512_S256x512_1_0_0_1_n_n none su (shapeCast S256x512 x shapeCasts_S1x1x256x512_S256x512)
    (constant S256x512 .f32 0x00000000#32)

/-- The weights of a block from its logs and what the later blocks summed to. -/
def wOf (t : Vec F S1x1x256x512 .f32) (carry : FVec F S1x512 .f32) : FVec F S256x512 .bf16 :=
  truncf .bf16 (exp2 (addf (unpack t) (broadcastTo S256x512 carry broadcasts_S1x512_S256x512))) bitsLt_bf16_f32

/-- The accumulator with a block's weighted values added. -/
def accOf (acc : FVec F S64x512 .f32) (vt : Vec F S1x1x64x256 .bf16) (w : FVec F S256x512 .bf16) : FVec F S64x512 .f32 :=
  addf acc (matmul dot_S64x256_S256x512_S64x512_1_0_0_1_n_n none (shapeCast S64x256 vt shapeCasts_S1x1x64x256_S64x256) w
    (constant S64x512 .f32 0x00000000#32))

/-- The two heads' accumulators side by side, queries as rows. -/
def rowsOf (a0 a1 : FVec F S64x512 .f32) : FVec F S512x128 .bf16 :=
  truncf .bf16 (transpose S512x128 [1, 0]
    (concatenate S128x512 0 [⟨S64x512, a0⟩, ⟨S64x512, a1⟩] concatenates_S64x512_S64x512_S128x512_d0) transposes_S128x512_p1_0_S512x128)
    bitsLt_bf16_f32

/-- The two heads' accumulators as the rows of an output block. -/
def yOf (a0 a1 : FVec F S64x512 .f32) : FVec F S1x512x128 .bf16 :=
  shapeCast S1x512x128 (rowsOf a0 a1) shapeCasts_S512x128_S1x512x128

/-- Head 0's query tile: head 1's rows zero. -/
def tile0 (q : Vec F S1x1x128x512 .bf16) : FVec F S128x512 .bf16 :=
  select (cmpi .slt (iota .tc S128x512 32 [0] iota_S128x512_d0_w32) (broadcast S128x512 64#32))
    (shapeCast S128x512 q shapeCasts_S1x1x128x512_S128x512) (broadcast S128x512 (Scalar.ofBits (F := F) .bf16 0x0000#16))

/-- Head 1's query tile: head 0's rows zero. -/
def tile1 (q : Vec F S1x1x128x512 .bf16) : FVec F S128x512 .bf16 :=
  select (cmpi .sge (iota .tc S128x512 32 [0] iota_S128x512_d0_w32) (broadcast S128x512 64#32))
    (shapeCast S128x512 q shapeCasts_S1x1x128x512_S128x512) (broadcast S128x512 (Scalar.ofBits (F := F) .bf16 0x0000#16))

/-- The row number less the column number. -/
def offsets : IVec S256x512 32 := subi (iota .tc S256x512 32 [0] iota_S256x512_d0_w32) (iota .tc S256x512 32 [1] iota_S256x512_d1_w32)

/-- The causal mask of the block whose first row is `-b` past the tile's first column. -/
def causal (b : BitVec 32) : IVec S256x512 1 := cmpi .slt offsets (broadcast S256x512 b)

/-- The strictly upper matrix of ones. -/
def suffix : FVec F S256x256 .bf16 :=
  truncf .bf16 (sitofp .f32 (extui 32 (cmpi .sgt (iota .tc S256x256 32 [1] iota_S256x256_d1_w32)
    (iota .tc S256x256 32 [0] iota_S256x256_d0_w32)) natLt_1_32)) bitsLt_bf16_f32

def zero1 : FVec F S1x512 .f32 := broadcast S1x512 (Scalar.ofBits .f32 0x00000000#32)
def zero64 : FVec F S64x512 .f32 := broadcast S64x512 (Scalar.ofBits .f32 0x00000000#32)

/-! ## The stages -/

/-- Where head `h` of slot `s` starts. -/
abbrev slot (s h : Fin 2) : Fin 4 → Nat := ![s.val, h.val, 0, 0]

theorem slot_inb (s h : Fin 2) : ∀ a, slot s h a + S1x1x256x512.size a ≤ S2x2x256x512.size a := by revert s h; decide

abbrev slotR (s h : Fin 2) : Rect S2x2x256x512 := Rect.unit (s := S2x2x256x512) (slot s h) S1x1x256x512.size (slot_inb s h)

theorem slot_packed (s h : Fin 2) : (slotR s h).PackedRows (EltTy.packing .bf16) := by
  fin_cases s <;> fin_cases h
  · exact packedbf16_S2x2x256x512_S1x1x256x512_0_0_0_0
  · exact packedbf16_S2x2x256x512_S1x1x256x512_0_1_0_0
  · exact packedbf16_S2x2x256x512_S1x1x256x512_1_0_0_0
  · exact packedbf16_S2x2x256x512_S1x1x256x512_1_1_0_0

variable {nD : Nat} {τ : Topo} {sig : RefSig} {Λ : Labels}

/-- A slot's head read. -/
abbrev ldSlot {e : EltTy} (arg : Memref sig .tc .vmem S2x2x256x512 e) (s h : Fin 2) :
    Prog (TpuEff nD τ sig (Elt F) Λ .tc) (Vec F S1x1x256x512 e) :=
  Prog.lift (.load arg (slotR s h).toLoadRect (View.loadsAt_vmem h_S1x1x256x512))

/-- A slot's head written, of single precision. -/
abbrev stSlot (arg : Memref sig .tc .vmem S2x2x256x512 .f32) (s h : Fin 2) (x : FVec F S1x1x256x512 .f32) :
    Prog (TpuEff nD τ sig (Elt F) Λ .tc) PUnit :=
  Prog.lift (.store arg (slotR s h) x Finset.univ (View.stores_vmem_bits_univ h_S1x1x256x512 rfl) (.inl rfl))

/-- A slot's head written, of half precision. -/
abbrev stSlot16 (arg : Memref sig .tc .vmem S2x2x256x512 .bf16) (harg : arg.IsWhole) (s h : Fin 2) (x : FVec F S1x1x256x512 .bf16) :
    Prog (TpuEff nD τ sig (Elt F) Λ .tc) PUnit :=
  Prog.lift (.store arg (slotR s h) x Finset.univ
    (View.stores_vmem h_S1x1x256x512 (harg.storeExact_slice rfl _ (slot_packed s h)) (fun _ => rfl)) (.inl rfl))

/-- A key block read. -/
abbrev ldK (arg : Memref sig .tc .vmem S1x8192x128 .bf16) (o : Fin 3 → Nat) (ho : ∀ a, o a + S1x256x128.size a ≤ S1x8192x128.size a) :
    Prog (TpuEff nD τ sig (Elt F) Λ .tc) (Vec F S1x256x128 .bf16) :=
  Prog.lift (.load arg (Rect.unit (s := S1x8192x128) o S1x256x128.size ho).toLoadRect (View.loadsAt_vmem h_S1x256x128))

/-- A head's block of values read. -/
abbrev ldV (arg : Memref sig .tc .vmem S1x32x128x256 .bf16) (o : Fin 4 → Nat) (ho : ∀ a, o a + S1x1x64x256.size a ≤ S1x32x128x256.size a) :
    Prog (TpuEff nD τ sig (Elt F) Λ .tc) (Vec F S1x1x64x256 .bf16) :=
  Prog.lift (.load arg (Rect.unit (s := S1x32x128x256) o S1x1x64x256.size ho).toLoadRect (View.loadsAt_vmem h_S1x1x64x256))

/-- A block of queries read. -/
abbrev ldQ (arg : Memref sig .tc .vmem S1x16x128x512 .bf16) (o : Fin 4 → Nat) (ho : ∀ a, o a + S1x1x128x512.size a ≤ S1x16x128x512.size a) :
    Prog (TpuEff nD τ sig (Elt F) Λ .tc) (Vec F S1x1x128x512 .bf16) :=
  Prog.lift (.load arg (Rect.unit (s := S1x16x128x512) o S1x1x128x512.size ho).toLoadRect (View.loadsAt_vmem h_S1x1x128x512))

/-- The first stage: a key block's two log weights of each head into a slot; the complementary ones' first rows out. -/
def stageA (il mk : F .f32) (arg3 : Memref sig .tc .vmem S1x8192x128 .bf16) (arg6 : Memref sig .tc .vmem S2x2x256x512 .bf16) (harg6 : arg6.IsWhole)
    (arg7 : Memref sig .tc .vmem S2x2x256x512 .f32) (o : Fin 3 → Nat) (ho : ∀ a, o a + S1x256x128.size a ≤ S1x8192x128.size a)
    (c : Option (IVec S256x512 1)) (q0 q1 : FVec F S128x512 .bf16) (s : Fin 2) :
    Prog (TpuEff nD τ sig (Elt F) Λ .tc) (FVec F S1x512 .f32 × FVec F S1x512 .f32) := do
  let kb ← ldK arg3 o ho
  let _ ← ldSlot (F := F) arg6 s 0
  stSlot16 arg6 harg6 s 0 (pack16 (mlr c (lrOf il (zOf kb q0))))
  let _ ← ldSlot (F := F) arg7 s 0
  stSlot arg7 s 0 (pack (mlb mk c (lbOf il (zOf kb q0))))
  let _ ← ldSlot (F := F) arg6 s 1
  stSlot16 arg6 harg6 s 1 (pack16 (mlr c (lrOf il (zOf kb q1))))
  let _ ← ldSlot (F := F) arg7 s 1
  stSlot arg7 s 1 (pack (mlb mk c (lbOf il (zOf kb q1))))
  pure (row0 (mlr c (lrOf il (zOf kb q0))), row0 (mlr c (lrOf il (zOf kb q1))))

/-- The second stage: the later rows' sums added to a slot's logs; the whole columns' sums out. -/
def stageB (su : FVec F S256x256 .bf16) (arg6 : Memref sig .tc .vmem S2x2x256x512 .bf16)
    (arg7 arg8 : Memref sig .tc .vmem S2x2x256x512 .f32) (s : Fin 2) (r0 r1 : FVec F S1x512 .f32) :
    Prog (TpuEff nD τ sig (Elt F) Λ .tc) (FVec F S1x512 .f32 × FVec F S1x512 .f32) := do
  let x0 ← ldSlot arg6 s 0
  let y0 ← ldSlot arg7 s 0
  let _ ← ldSlot (F := F) arg8 s 0
  stSlot arg8 s 0 (pack (addf (unpack y0) (within su x0)))
  let x1 ← ldSlot arg6 s 1
  let y1 ← ldSlot arg7 s 1
  let _ ← ldSlot (F := F) arg8 s 1
  stSlot arg8 s 1 (pack (addf (unpack y1) (within su x1)))
  pure (addf (row0 (within su x0)) r0, addf (row0 (within su x1)) r1)

/-- The two heads' running sums and accumulators. -/
abbrev St (F : FTy → Type) : Type := FVec F S1x512 .f32 × FVec F S64x512 .f32 × FVec F S1x512 .f32 × FVec F S64x512 .f32

/-- The third stage: a block's weights from its slot, its weighted values accumulated, its sums carried. -/
def stageC (arg4 : Memref sig .tc .vmem S1x32x128x256 .bf16) (arg8 : Memref sig .tc .vmem S2x2x256x512 .f32)
    (o0 : Fin 4 → Nat) (ho0 : ∀ a, o0 a + S1x1x64x256.size a ≤ S1x32x128x256.size a)
    (o1 : Fin 4 → Nat) (ho1 : ∀ a, o1 a + S1x1x64x256.size a ≤ S1x32x128x256.size a)
    (s : Fin 2) (u0 u1 : FVec F S1x512 .f32) (st : St F) :
    Prog (TpuEff nD τ sig (Elt F) Λ .tc) (St F) := do
  let t0 ← ldSlot arg8 s 0
  let t1 ← ldSlot arg8 s 1
  let v0 ← ldV arg4 o0 ho0
  let v1 ← ldV arg4 o1 ho1
  pure (addf st.1 u0, accOf st.2.1 v0 (wOf t0 st.1), addf st.2.2.1 u1, accOf st.2.2.2 v1 (wOf t1 st.2.2.1))

/-- What the inner loops carry: the last block's first rows, the block before's sums, the running sums and accumulators. -/
abbrev Carry (F : FTy → Type) : Type :=
  FVec F S1x512 .f32 × FVec F S1x512 .f32 × FVec F S1x512 .f32 × FVec F S1x512 .f32 × FVec F S1x512 .f32 × FVec F S64x512 .f32
    × FVec F S1x512 .f32 × FVec F S64x512 .f32

/-- One trip of the inner loops: the stages of two key blocks, one block late for each stage. -/
def trip (il mk : F .f32) (su : FVec F S256x256 .bf16) (arg3 : Memref sig .tc .vmem S1x8192x128 .bf16) (arg4 : Memref sig .tc .vmem S1x32x128x256 .bf16)
    (arg6 : Memref sig .tc .vmem S2x2x256x512 .bf16) (harg6 : arg6.IsWhole) (arg7 arg8 : Memref sig .tc .vmem S2x2x256x512 .f32)
    (oa : Fin 3 → Nat) (hoa : ∀ a, oa a + S1x256x128.size a ≤ S1x8192x128.size a)
    (ob : Fin 3 → Nat) (hob : ∀ a, ob a + S1x256x128.size a ≤ S1x8192x128.size a)
    (va0 : Fin 4 → Nat) (hva0 : ∀ a, va0 a + S1x1x64x256.size a ≤ S1x32x128x256.size a)
    (va1 : Fin 4 → Nat) (hva1 : ∀ a, va1 a + S1x1x64x256.size a ≤ S1x32x128x256.size a)
    (vb0 : Fin 4 → Nat) (hvb0 : ∀ a, vb0 a + S1x1x64x256.size a ≤ S1x32x128x256.size a)
    (vb1 : Fin 4 → Nat) (hvb1 : ∀ a, vb1 a + S1x1x64x256.size a ≤ S1x32x128x256.size a)
    (q0 q1 : FVec F S128x512 .bf16) (x : Carry F) : Prog (TpuEff nD τ sig (Elt F) Λ .tc) (Carry F) := do
  let rA ← stageA il mk arg3 arg6 harg6 arg7 oa hoa none q0 q1 0
  let st ← stageC arg4 arg8 va0 hva0 va1 hva1 0 x.2.2.1 x.2.2.2.1 x.2.2.2.2
  let uB ← stageB su arg6 arg7 arg8 1 x.1 x.2.1
  let rB ← stageA il mk arg3 arg6 harg6 arg7 ob hob none q0 q1 1
  let st ← stageC arg4 arg8 vb0 hvb0 vb1 hvb1 1 uB.1 uB.2 st
  let uA ← stageB su arg6 arg7 arg8 0 rA.1 rA.2
  pure (rB.1, rB.2, uA.1, uA.2, st)

end Cert.Proof.Sb

end
-- ==== Proof.Body.lean ====
/-
  The whole attention kernel as the stages of its parts: the first query block's two causal key blocks, then per later
  query block the two causal key blocks beside the previous block's last two stages, its output, and its other key blocks
  two by two; the last block's last stages and output at the end.
-/
module

public import proofs.«01_k».proof.Proof.Stages

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512
  k0_t1_loop k0_t2_loop k0_t3_loop k0_t4_loop k0_t5_loop k0_t6_loop k0_t7_loop
  k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31)
open Cert.KernelIdeal.Gen
open Idealize.ShloMosaic Idealize.SL.Sem

variable {F : FTy → Type} [FloatOps F] {nD : Nat} {τ : Topo} {sig : RefSig} {Λ : Labels}

variable (il mk : F .f32) (arg2 : Memref sig .tc .vmem S1x16x128x512 .bf16) (arg3 : Memref sig .tc .vmem S1x8192x128 .bf16) (arg4 : Memref sig .tc .vmem S1x32x128x256 .bf16) (arg5 : Memref sig .tc .vmem S1x8192x128 .bf16) (arg6 : Memref sig .tc .vmem S2x2x256x512 .bf16) (harg6 : arg6.IsWhole) (arg7 : Memref sig .tc .vmem S2x2x256x512 .f32) (arg8 : Memref sig .tc .vmem S2x2x256x512 .f32)

/-- Two key blocks of the loop that takes 8 a trip. -/
def trip4 (t1 : Fin k0_t1_loop.trips) (t : Fin (k0_t2_loop t1).trips) (r : Fin 4) (q0 q1 : FVec F S128x512 .bf16) (x : Carry F) : Prog (TpuEff nD τ sig (Elt F) Λ .tc) (Carry F) :=
  trip il mk suffix arg3 arg4 arg6 harg6 arg7 arg8 (k0_off8 t1 t (BitVec.ofNat 32 r.val)) (k0_off8_inb t1 t r) (k0_off11 t1 t (BitVec.ofNat 32 r.val)) (k0_off11_inb t1 t r)
    (k0_off9 t1 t (BitVec.ofNat 32 r.val) (BitVec.ofNat 32 (1 + (Fin.val (1 : Fin 2))))) (k0_off9_inb t1 t r 1) (k0_off10 t1 t (BitVec.ofNat 32 r.val) (BitVec.ofNat 32 (1 + (Fin.val (1 : Fin 2))))) (k0_off10_inb t1 t r 1) (k0_off9 t1 t (BitVec.ofNat 32 r.val) (BitVec.ofNat 32 (1 + (Fin.val (0 : Fin 2))))) (k0_off9_inb t1 t r 0) (k0_off10 t1 t (BitVec.ofNat 32 r.val) (BitVec.ofNat 32 (1 + (Fin.val (0 : Fin 2))))) (k0_off10_inb t1 t r 0) q0 q1 x

/-- Two key blocks of the loop that takes 4 a trip. -/
def trip2 (t1 : Fin k0_t1_loop.trips) (t : Fin (k0_t4_loop t1).trips) (r : Fin 2) (q0 q1 : FVec F S128x512 .bf16) (x : Carry F) : Prog (TpuEff nD τ sig (Elt F) Λ .tc) (Carry F) :=
  trip il mk suffix arg3 arg4 arg6 harg6 arg7 arg8 (k0_off16 t1 t (BitVec.ofNat 32 r.val)) (k0_off16_inb t1 t r) (k0_off19 t1 t (BitVec.ofNat 32 r.val)) (k0_off19_inb t1 t r)
    (k0_off17 t1 t (BitVec.ofNat 32 r.val) (BitVec.ofNat 32 (1 + (Fin.val (1 : Fin 2))))) (k0_off17_inb t1 t r 1) (k0_off18 t1 t (BitVec.ofNat 32 r.val) (BitVec.ofNat 32 (1 + (Fin.val (1 : Fin 2))))) (k0_off18_inb t1 t r 1) (k0_off17 t1 t (BitVec.ofNat 32 r.val) (BitVec.ofNat 32 (1 + (Fin.val (0 : Fin 2))))) (k0_off17_inb t1 t r 0) (k0_off18 t1 t (BitVec.ofNat 32 r.val) (BitVec.ofNat 32 (1 + (Fin.val (0 : Fin 2))))) (k0_off18_inb t1 t r 0) q0 q1 x

/-- Two key blocks of the loop that takes 2 a trip. -/
def trip1 (t1 : Fin k0_t1_loop.trips) (t : Fin (k0_t6_loop t1).trips) (q0 q1 : FVec F S128x512 .bf16) (x : Carry F) : Prog (TpuEff nD τ sig (Elt F) Λ .tc) (Carry F) :=
  trip il mk suffix arg3 arg4 arg6 harg6 arg7 arg8 (k0_off24 t1 t ) (k0_off24_inb t1 t ) (k0_off27 t1 t ) (k0_off27_inb t1 t )
    (k0_off25 t1 t  (BitVec.ofNat 32 (1 + (Fin.val (1 : Fin 2))))) (k0_off25_inb t1 t  1) (k0_off26 t1 t  (BitVec.ofNat 32 (1 + (Fin.val (1 : Fin 2))))) (k0_off26_inb t1 t  1) (k0_off25 t1 t  (BitVec.ofNat 32 (1 + (Fin.val (0 : Fin 2))))) (k0_off25_inb t1 t  0) (k0_off26 t1 t  (BitVec.ofNat 32 (1 + (Fin.val (0 : Fin 2))))) (k0_off26_inb t1 t  0) q0 q1 x

/-- Two key blocks of the remainder loop that takes 8 a trip. -/
def trip4r (t1 : Fin k0_t1_loop.trips) (t : Fin (k0_t3_loop t1).trips) (r : Fin 4) (q0 q1 : FVec F S128x512 .bf16) (x : Carry F) : Prog (TpuEff nD τ sig (Elt F) Λ .tc) (Carry F) :=
  trip il mk suffix arg3 arg4 arg6 harg6 arg7 arg8 (k0_off12 t1 t (BitVec.ofNat 32 r.val)) (k0_off12_inb t1 t r) (k0_off15 t1 t (BitVec.ofNat 32 r.val)) (k0_off15_inb t1 t r)
    (k0_off13 t1 t (BitVec.ofNat 32 r.val) (BitVec.ofNat 32 (1 + (Fin.val (1 : Fin 2))))) (k0_off13_inb t1 t r 1) (k0_off14 t1 t (BitVec.ofNat 32 r.val) (BitVec.ofNat 32 (1 + (Fin.val (1 : Fin 2))))) (k0_off14_inb t1 t r 1) (k0_off13 t1 t (BitVec.ofNat 32 r.val) (BitVec.ofNat 32 (1 + (Fin.val (0 : Fin 2))))) (k0_off13_inb t1 t r 0) (k0_off14 t1 t (BitVec.ofNat 32 r.val) (BitVec.ofNat 32 (1 + (Fin.val (0 : Fin 2))))) (k0_off14_inb t1 t r 0) q0 q1 x

/-- Two key blocks of the remainder loop that takes 4 a trip. -/
def trip2r (t1 : Fin k0_t1_loop.trips) (t : Fin (k0_t5_loop t1).trips) (r : Fin 2) (q0 q1 : FVec F S128x512 .bf16) (x : Carry F) : Prog (TpuEff nD τ sig (Elt F) Λ .tc) (Carry F) :=
  trip il mk suffix arg3 arg4 arg6 harg6 arg7 arg8 (k0_off20 t1 t (BitVec.ofNat 32 r.val)) (k0_off20_inb t1 t r) (k0_off23 t1 t (BitVec.ofNat 32 r.val)) (k0_off23_inb t1 t r)
    (k0_off21 t1 t (BitVec.ofNat 32 r.val) (BitVec.ofNat 32 (1 + (Fin.val (1 : Fin 2))))) (k0_off21_inb t1 t r 1) (k0_off22 t1 t (BitVec.ofNat 32 r.val) (BitVec.ofNat 32 (1 + (Fin.val (1 : Fin 2))))) (k0_off22_inb t1 t r 1) (k0_off21 t1 t (BitVec.ofNat 32 r.val) (BitVec.ofNat 32 (1 + (Fin.val (0 : Fin 2))))) (k0_off21_inb t1 t r 0) (k0_off22 t1 t (BitVec.ofNat 32 r.val) (BitVec.ofNat 32 (1 + (Fin.val (0 : Fin 2))))) (k0_off22_inb t1 t r 0) q0 q1 x

/-- Two key blocks of the remainder loop that takes 2 a trip. -/
def trip1r (t1 : Fin k0_t1_loop.trips) (t : Fin (k0_t7_loop t1).trips) (q0 q1 : FVec F S128x512 .bf16) (x : Carry F) : Prog (TpuEff nD τ sig (Elt F) Λ .tc) (Carry F) :=
  trip il mk suffix arg3 arg4 arg6 harg6 arg7 arg8 (k0_off28 t1 t ) (k0_off28_inb t1 t ) (k0_off31 t1 t ) (k0_off31_inb t1 t )
    (k0_off29 t1 t  (BitVec.ofNat 32 (1 + (Fin.val (1 : Fin 2))))) (k0_off29_inb t1 t  1) (k0_off30 t1 t  (BitVec.ofNat 32 (1 + (Fin.val (1 : Fin 2))))) (k0_off30_inb t1 t  1) (k0_off29 t1 t  (BitVec.ofNat 32 (1 + (Fin.val (0 : Fin 2))))) (k0_off29_inb t1 t  0) (k0_off30 t1 t  (BitVec.ofNat 32 (1 + (Fin.val (0 : Fin 2))))) (k0_off30_inb t1 t  0) q0 q1 x

/-- Eight key blocks. -/
def trips4 (t1 : Fin k0_t1_loop.trips) (q0 q1 : FVec F S128x512 .bf16) (t : Fin (k0_t2_loop t1).trips) (x : Carry F) : Prog (TpuEff nD τ sig (Elt F) Λ .tc) (Carry F) := do
  let x ← trip4 il mk arg3 arg4 arg6 harg6 arg7 arg8 t1 t 0 q0 q1 x
  let x ← trip4 il mk arg3 arg4 arg6 harg6 arg7 arg8 t1 t 1 q0 q1 x
  let x ← trip4 il mk arg3 arg4 arg6 harg6 arg7 arg8 t1 t 2 q0 q1 x
  trip4 il mk arg3 arg4 arg6 harg6 arg7 arg8 t1 t 3 q0 q1 x

/-- Four key blocks. -/
def trips2 (t1 : Fin k0_t1_loop.trips) (q0 q1 : FVec F S128x512 .bf16) (t : Fin (k0_t4_loop t1).trips) (x : Carry F) : Prog (TpuEff nD τ sig (Elt F) Λ .tc) (Carry F) := do
  let x ← trip2 il mk arg3 arg4 arg6 harg6 arg7 arg8 t1 t 0 q0 q1 x
  trip2 il mk arg3 arg4 arg6 harg6 arg7 arg8 t1 t 1 q0 q1 x

/-- Eight key blocks of the remainder loop. -/
def trips4r (t1 : Fin k0_t1_loop.trips) (q0 q1 : FVec F S128x512 .bf16) (t : Fin (k0_t3_loop t1).trips) (x : Carry F) : Prog (TpuEff nD τ sig (Elt F) Λ .tc) (Carry F) := do
  let x ← trip4r il mk arg3 arg4 arg6 harg6 arg7 arg8 t1 t 0 q0 q1 x
  let x ← trip4r il mk arg3 arg4 arg6 harg6 arg7 arg8 t1 t 1 q0 q1 x
  let x ← trip4r il mk arg3 arg4 arg6 harg6 arg7 arg8 t1 t 2 q0 q1 x
  trip4r il mk arg3 arg4 arg6 harg6 arg7 arg8 t1 t 3 q0 q1 x

/-- Four key blocks of the remainder loop. -/
def trips2r (t1 : Fin k0_t1_loop.trips) (q0 q1 : FVec F S128x512 .bf16) (t : Fin (k0_t5_loop t1).trips) (x : Carry F) : Prog (TpuEff nD τ sig (Elt F) Λ .tc) (Carry F) := do
  let x ← trip2r il mk arg3 arg4 arg6 harg6 arg7 arg8 t1 t 0 q0 q1 x
  trip2r il mk arg3 arg4 arg6 harg6 arg7 arg8 t1 t 1 q0 q1 x

/-- Rows of the output written. -/
def stOut (arg : Memref sig .tc .vmem S1x8192x128 .bf16) (o : Fin 3 → Nat) (ho : ∀ a, o a + S1x512x128.size a ≤ S1x8192x128.size a)
    (hp : (Rect.unit (s := S1x8192x128) o S1x512x128.size ho).PackedRows (EltTy.packing .bf16)) (harg : arg.IsWhole)
    (y : FVec F S1x512x128 .bf16) : Prog (TpuEff nD τ sig (Elt F) Λ .tc) PUnit := do
  let _ : Vec F S1x512x128 .bf16 ← Prog.lift (.load arg (Rect.unit (s := S1x8192x128) o S1x512x128.size ho).toLoadRect (View.loadsAt_vmem h_S1x512x128))
  Prog.lift (.store arg (Rect.unit (s := S1x8192x128) o S1x512x128.size ho) y Finset.univ
    (View.stores_vmem h_S1x512x128 (harg.storeExact_slice rfl _ hp) (fun _ => rfl)) (.inl rfl))

variable (harg5 : arg5.IsWhole)

/-- What a query block's trip starts with: its causal key blocks' first stages beside the previous block's last, and the
    previous block's output. -/
def tileStart (t1 : Fin k0_t1_loop.trips) (x : FVec F S1x512 .f32 × FVec F S1x512 .f32 × St F) :
    Prog (TpuEff nD τ sig (Elt F) Λ .tc) (FVec F S128x512 .bf16 × FVec F S128x512 .bf16 × Carry F) := do
  let q ← ldQ arg2 (k0_off1 t1) (k0_off1_inb t1)
  let rA ← stageA il mk arg3 arg6 harg6 arg7 (k0_off2 t1 0#32) (k0_off2_inb t1 0) (some (causal 4294967040#32)) (tile0 q) (tile1 q) 0
  let _ ← stageB suffix arg6 arg7 arg8 1 zero1 zero1
  let rB ← stageA il mk arg3 arg6 harg6 arg7 (k0_off2 t1 1#32) (k0_off2_inb t1 1) (some (causal 0#32)) (tile0 q) (tile1 q) 1
  let st ← stageC arg4 arg8 (k0_off3 t1) (k0_off3_inb t1) (k0_off4 t1) (k0_off4_inb t1) 0 x.1 x.2.1 x.2.2
  let st ← stageC arg4 arg8 (k0_off5 t1) (k0_off5_inb t1) (k0_off6 t1) (k0_off6_inb t1) 1 zero1 zero1 st
  let uA ← stageB suffix arg6 arg7 arg8 0 rA.1 rA.2
  stOut arg5 (k0_off7 t1) (k0_off7_inb t1) (k0_off7_packedbf16 t1) harg5 (yOf st.2.1 st.2.2.2)
  pure (tile0 q, tile1 q, rB.1, rB.2, uA.1, uA.2, zero1, zero64, zero1, zero64)

/-- The rest of a query block's trip; the remainder loops never run. -/
def tileLoops (t1 : Fin k0_t1_loop.trips) (q0 q1 : FVec F S128x512 .bf16) (x : Carry F) : Prog (TpuEff nD τ sig (Elt F) Λ .tc) (Carry F) := do
  let x ← Scf.Loop.for (k0_t2_loop t1) (k0_t2_ok t1) x (trips4 il mk arg3 arg4 arg6 harg6 arg7 arg8 t1 q0 q1)
  let x ← Scf.Loop.for (k0_t3_loop t1) (k0_t3_ok t1) x (trips4r il mk arg3 arg4 arg6 harg6 arg7 arg8 t1 q0 q1)
  let x ← Scf.Loop.for (k0_t4_loop t1) (k0_t4_ok t1) x (trips2 il mk arg3 arg4 arg6 harg6 arg7 arg8 t1 q0 q1)
  let x ← Scf.Loop.for (k0_t5_loop t1) (k0_t5_ok t1) x (trips2r il mk arg3 arg4 arg6 harg6 arg7 arg8 t1 q0 q1)
  let x ← Scf.Loop.for (k0_t6_loop t1) (k0_t6_ok t1) x (fun t => trip1 il mk arg3 arg4 arg6 harg6 arg7 arg8 t1 t q0 q1)
  Scf.Loop.for (k0_t7_loop t1) (k0_t7_ok t1) x (fun t => trip1r il mk arg3 arg4 arg6 harg6 arg7 arg8 t1 t q0 q1)

/-- A query block's trip. -/
def tile
    (t1 : Fin k0_t1_loop.trips)
    (x : FVec F S1x512 .f32 × FVec F S1x512 .f32 × St F) : Prog (TpuEff nD τ sig (Elt F) Λ .tc) (FVec F S1x512 .f32 × FVec F S1x512 .f32 × St F) := do
  let s ← tileStart il mk arg2 arg3 arg4 arg5 arg6 harg6 arg7 arg8 harg5 t1 x
  let y ← tileLoops il mk arg3 arg4 arg6 harg6 arg7 arg8 t1 s.1 s.2.1 s.2.2
  pure y.2.2

/-- The first query block's causal key blocks. -/
def start : Prog (TpuEff nD τ sig (Elt F) Λ .tc) (FVec F S1x512 .f32 × FVec F S1x512 .f32 × St F) := do
  let q ← ldQ arg2 ![0, 0, 0, 0] inb_S1x16x128x512_S1x1x128x512_0_0_0_0
  let rA ← stageA il mk arg3 arg6 harg6 arg7 ![0, 256, 0] inb_S1x8192x128_S1x256x128_0_256_0 (some (causal 4294967040#32)) (tile0 q) (tile1 q) 0
  let rB ← stageA il mk arg3 arg6 harg6 arg7 ![0, 0, 0] inb_S1x8192x128_S1x256x128_0_0_0 (some (causal 0#32)) (tile0 q) (tile1 q) 1
  let uA ← stageB suffix arg6 arg7 arg8 0 rA.1 rA.2
  pure (uA.1, uA.2, zero1, zero64, zero1, zero64)

/-- The last query block's last stages and output. -/
def finish (x : FVec F S1x512 .f32 × FVec F S1x512 .f32 × St F) : Prog (TpuEff nD τ sig (Elt F) Λ .tc) PUnit := do
  let _ ← stageB suffix arg6 arg7 arg8 1 zero1 zero1
  let st ← stageC arg4 arg8 ![0, 1, 0, 0] inb_S1x32x128x256_S1x1x64x256_0_1_0_0 ![0, 1, 64, 0] inb_S1x32x128x256_S1x1x64x256_0_1_64_0 0 x.1 x.2.1 x.2.2
  let st ← stageC arg4 arg8 ![0, 0, 0, 0] inb_S1x32x128x256_S1x1x64x256_0_0_0_0 ![0, 0, 64, 0] inb_S1x32x128x256_S1x1x64x256_0_0_64_0 1 zero1 zero1 st
  stOut arg5 ![0, 7680, 0] inb_S1x8192x128_S1x512x128_0_7680_0 packedbf16_S1x8192x128_S1x512x128_0_7680_0 harg5 (yOf st.2.1 st.2.2.2)

/-- The kernel. -/
def body :
    Prog (TpuEff nD τ sig (Elt F) Λ .tc) PUnit := do
  let x ← start il mk arg2 arg3 arg6 harg6 arg7 arg8
  let x ← Scf.Loop.for k0_t1_loop k0_t1_ok x (tile il mk arg2 arg3 arg4 arg5 arg6 harg6 arg7 arg8 harg5)
  finish arg4 arg5 arg6 arg7 arg8 harg5 x

end Cert.Proof.Sb

end
-- ==== Proof.Triples.lean ====
/-
  The three stages' triples: what each leaves in the scratch it works on, and that it touches nothing else. The scratch is
  described by what its four pieces read as.
-/
module

public import proofs.«01_k».proof.Proof.Stages
public import Idealize.ShloMosaic.Lib.WritesUnit
public import Idealize.ShloMosaic.Lib.Pipeline.Kit

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

/-- A scratch's pieces: by slot and head. -/
abbrev Pieces (F : FTy → Type) (e : EltTy) : Type := Fin 2 → Fin 2 → Vec F S1x1x256x512 e

/-- The pieces with a slot's two replaced. -/
def put {e : EltTy} (X : Pieces F e) (s : Fin 2) (p0 p1 : Vec F S1x1x256x512 e) : Pieces F e :=
  fun s' h' => if s' = s then (if h' = 0 then p0 else p1) else X s' h'

/-- A scratch held whole, its pieces reading as `X`. -/
def Sc (c : Dev nD) {e : EltTy} (arg : Memref sig .tc .vmem S2x2x256x512 e) (X : Pieces F e) : sProp 𝕄 :=
  iprop(∃ f, ⌜∀ s h, arg.view.readAt (Elt F) (slotR s h).toLoadRect f = X s h⌝ ∗ (arg.view.loc (c : Thread nD τ) ↦{fullShare} f))

/-- Two stores into a slot's pieces leave the pieces with that slot's replaced. -/
theorem readAt_put {e : EltTy} (arg : Memref sig .tc .vmem S2x2x256x512 e) (X : Pieces F e) (f : arg.view.ty.Contents (Elt F)) (s : Fin 2)
    (p0 p1 : Vec F S1x1x256x512 e)
    (hf : ∀ s h, arg.view.readAt (Elt F) (slotR s h).toLoadRect f = X s h) (s' h' : Fin 2) :
    arg.view.readAt (Elt F) (slotR s' h').toLoadRect (arg.view.writes (Elt F) f [⟨slotR s 1, p1⟩, ⟨slotR s 0, p0⟩]) = put X s p0 p1 s' h' := by
  funext j
  rw [View.readAt_apply]
  have hne : ∀ (s s' h h' : Fin 2), (s' ≠ s ∨ h' ≠ h) → ∃ a : Fin 4, (((slotR s' h').toLoadRect.idx j) a).val < slot s h a
      ∨ slot s h a + S1x1x256x512.size a ≤ (((slotR s' h').toLoadRect.idx j) a).val := by
    intro s s' h h' hh
    have h0 : (((slotR s' h').toLoadRect.idx j) 0).val = s'.val + 1 * (j 0).val := rfl
    have h1 : (((slotR s' h').toLoadRect.idx j) 1).val = h'.val + 1 * (j 1).val := rfl
    have j0 : (j 0).val < 1 := (j 0).isLt
    have j1 : (j 1).val < 1 := (j 1).isLt
    rcases hh with hh | hh
    · refine ⟨0, ?_⟩; rw [h0]; show _ < s.val ∨ s.val + 1 ≤ _
      have : s'.val ≠ s.val := fun e => hh (Fin.ext e)
      omega
    · refine ⟨1, ?_⟩; rw [h1]; show _ < h.val ∨ h.val + 1 ≤ _
      have : h'.val ≠ h.val := fun e => hh (Fin.ext e)
      omega
  have hin : ∀ s h : Fin 2, ∀ a, (((slotR s h).toLoadRect.idx j) a).val = slot s h a + (j a).val := by
    intro s h a; show slot s h a + 1 * (j a).val = _; rw [Nat.one_mul]
  unfold put
  by_cases hs : s' = s
  · subst hs
    rw [if_pos rfl]
    by_cases hh : h' = 0
    · subst hh
      rw [if_pos rfl]
      obtain ⟨a, ha⟩ := hne s' s' 1 0 (.inr (by decide))
      rw [View.read_writes_cons_unit_of_not_mem _ _ _ _ _ _ rfl a ha]
      exact View.read_writes_cons_unit_of_mem _ _ _ _ _ _ j rfl (hin s' 0)
    · obtain rfl : h' = 1 := by omega
      rw [if_neg hh]
      exact View.read_writes_cons_unit_of_mem _ _ _ _ _ _ j rfl (hin s' 1)
  · rw [if_neg hs]
    obtain ⟨a, ha⟩ := hne s s' 1 h' (.inl hs)
    rw [View.read_writes_cons_unit_of_not_mem _ _ _ _ _ _ rfl a ha]
    obtain ⟨a, ha⟩ := hne s s' 0 h' (.inl hs)
    rw [View.read_writes_cons_unit_of_not_mem _ _ _ _ _ _ rfl a ha, ← hf s' h', View.readAt_apply]
    rfl

variable {defs : Defs nD τ sig (Elt F) Λ} {c : Dev nD}

instance closedOff_slot (s h : Fin 2) : ClosedOff (slot s h) := ⟨![s.val, h.val, 0, 0], rfl⟩

/-- A key block of a buffer's contents, read at offsets. -/
abbrev kAt (arg : Memref sig .tc .vmem S1x8192x128 .bf16) (f : arg.view.ty.Contents (Elt F)) (o : Fin 3 → Nat)
    (ho : ∀ a, o a + S1x256x128.size a ≤ S1x8192x128.size a) : Vec F S1x256x128 .bf16 :=
  arg.view.readAt (Elt F) (Rect.unit (s := S1x8192x128) o S1x256x128.size ho).toLoadRect f

/-- The first stage's triple. -/
theorem wp_stageA (il mk : F .f32) (arg3 : Memref sig .tc .vmem S1x8192x128 .bf16) (arg6 : Memref sig .tc .vmem S2x2x256x512 .bf16) (harg6 : arg6.IsWhole)
    (arg7 : Memref sig .tc .vmem S2x2x256x512 .f32) (o : Fin 3 → Nat) (ho : ∀ a, o a + S1x256x128.size a ≤ S1x8192x128.size a)
    (cm : Option (IVec S256x512 1)) (q0 q1 : FVec F S128x512 .bf16) (s : Fin 2) (X6 : Pieces F .bf16) (X7 : Pieces F .f32)
    (f3 : arg3.view.ty.Contents (Elt F)) (Q : FVec F S1x512 .f32 × FVec F S1x512 .f32 → sProp 𝕄) :
    iprop((arg3.view.loc (c : Thread nD τ) ↦{fullShare} f3) ∗ Sc c arg6 X6 ∗ Sc c arg7 X7
      ∗ (iprop((arg3.view.loc (c : Thread nD τ) ↦{fullShare} f3)
          ∗ Sc c arg6 (put X6 s (pack16 (mlr cm (lrOf il (zOf (kAt arg3 f3 o ho) q0)))) (pack16 (mlr cm (lrOf il (zOf (kAt arg3 f3 o ho) q1)))))
          ∗ Sc c arg7 (put X7 s (pack (mlb mk cm (lbOf il (zOf (kAt arg3 f3 o ho) q0)))) (pack (mlb mk cm (lbOf il (zOf (kAt arg3 f3 o ho) q1))))))
        -∗ Q (row0 (mlr cm (lrOf il (zOf (kAt arg3 f3 o ho) q0))), row0 (mlr cm (lrOf il (zOf (kAt arg3 f3 o ho) q1))))))
      ⊢ wp frame (wpE defs Variants.none (c : Thread nD τ) none) Set.univ (stageA il mk arg3 arg6 harg6 arg7 o ho cm q0 q1 s) Q := by
  unfold stageA
  conv_lhs => unfold Sc
  iintro ⟨H3, ⟨%f6, %hf6, H6⟩, ⟨%f7, %hf7, H7⟩, Hk⟩
  sl_exec
  sl_step
  have e : wp_stageA.sl.r arg3 o ho f3 = kAt arg3 f3 o ho := rfl
  simp only [e]
  iapply Hk
  isplitl [H3]; · iexact H3
  isplitl [H6]
  · iexists _; isplitr; swap; · iexact H6
    ipureintro; exact readAt_put arg6 X6 f6 s _ _ hf6
  · iexists _; isplitr; swap; · iexact H7
    ipureintro; exact readAt_put arg7 X7 f7 s _ _ hf7

/-- The second stage's triple. -/
theorem wp_stageB (su : FVec F S256x256 .bf16) (arg6 : Memref sig .tc .vmem S2x2x256x512 .bf16)
    (arg7 arg8 : Memref sig .tc .vmem S2x2x256x512 .f32) (s : Fin 2) (r0 r1 : FVec F S1x512 .f32)
    (X6 : Pieces F .bf16) (X7 X8 : Pieces F .f32) (Q : FVec F S1x512 .f32 × FVec F S1x512 .f32 → sProp 𝕄) :
    iprop(Sc c arg6 X6 ∗ Sc c arg7 X7 ∗ Sc c arg8 X8
      ∗ (iprop(Sc c arg6 X6 ∗ Sc c arg7 X7
          ∗ Sc c arg8 (put X8 s (pack (addf (unpack (X7 s 0)) (within su (X6 s 0)))) (pack (addf (unpack (X7 s 1)) (within su (X6 s 1))))))
        -∗ Q (addf (row0 (within su (X6 s 0))) r0, addf (row0 (within su (X6 s 1))) r1)))
      ⊢ wp frame (wpE defs Variants.none (c : Thread nD τ) none) Set.univ (stageB su arg6 arg7 arg8 s r0 r1) Q := by
  unfold stageB
  conv_lhs => unfold Sc
  iintro ⟨⟨%f6, %hf6, H6⟩, ⟨%f7, %hf7, H7⟩, ⟨%f8, %hf8, H8⟩, Hk⟩
  sl_exec
  sl_step
  have e0 : wp_stageB.sl.r s X6 = X6 s 0 := rfl
  have e1 : wp_stageB.sl.r_1 s X7 = X7 s 0 := rfl
  have e3 : wp_stageB.sl.r_3 s X6 = X6 s 1 := rfl
  have e4 : wp_stageB.sl.r_4 s X7 = X7 s 1 := rfl
  simp only [e0, e1, e3, e4]
  iapply Hk
  isplitl [H6]
  · iexists _; isplitr; swap; · iexact H6
    ipureintro; exact hf6
  isplitl [H7]
  · iexists _; isplitr; swap; · iexact H7
    ipureintro; exact hf7
  · iexists _; isplitr; swap; · iexact H8
    ipureintro; exact readAt_put arg8 X8 f8 s _ _ hf8

/-- A head's block of values of a buffer's contents, read at offsets. -/
abbrev vAt (arg : Memref sig .tc .vmem S1x32x128x256 .bf16) (f : arg.view.ty.Contents (Elt F)) (o : Fin 4 → Nat)
    (ho : ∀ a, o a + S1x1x64x256.size a ≤ S1x32x128x256.size a) : Vec F S1x1x64x256 .bf16 :=
  arg.view.readAt (Elt F) (Rect.unit (s := S1x32x128x256) o S1x1x64x256.size ho).toLoadRect f

/-- The third stage's triple. -/
theorem wp_stageC (arg4 : Memref sig .tc .vmem S1x32x128x256 .bf16) (arg8 : Memref sig .tc .vmem S2x2x256x512 .f32)
    (o0 : Fin 4 → Nat) (ho0 : ∀ a, o0 a + S1x1x64x256.size a ≤ S1x32x128x256.size a)
    (o1 : Fin 4 → Nat) (ho1 : ∀ a, o1 a + S1x1x64x256.size a ≤ S1x32x128x256.size a)
    (s : Fin 2) (u0 u1 : FVec F S1x512 .f32) (st : St F) (X8 : Pieces F .f32) (f4 : arg4.view.ty.Contents (Elt F)) (Q : St F → sProp 𝕄) :
    iprop((arg4.view.loc (c : Thread nD τ) ↦{fullShare} f4) ∗ Sc c arg8 X8
      ∗ (iprop((arg4.view.loc (c : Thread nD τ) ↦{fullShare} f4) ∗ Sc c arg8 X8)
        -∗ Q (addf st.1 u0, accOf st.2.1 (vAt arg4 f4 o0 ho0) (wOf (X8 s 0) st.1), addf st.2.2.1 u1,
            accOf st.2.2.2 (vAt arg4 f4 o1 ho1) (wOf (X8 s 1) st.2.2.1))))
      ⊢ wp frame (wpE defs Variants.none (c : Thread nD τ) none) Set.univ (stageC arg4 arg8 o0 ho0 o1 ho1 s u0 u1 st) Q := by
  unfold stageC
  conv_lhs => unfold Sc
  iintro ⟨H4, ⟨%f8, %hf8, H8⟩, Hk⟩
  sl_exec
  sl_step
  have e0 : wp_stageC.sl.r s X8 = X8 s 0 := rfl
  have e1 : wp_stageC.sl.r_1 s X8 = X8 s 1 := rfl
  have e2 : wp_stageC.sl.r_2 arg4 o0 ho0 f4 = vAt arg4 f4 o0 ho0 := rfl
  have e3 : wp_stageC.sl.r_3 arg4 o1 ho1 f4 = vAt arg4 f4 o1 ho1 := rfl
  simp only [e0, e1, e2, e3]
  iapply Hk
  isplitl [H4]; · iexact H4
  iexists _; isplitr; swap; · iexact H8
  ipureintro; exact hf8

end Cert.Proof.Sb

end
-- ==== Proof.Spec.lean ====
/-
  What the stages compute, as functions of the blocks of queries, keys and values: per query block the key blocks are taken
  from the last causal one backwards, block `n` of query block `i` being key block `2 i + 1 - n`.
-/
module

public import proofs.«01_k».proof.Proof.Stages

@[expose] public section

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512)
open Idealize.ShloMosaic Idealize.SL.Sem

variable {F : FTy → Type} [FloatOps F]

/-- The blocks of queries, keys and values, and the two constants. -/
structure Src (F : FTy → Type) where
  il : F .f32
  msk : F .f32
  Q : Nat → Vec F S1x1x128x512 .bf16
  K : Nat → Vec F S1x256x128 .bf16
  V : Nat → Fin 2 → Vec F S1x1x64x256 .bf16

variable (S : Src F)

/-- A head's query tile. -/
def qT (i : Nat) (h : Fin 2) : FVec F S128x512 .bf16 := if h = 0 then tile0 (S.Q i) else tile1 (S.Q i)

/-- The causal mask of a block. -/
def cmask (n : Nat) : Option (IVec S256x512 1) :=
  if n = 0 then some (causal 4294967040#32) else if n = 1 then some (causal 0#32) else none

/-- A block's complementary logs, masked. -/
def LR (i : Nat) (h : Fin 2) (n : Nat) : FVec F S256x512 .f32 := mlr (cmask n) (lrOf S.il (zOf (S.K (2 * i + 1 - n)) (qT S i h)))

/-- A block's logs, masked. -/
def LB (i : Nat) (h : Fin 2) (n : Nat) : FVec F S256x512 .f32 := mlb S.msk (cmask n) (lbOf S.il (zOf (S.K (2 * i + 1 - n)) (qT S i h)))

/-- A block's logs with the sums of its later rows. -/
def TT (i : Nat) (h : Fin 2) (n : Nat) : FVec F S1x1x256x512 .f32 :=
  pack (addf (unpack (pack (LB S i h n))) (within suffix (pack16 (LR S i h n))))

/-- A block's column sums. -/
def SUM (i : Nat) (h : Fin 2) (n : Nat) : FVec F S1x512 .f32 := addf (row0 (within suffix (pack16 (LR S i h n)))) (row0 (LR S i h n))

/-- A head's running sums and accumulator before block `n`. -/
def hst (i : Nat) (h : Fin 2) : Nat → FVec F S1x512 .f32 × FVec F S64x512 .f32
  | 0 => (zero1, zero64)
  | n + 1 => (addf (hst i h n).1 (SUM S i h n), accOf (hst i h n).2 (S.V (2 * i + 1 - n) h) (wOf (TT S i h n) (hst i h n).1))

/-- The two heads' running sums and accumulators. -/
def stv (i n : Nat) : St F := ((hst S i 0 n).1, (hst S i 0 n).2, (hst S i 1 n).1, (hst S i 1 n).2)

/-- A query block's output rows. -/
def Out (i : Nat) : FVec F S1x512x128 .bf16 := yOf (hst S i 0 (2 * i + 2)).2 (hst S i 1 (2 * i + 2)).2

/-- What the inner loops carry after `2 p + 2` blocks' first stages. -/
def carryAt (i p : Nat) : Carry F :=
  (row0 (LR S i 0 (2 * p + 1)), row0 (LR S i 1 (2 * p + 1)), SUM S i 0 (2 * p), SUM S i 1 (2 * p), stv S i (2 * p))

end Cert.Proof.Sb

end
-- ==== Proof.Offsets.lean ====
/-
  The offsets and trip counts of the printed loops in closed form.
-/
module

public import proofs.«01_k».proof.Proof.Gen.KernelIdeal

@[expose] public section

set_option maxRecDepth 65536
set_option maxHeartbeats 4000000

namespace Cert.Proof.Sb

open Cert.KernelIdeal Cert.KernelIdeal.Gen
open Idealize.ShloMosaic

/-- The loop over query blocks makes fifteen trips. -/
theorem t1_trips : k0_t1_loop.trips = 15 := by decide +kernel
/-- The trips of the loop that takes eight key blocks. -/
theorem t2_trips : ∀ t : Fin k0_t1_loop.trips, (k0_t2_loop t).trips = (t.val + 1) / 4 := by decide +kernel
/-- The first remainder loop makes none. -/
theorem t3_trips : ∀ t : Fin k0_t1_loop.trips, (k0_t3_loop t).trips = 0 := by decide +kernel
/-- The trips of the loop that takes four key blocks. -/
theorem t4_trips : ∀ t : Fin k0_t1_loop.trips, (k0_t4_loop t).trips = (t.val + 1) % 4 / 2 := by decide +kernel
/-- The second remainder loop makes none. -/
theorem t5_trips : ∀ t : Fin k0_t1_loop.trips, (k0_t5_loop t).trips = 0 := by decide +kernel
/-- The trips of the loop that takes two key blocks. -/
theorem t6_trips : ∀ t : Fin k0_t1_loop.trips, (k0_t6_loop t).trips = (t.val + 1) % 2 := by decide +kernel
/-- The third remainder loop makes none. -/
theorem t7_trips : ∀ t : Fin k0_t1_loop.trips, (k0_t7_loop t).trips = 0 := by decide +kernel

theorem off3_eq : ∀ t : Fin k0_t1_loop.trips, k0_off3 t = ![0, 2 * t.val + 1 - 2 * t.val, 64 * (0 : Fin 2).val, 0] := by decide +kernel
theorem off4_eq : ∀ t : Fin k0_t1_loop.trips, k0_off4 t = ![0, 2 * t.val + 1 - 2 * t.val, 64 * (1 : Fin 2).val, 0] := by decide +kernel
theorem off5_eq : ∀ t : Fin k0_t1_loop.trips, k0_off5 t = ![0, 2 * t.val + 1 - (2 * t.val + 1), 64 * (0 : Fin 2).val, 0] := by decide +kernel
theorem off6_eq : ∀ t : Fin k0_t1_loop.trips, k0_off6 t = ![0, 2 * t.val + 1 - (2 * t.val + 1), 64 * (1 : Fin 2).val, 0] := by decide +kernel

theorem off8_eq : ∀ t : Fin k0_t1_loop.trips, ∀ k : Fin (k0_t2_loop t).trips, ∀ r : Fin 4,
    k0_off8 t k (BitVec.ofNat 32 r.val) = ![0, 256 * (2 * (t.val + 1) + 1 - (2 * ((4 * k.val + r.val)) + 2)), 0] := by decide +kernel
theorem off11_eq : ∀ t : Fin k0_t1_loop.trips, ∀ k : Fin (k0_t2_loop t).trips, ∀ r : Fin 4,
    k0_off11 t k (BitVec.ofNat 32 r.val) = ![0, 256 * (2 * (t.val + 1) + 1 - (2 * ((4 * k.val + r.val)) + 3)), 0] := by decide +kernel
theorem off9_eq0 : ∀ t : Fin k0_t1_loop.trips, ∀ k : Fin (k0_t2_loop t).trips, ∀ r : Fin 4,
    k0_off9 t k (BitVec.ofNat 32 r.val) (BitVec.ofNat 32 (1 + (Fin.val (1 : Fin 2)))) = ![0, 2 * (t.val + 1) + 1 - 2 * ((4 * k.val + r.val)), 64 * (0 : Fin 2).val, 0] := by decide +kernel
theorem off9_eq1 : ∀ t : Fin k0_t1_loop.trips, ∀ k : Fin (k0_t2_loop t).trips, ∀ r : Fin 4,
    k0_off9 t k (BitVec.ofNat 32 r.val) (BitVec.ofNat 32 (1 + (Fin.val (0 : Fin 2)))) = ![0, 2 * (t.val + 1) + 1 - (2 * ((4 * k.val + r.val)) + 1), 64 * (0 : Fin 2).val, 0] := by decide +kernel
theorem off10_eq0 : ∀ t : Fin k0_t1_loop.trips, ∀ k : Fin (k0_t2_loop t).trips, ∀ r : Fin 4,
    k0_off10 t k (BitVec.ofNat 32 r.val) (BitVec.ofNat 32 (1 + (Fin.val (1 : Fin 2)))) = ![0, 2 * (t.val + 1) + 1 - 2 * ((4 * k.val + r.val)), 64 * (1 : Fin 2).val, 0] := by decide +kernel
theorem off10_eq1 : ∀ t : Fin k0_t1_loop.trips, ∀ k : Fin (k0_t2_loop t).trips, ∀ r : Fin 4,
    k0_off10 t k (BitVec.ofNat 32 r.val) (BitVec.ofNat 32 (1 + (Fin.val (0 : Fin 2)))) = ![0, 2 * (t.val + 1) + 1 - (2 * ((4 * k.val + r.val)) + 1), 64 * (1 : Fin 2).val, 0] := by decide +kernel
theorem off16_eq : ∀ t : Fin k0_t1_loop.trips, ∀ k : Fin (k0_t4_loop t).trips, ∀ r : Fin 2,
    k0_off16 t k (BitVec.ofNat 32 r.val) = ![0, 256 * (2 * (t.val + 1) + 1 - (2 * (4 * ((t.val + 1) / 4) + (2 * k.val + r.val)) + 2)), 0] := by decide +kernel
theorem off19_eq : ∀ t : Fin k0_t1_loop.trips, ∀ k : Fin (k0_t4_loop t).trips, ∀ r : Fin 2,
    k0_off19 t k (BitVec.ofNat 32 r.val) = ![0, 256 * (2 * (t.val + 1) + 1 - (2 * (4 * ((t.val + 1) / 4) + (2 * k.val + r.val)) + 3)), 0] := by decide +kernel
theorem off17_eq0 : ∀ t : Fin k0_t1_loop.trips, ∀ k : Fin (k0_t4_loop t).trips, ∀ r : Fin 2,
    k0_off17 t k (BitVec.ofNat 32 r.val) (BitVec.ofNat 32 (1 + (Fin.val (1 : Fin 2)))) = ![0, 2 * (t.val + 1) + 1 - 2 * (4 * ((t.val + 1) / 4) + (2 * k.val + r.val)), 64 * (0 : Fin 2).val, 0] := by decide +kernel
theorem off17_eq1 : ∀ t : Fin k0_t1_loop.trips, ∀ k : Fin (k0_t4_loop t).trips, ∀ r : Fin 2,
    k0_off17 t k (BitVec.ofNat 32 r.val) (BitVec.ofNat 32 (1 + (Fin.val (0 : Fin 2)))) = ![0, 2 * (t.val + 1) + 1 - (2 * (4 * ((t.val + 1) / 4) + (2 * k.val + r.val)) + 1), 64 * (0 : Fin 2).val, 0] := by decide +kernel
theorem off18_eq0 : ∀ t : Fin k0_t1_loop.trips, ∀ k : Fin (k0_t4_loop t).trips, ∀ r : Fin 2,
    k0_off18 t k (BitVec.ofNat 32 r.val) (BitVec.ofNat 32 (1 + (Fin.val (1 : Fin 2)))) = ![0, 2 * (t.val + 1) + 1 - 2 * (4 * ((t.val + 1) / 4) + (2 * k.val + r.val)), 64 * (1 : Fin 2).val, 0] := by decide +kernel
theorem off18_eq1 : ∀ t : Fin k0_t1_loop.trips, ∀ k : Fin (k0_t4_loop t).trips, ∀ r : Fin 2,
    k0_off18 t k (BitVec.ofNat 32 r.val) (BitVec.ofNat 32 (1 + (Fin.val (0 : Fin 2)))) = ![0, 2 * (t.val + 1) + 1 - (2 * (4 * ((t.val + 1) / 4) + (2 * k.val + r.val)) + 1), 64 * (1 : Fin 2).val, 0] := by decide +kernel
theorem off24_eq : ∀ t : Fin k0_t1_loop.trips, ∀ k : Fin (k0_t6_loop t).trips,
    k0_off24 t k = ![0, 256 * (2 * (t.val + 1) + 1 - (2 * (4 * ((t.val + 1) / 4) + 2 * ((t.val + 1) % 4 / 2) + k.val) + 2)), 0] := by decide +kernel
theorem off27_eq : ∀ t : Fin k0_t1_loop.trips, ∀ k : Fin (k0_t6_loop t).trips,
    k0_off27 t k = ![0, 256 * (2 * (t.val + 1) + 1 - (2 * (4 * ((t.val + 1) / 4) + 2 * ((t.val + 1) % 4 / 2) + k.val) + 3)), 0] := by decide +kernel
theorem off25_eq0 : ∀ t : Fin k0_t1_loop.trips, ∀ k : Fin (k0_t6_loop t).trips,
    k0_off25 t k (BitVec.ofNat 32 (1 + (Fin.val (1 : Fin 2)))) = ![0, 2 * (t.val + 1) + 1 - 2 * (4 * ((t.val + 1) / 4) + 2 * ((t.val + 1) % 4 / 2) + k.val), 64 * (0 : Fin 2).val, 0] := by decide +kernel
theorem off25_eq1 : ∀ t : Fin k0_t1_loop.trips, ∀ k : Fin (k0_t6_loop t).trips,
    k0_off25 t k (BitVec.ofNat 32 (1 + (Fin.val (0 : Fin 2)))) = ![0, 2 * (t.val + 1) + 1 - (2 * (4 * ((t.val + 1) / 4) + 2 * ((t.val + 1) % 4 / 2) + k.val) + 1), 64 * (0 : Fin 2).val, 0] := by decide +kernel
theorem off26_eq0 : ∀ t : Fin k0_t1_loop.trips, ∀ k : Fin (k0_t6_loop t).trips,
    k0_off26 t k (BitVec.ofNat 32 (1 + (Fin.val (1 : Fin 2)))) = ![0, 2 * (t.val + 1) + 1 - 2 * (4 * ((t.val + 1) / 4) + 2 * ((t.val + 1) % 4 / 2) + k.val), 64 * (1 : Fin 2).val, 0] := by decide +kernel
theorem off26_eq1 : ∀ t : Fin k0_t1_loop.trips, ∀ k : Fin (k0_t6_loop t).trips,
    k0_off26 t k (BitVec.ofNat 32 (1 + (Fin.val (0 : Fin 2)))) = ![0, 2 * (t.val + 1) + 1 - (2 * (4 * ((t.val + 1) / 4) + 2 * ((t.val + 1) % 4 / 2) + k.val) + 1), 64 * (1 : Fin 2).val, 0] := by decide +kernel

end Cert.Proof.Sb

end
-- ==== Proof.Trips.lean ====
/-
  The trips' and loops' triples: a trip takes the scratch and the carried values from their state after `2 p + 2` key blocks
  to their state two blocks on.
-/
module

public import proofs.«01_k».proof.Proof.Triples
public import proofs.«01_k».proof.Proof.Spec
public import proofs.«01_k».proof.Proof.Body
public import proofs.«01_k».proof.Proof.Offsets

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512
  k0_t1_loop k0_t2_loop k0_t3_loop k0_t4_loop k0_t5_loop k0_t6_loop k0_t7_loop)
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable (il mk : F .f32) (arg2 : Memref sig .tc .vmem S1x16x128x512 .bf16) (arg3 : Memref sig .tc .vmem S1x8192x128 .bf16) (arg4 : Memref sig .tc .vmem S1x32x128x256 .bf16)
  (arg5 : Memref sig .tc .vmem S1x8192x128 .bf16) (arg6 : Memref sig .tc .vmem S2x2x256x512 .bf16) (harg6 : arg6.IsWhole) (arg7 : Memref sig .tc .vmem S2x2x256x512 .f32) (arg8 : Memref sig .tc .vmem S2x2x256x512 .f32)

theorem q_inb (i : Nat) : ∀ a, (![0, i % 16, 0, 0] : Fin 4 → Nat) a + S1x1x128x512.size a ≤ S1x16x128x512.size a := by
  have h := Nat.mod_lt i (show 16 > 0 by decide)
  intro a; fin_cases a
  · show 0 + 1 ≤ 1; omega
  · show i % 16 + 1 ≤ 16; omega
  · show 0 + 128 ≤ 128; omega
  · show 0 + 512 ≤ 512; omega

theorem k_inb (n : Nat) : ∀ a, (![0, 256 * (n % 32), 0] : Fin 3 → Nat) a + S1x256x128.size a ≤ S1x8192x128.size a := by
  have h := Nat.mod_lt n (show 32 > 0 by decide)
  intro a; fin_cases a
  · show 0 + 1 ≤ 1; omega
  · show 256 * (n % 32) + 256 ≤ 8192; omega
  · show 0 + 128 ≤ 128; omega

theorem v_inb (n : Nat) (h : Fin 2) : ∀ a, (![0, n % 32, 64 * h.val, 0] : Fin 4 → Nat) a + S1x1x64x256.size a ≤ S1x32x128x256.size a := by
  have hn := Nat.mod_lt n (show 32 > 0 by decide)
  have hh := h.isLt
  intro a; fin_cases a
  · show 0 + 1 ≤ 1; omega
  · show n % 32 + 1 ≤ 32; omega
  · show 64 * h.val + 64 ≤ 128; omega
  · show 0 + 256 ≤ 256; omega

theorem out_inb (i : Nat) : ∀ a, (![0, 512 * (i % 16), 0] : Fin 3 → Nat) a + S1x512x128.size a ≤ S1x8192x128.size a := by
  have h := Nat.mod_lt i (show 16 > 0 by decide)
  intro a; fin_cases a
  · show 0 + 1 ≤ 1; omega
  · show 512 * (i % 16) + 512 ≤ 8192; omega
  · show 0 + 128 ≤ 128; omega

/-- A query block of a buffer's contents, read at offsets. -/
abbrev qAt (f : arg2.view.ty.Contents (Elt F)) (o : Fin 4 → Nat) (ho : ∀ a, o a + S1x1x128x512.size a ≤ S1x16x128x512.size a) :
    Vec F S1x1x128x512 .bf16 :=
  arg2.view.readAt (Elt F) (Rect.unit (s := S1x16x128x512) o S1x1x128x512.size ho).toLoadRect f

/-- An output block of a buffer's contents, read at offsets. -/
abbrev oAt (f : arg5.view.ty.Contents (Elt F)) (o : Fin 3 → Nat) (ho : ∀ a, o a + S1x512x128.size a ≤ S1x8192x128.size a) :
    Vec F S1x512x128 .bf16 :=
  arg5.view.readAt (Elt F) (Rect.unit (s := S1x8192x128) o S1x512x128.size ho).toLoadRect f

variable (f2 : arg2.view.ty.Contents (Elt F)) (f3 : arg3.view.ty.Contents (Elt F)) (f4 : arg4.view.ty.Contents (Elt F))

/-- The blocks that the three input buffers hold. -/
def srcOf : Src F where
  il := il
  msk := mk
  Q i := qAt arg2 f2 ![0, i % 16, 0, 0] (q_inb i)
  K n := kAt arg3 f3 ![0, 256 * (n % 32), 0] (k_inb n)
  V n h := vAt arg4 f4 ![0, n % 32, 64 * h.val, 0] (v_inb n h)

theorem qAt_eq (o : Fin 4 → Nat) (ho : ∀ a, o a + S1x1x128x512.size a ≤ S1x16x128x512.size a) (n : Nat) (hn : n < 16) (e : o = ![0, n, 0, 0]) :
    qAt arg2 f2 o ho = (srcOf il mk arg2 arg3 arg4 f2 f3 f4).Q n := by
  have e' : o = ![0, n % 16, 0, 0] := by rw [Nat.mod_eq_of_lt hn]; exact e
  subst e'; rfl

theorem kAt_eq (o : Fin 3 → Nat) (ho : ∀ a, o a + S1x256x128.size a ≤ S1x8192x128.size a) (n : Nat) (hn : n < 32) (e : o = ![0, 256 * n, 0]) :
    kAt arg3 f3 o ho = (srcOf il mk arg2 arg3 arg4 f2 f3 f4).K n := by
  have e' : o = ![0, 256 * (n % 32), 0] := by rw [Nat.mod_eq_of_lt hn]; exact e
  subst e'; rfl

theorem vAt_eq (o : Fin 4 → Nat) (ho : ∀ a, o a + S1x1x64x256.size a ≤ S1x32x128x256.size a) (n : Nat) (h : Fin 2) (hn : n < 32)
    (e : o = ![0, n, 64 * h.val, 0]) : vAt arg4 f4 o ho = (srcOf il mk arg2 arg3 arg4 f2 f3 f4).V n h := by
  have e' : o = ![0, n % 32, 64 * h.val, 0] := by rw [Nat.mod_eq_of_lt hn]; exact e
  subst e'; rfl

/-- What the scratch's pieces are after `2 p + 2` blocks' first stages. -/
structure Mid (S : Src F) (i p : Nat) (X6 : Pieces F .bf16) (X7 X8 : Pieces F .f32) : Prop where
  x6 : ∀ h, X6 1 h = pack16 (LR S i h (2 * p + 1))
  x7 : ∀ h, X7 1 h = pack (LB S i h (2 * p + 1))
  x8 : ∀ h, X8 0 h = TT S i h (2 * p)

/-- The keys, the values and the scratch held, the scratch's pieces and the carried values being those after `2 p + 2` blocks. -/
def Inv (c : Dev nD) (i p : Nat) (x : Carry F) : sProp 𝕄 :=
  iprop(∃ X6 X7 X8, ⌜Mid (srcOf il mk arg2 arg3 arg4 f2 f3 f4) i p X6 X7 X8 ∧ x = carryAt (srcOf il mk arg2 arg3 arg4 f2 f3 f4) i p⌝
    ∗ (arg3.view.loc (c : Thread nD τ) ↦{fullShare} f3) ∗ (arg4.view.loc (c : Thread nD τ) ↦{fullShare} f4)
    ∗ Sc c arg6 X6 ∗ Sc c arg7 X7 ∗ Sc c arg8 X8)

variable {defs : Defs nD τ sig (Elt F) Λ} {c : Dev nD}

/-- A trip's triple. -/
theorem wp_trip (i p : Nat) (hi : i < 16) (hp : p < i)
    (oa : Fin 3 → Nat) (hoa : ∀ a, oa a + S1x256x128.size a ≤ S1x8192x128.size a)
    (ob : Fin 3 → Nat) (hob : ∀ a, ob a + S1x256x128.size a ≤ S1x8192x128.size a)
    (va0 : Fin 4 → Nat) (hva0 : ∀ a, va0 a + S1x1x64x256.size a ≤ S1x32x128x256.size a)
    (va1 : Fin 4 → Nat) (hva1 : ∀ a, va1 a + S1x1x64x256.size a ≤ S1x32x128x256.size a)
    (vb0 : Fin 4 → Nat) (hvb0 : ∀ a, vb0 a + S1x1x64x256.size a ≤ S1x32x128x256.size a)
    (vb1 : Fin 4 → Nat) (hvb1 : ∀ a, vb1 a + S1x1x64x256.size a ≤ S1x32x128x256.size a)
    (ea : oa = ![0, 256 * (2 * i + 1 - (2 * p + 2)), 0]) (eb : ob = ![0, 256 * (2 * i + 1 - (2 * p + 3)), 0])
    (ea0 : va0 = ![0, 2 * i + 1 - 2 * p, 64 * (0 : Fin 2).val, 0]) (ea1 : va1 = ![0, 2 * i + 1 - 2 * p, 64 * (1 : Fin 2).val, 0])
    (eb0 : vb0 = ![0, 2 * i + 1 - (2 * p + 1), 64 * (0 : Fin 2).val, 0]) (eb1 : vb1 = ![0, 2 * i + 1 - (2 * p + 1), 64 * (1 : Fin 2).val, 0])
    (x : Carry F) :
    Inv il mk arg2 arg3 arg4 arg6 arg7 arg8 f2 f3 f4 c i p x
      ⊢ wp (M := 𝕄) frame (wpE defs Variants.none (c : Thread nD τ) none) Set.univ
          (trip il mk suffix arg3 arg4 arg6 harg6 arg7 arg8 oa hoa ob hob va0 hva0 va1 hva1 vb0 hvb0 vb1 hvb1
            (qT (srcOf il mk arg2 arg3 arg4 f2 f3 f4) i 0) (qT (srcOf il mk arg2 arg3 arg4 f2 f3 f4) i 1) x)
          (Inv il mk arg2 arg3 arg4 arg6 arg7 arg8 f2 f3 f4 c i (p + 1)) := by
  have hA := kAt_eq il mk arg2 arg3 arg4 f2 f3 f4 oa hoa _ (by omega) ea
  have hB := kAt_eq il mk arg2 arg3 arg4 f2 f3 f4 ob hob _ (by omega) eb
  have hA0 := vAt_eq il mk arg2 arg3 arg4 f2 f3 f4 va0 hva0 _ 0 (by omega) ea0
  have hA1 := vAt_eq il mk arg2 arg3 arg4 f2 f3 f4 va1 hva1 _ 1 (by omega) ea1
  have hB0 := vAt_eq il mk arg2 arg3 arg4 f2 f3 f4 vb0 hvb0 _ 0 (by omega) eb0
  have hB1 := vAt_eq il mk arg2 arg3 arg4 f2 f3 f4 vb1 hvb1 _ 1 (by omega) eb1
  unfold trip Inv
  simp only [wp_bind]
  iintro ⟨%X6, %X7, %X8, %hX, H3, H4, H6, H7, H8⟩
  iapply (wp_stageA il mk arg3 arg6 harg6 arg7 oa hoa none _ _ 0 X6 X7 f3)
  isplitl [H3]; · iexact H3
  isplitl [H6]; · iexact H6
  isplitl [H7]; · iexact H7
  iintro ⟨H3, H6, H7⟩
  iapply (wp_stageC arg4 arg8 va0 hva0 va1 hva1 0 _ _ _ X8 f4)
  isplitl [H4]; · iexact H4
  isplitl [H8]; · iexact H8
  iintro ⟨H4, H8⟩
  iapply (wp_stageB suffix arg6 arg7 arg8 1 _ _ _ _ X8)
  isplitl [H6]; · iexact H6
  isplitl [H7]; · iexact H7
  isplitl [H8]; · iexact H8
  iintro ⟨H6, H7, H8⟩
  iapply (wp_stageA il mk arg3 arg6 harg6 arg7 ob hob none _ _ 1 _ _ f3)
  isplitl [H3]; · iexact H3
  isplitl [H6]; · iexact H6
  isplitl [H7]; · iexact H7
  iintro ⟨H3, H6, H7⟩
  iapply (wp_stageC arg4 arg8 vb0 hvb0 vb1 hvb1 1 _ _ _ _ f4)
  isplitl [H4]; · iexact H4
  isplitl [H8]; · iexact H8
  iintro ⟨H4, H8⟩
  iapply (wp_stageB suffix arg6 arg7 arg8 0)
  isplitl [H6]; · iexact H6
  isplitl [H7]; · iexact H7
  isplitl [H8]; · iexact H8
  iintro ⟨H6, H7, H8⟩
  sl_step
  iexists _; iexists _; iexists _
  isplitr
  swap
  · isplitl [H3]; · iexact H3
    isplitl [H4]; · iexact H4
    isplitl [H6]; · iexact H6
    isplitl [H7]; · iexact H7
    iexact H8
  ipureintro
  obtain ⟨⟨h6, h7, h8⟩, rfl⟩ := hX
  have n2 : cmask (2 * p + 2) = none := by unfold cmask; rw [if_neg (by omega), if_neg (by omega)]
  have n3 : cmask (2 * p + 3) = none := by unfold cmask; rw [if_neg (by omega), if_neg (by omega)]
  have r2 : ∀ h, LR (srcOf il mk arg2 arg3 arg4 f2 f3 f4) i h (2 * p + 2) = mlr none (lrOf il (zOf (kAt arg3 f3 oa hoa) (qT (srcOf il mk arg2 arg3 arg4 f2 f3 f4) i h))) := by
    intro h; unfold LR; rw [n2, hA]; rfl
  have b2 : ∀ h, LB (srcOf il mk arg2 arg3 arg4 f2 f3 f4) i h (2 * p + 2) = mlb mk none (lbOf il (zOf (kAt arg3 f3 oa hoa) (qT (srcOf il mk arg2 arg3 arg4 f2 f3 f4) i h))) := by
    intro h; unfold LB; rw [n2, hA]; rfl
  have r3 : ∀ h, LR (srcOf il mk arg2 arg3 arg4 f2 f3 f4) i h (2 * p + 3) = mlr none (lrOf il (zOf (kAt arg3 f3 ob hob) (qT (srcOf il mk arg2 arg3 arg4 f2 f3 f4) i h))) := by
    intro h; unfold LR; rw [n3, hB]; rfl
  have b3 : ∀ h, LB (srcOf il mk arg2 arg3 arg4 f2 f3 f4) i h (2 * p + 3) = mlb mk none (lbOf il (zOf (kAt arg3 f3 ob hob) (qT (srcOf il mk arg2 arg3 arg4 f2 f3 f4) i h))) := by
    intro h; unfold LB; rw [n3, hB]; rfl
  have e3 : 2 * (p + 1) + 1 = 2 * p + 3 := by omega
  have e2 : 2 * (p + 1) = 2 * p + 2 := by omega
  have x60 := h6 0
  have x61 := h6 1
  have x70 := h7 0
  have x71 := h7 1
  have x80 := h8 0
  have x81 := h8 1
  refine ⟨⟨?_, ?_, ?_⟩, ?_⟩
  · intro h; rw [e3, r3]; fin_cases h <;> simp [put]
  · intro h; rw [e3, b3]; fin_cases h <;> simp [put]
  · intro h; rw [e2]; unfold TT; rw [r2, b2]; fin_cases h <;> simp [put]
  · rw [show (1 : Fin 2) = 1 from rfl]
    simp only [put, show (0 : Fin 2) ≠ 1 from by decide, show (1 : Fin 2) ≠ 0 from by decide, if_true, if_false, x60, x61, x70, x71, x80, x81, hA0, hA1, hB0, hB1, ← r2, ← r3]
    unfold carryAt stv
    rw [e3, e2]
    rfl

end Cert.Proof.Sb

end
-- ==== Proof.Loops.lean ====
/-
  The inner loops' triples, the query blocks' trips and the whole kernel's: every query block's rows of the output end as
  `Out` of the blocks that the input buffers hold.
-/
module

public import proofs.«01_k».proof.Proof.Trips

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512
  k0_t1_loop k0_t2_loop k0_t3_loop k0_t4_loop k0_t5_loop k0_t6_loop k0_t7_loop
  k0_off1 k0_off2 k0_off3 k0_off4 k0_off5 k0_off6 k0_off7)
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable (il mk : F .f32) (arg2 : Memref sig .tc .vmem S1x16x128x512 .bf16) (arg3 : Memref sig .tc .vmem S1x8192x128 .bf16) (arg4 : Memref sig .tc .vmem S1x32x128x256 .bf16)
  (arg5 : Memref sig .tc .vmem S1x8192x128 .bf16) (arg6 : Memref sig .tc .vmem S2x2x256x512 .bf16) (harg6 : arg6.IsWhole) (arg7 : Memref sig .tc .vmem S2x2x256x512 .f32) (arg8 : Memref sig .tc .vmem S2x2x256x512 .f32)
variable (f2 : arg2.view.ty.Contents (Elt F)) (f3 : arg3.view.ty.Contents (Elt F)) (f4 : arg4.view.ty.Contents (Elt F))
variable {defs : Defs nD τ sig (Elt F) Λ} {c : Dev nD}

local notation "SRC" => srcOf il mk arg2 arg3 arg4 f2 f3 f4
local notation "INV" => Inv (U := U) il mk arg2 arg3 arg4 arg6 arg7 arg8 f2 f3 f4 c
local notation "WP" => wp (M := MT nD τ sig Unit (Elt F) ℕ U ℕ) frame (wpE defs Variants.none (c : Thread nD τ) none) Set.univ

theorem wp_trip4 (t : Fin k0_t1_loop.trips) (k : Fin (k0_t2_loop t).trips) (r : Fin 4) (x : Carry F) :
    INV (t.val + 1) (4 * k.val + r.val) x
      ⊢ WP (trip4 il mk arg3 arg4 arg6 harg6 arg7 arg8 t k r (qT SRC (t.val + 1) 0) (qT SRC (t.val + 1) 1) x) (INV (t.val + 1) (4 * k.val + r.val + 1)) := by
  have h1 : t.val < 15 := lt_of_lt_of_eq t.isLt t1_trips
  have h2 := k.isLt; have h3 := t2_trips t
  have h4 := r.isLt
  exact wp_trip il mk arg2 arg3 arg4 arg6 harg6 arg7 arg8 f2 f3 f4 (t.val + 1) _ (by omega) (by omega) _ _ _ _ _ _ _ _ _ _ _ _
    (off8_eq t k r) (off11_eq t k r) (off9_eq0 t k r) (off10_eq0 t k r) (off9_eq1 t k r) (off10_eq1 t k r) x

theorem wp_trips4 (t : Fin k0_t1_loop.trips) (k : Fin (k0_t2_loop t).trips) (x : Carry F) :
    INV (t.val + 1) (4 * k.val) x
      ⊢ WP (trips4 il mk arg3 arg4 arg6 harg6 arg7 arg8 t (qT SRC (t.val + 1) 0) (qT SRC (t.val + 1) 1) k x) (INV (t.val + 1) (4 * (k.val + 1))) := by
  unfold trips4
  simp only [wp_bind]
  refine (wp_trip4 il mk arg2 arg3 arg4 arg6 harg6 arg7 arg8 f2 f3 f4 t k 0 x).trans (wp_mono _ _ _ fun x1 => ?_)
  refine (wp_trip4 il mk arg2 arg3 arg4 arg6 harg6 arg7 arg8 f2 f3 f4 t k 1 x1).trans (wp_mono _ _ _ fun x2 => ?_)
  refine (wp_trip4 il mk arg2 arg3 arg4 arg6 harg6 arg7 arg8 f2 f3 f4 t k 2 x2).trans (wp_mono _ _ _ fun x3 => ?_)
  exact wp_trip4 il mk arg2 arg3 arg4 arg6 harg6 arg7 arg8 f2 f3 f4 t k 3 x3

theorem wp_trip2 (t : Fin k0_t1_loop.trips) (k : Fin (k0_t4_loop t).trips) (r : Fin 2) (x : Carry F) :
    INV (t.val + 1) (4 * ((t.val + 1) / 4) + (2 * k.val + r.val)) x
      ⊢ WP (trip2 il mk arg3 arg4 arg6 harg6 arg7 arg8 t k r (qT SRC (t.val + 1) 0) (qT SRC (t.val + 1) 1) x) (INV (t.val + 1) (4 * ((t.val + 1) / 4) + (2 * k.val + r.val) + 1)) := by
  have h1 : t.val < 15 := lt_of_lt_of_eq t.isLt t1_trips
  have h2 := k.isLt; have h3 := t4_trips t
  have h4 := r.isLt
  exact wp_trip il mk arg2 arg3 arg4 arg6 harg6 arg7 arg8 f2 f3 f4 (t.val + 1) _ (by omega) (by omega) _ _ _ _ _ _ _ _ _ _ _ _
    (off16_eq t k r) (off19_eq t k r) (off17_eq0 t k r) (off18_eq0 t k r) (off17_eq1 t k r) (off18_eq1 t k r) x

theorem wp_trips2 (t : Fin k0_t1_loop.trips) (k : Fin (k0_t4_loop t).trips) (x : Carry F) :
    INV (t.val + 1) (4 * ((t.val + 1) / 4) + 2 * k.val) x
      ⊢ WP (trips2 il mk arg3 arg4 arg6 harg6 arg7 arg8 t (qT SRC (t.val + 1) 0) (qT SRC (t.val + 1) 1) k x) (INV (t.val + 1) (4 * ((t.val + 1) / 4) + 2 * (k.val + 1))) := by
  unfold trips2
  simp only [wp_bind]
  refine (wp_trip2 il mk arg2 arg3 arg4 arg6 harg6 arg7 arg8 f2 f3 f4 t k 0 x).trans (wp_mono _ _ _ fun x1 => ?_)
  exact wp_trip2 il mk arg2 arg3 arg4 arg6 harg6 arg7 arg8 f2 f3 f4 t k 1 x1

theorem wp_trip1 (t : Fin k0_t1_loop.trips) (k : Fin (k0_t6_loop t).trips) (x : Carry F) :
    INV (t.val + 1) (4 * ((t.val + 1) / 4) + 2 * ((t.val + 1) % 4 / 2) + k.val) x
      ⊢ WP (trip1 il mk arg3 arg4 arg6 harg6 arg7 arg8 t k (qT SRC (t.val + 1) 0) (qT SRC (t.val + 1) 1) x) (INV (t.val + 1) (4 * ((t.val + 1) / 4) + 2 * ((t.val + 1) % 4 / 2) + (k.val + 1))) := by
  have h1 : t.val < 15 := lt_of_lt_of_eq t.isLt t1_trips
  have h2 := k.isLt; have h3 := t6_trips t
  exact wp_trip il mk arg2 arg3 arg4 arg6 harg6 arg7 arg8 f2 f3 f4 (t.val + 1) _ (by omega) (by omega) _ _ _ _ _ _ _ _ _ _ _ _
    (off24_eq t k) (off27_eq t k) (off25_eq0 t k) (off26_eq0 t k) (off25_eq1 t k) (off26_eq1 t k) x

/-- A loop of no trips leaves what it starts from. -/
theorem wp_loop0 (L : Scf.Loop 32) (ok : L.OK) (h0 : L.trips = 0) (x : Carry F) (b : Fin L.trips → Carry F → Prog (TpuEff nD τ sig (Elt F) Λ .tc) (Carry F))
    (Q : Carry F → sProp 𝕄) : Q x ⊢ WP (Scf.Loop.for L ok x b) Q := by
  refine BIBase.Entails.trans ?_ (Scf.wp_for frame (wpE defs Variants.none (c : Thread nD τ) none) Set.univ L.lb L.ub L.st ok x b (fun _ y => Q y)
    (fun k => absurd k.isLt (by have : Scf.trips L.lb L.ub L.st = 0 := h0; omega)) (Q := Q))
  iintro H
  isplitl [H]; · iexact H
  iintro %y H; iexact H

/-- The inner loops' triple. -/
theorem wp_tileLoops (t : Fin k0_t1_loop.trips) (x : Carry F) :
    INV (t.val + 1) 0 x
      ⊢ WP (tileLoops il mk arg3 arg4 arg6 harg6 arg7 arg8 t (qT SRC (t.val + 1) 0) (qT SRC (t.val + 1) 1) x) (INV (t.val + 1) (t.val + 1)) := by
  unfold tileLoops
  simp only [wp_bind]
  iintro H
  iapply (Scf.wp_for frame (wpE defs Variants.none (c : Thread nD τ) none) Set.univ (k0_t2_loop t).lb (k0_t2_loop t).ub (k0_t2_loop t).st (k0_t2_ok t) x _
    (fun k y => INV (t.val + 1) (4 * k) y) (fun k y => wp_trips4 il mk arg2 arg3 arg4 arg6 harg6 arg7 arg8 f2 f3 f4 t k y))
  isplitl [H]; · iexact H
  iintro %x2 H
  iapply (wp_loop0 (k0_t3_loop t) (k0_t3_ok t) (t3_trips t) x2)
  iapply (Scf.wp_for frame (wpE defs Variants.none (c : Thread nD τ) none) Set.univ (k0_t4_loop t).lb (k0_t4_loop t).ub (k0_t4_loop t).st (k0_t4_ok t) x2 _
    (fun k y => INV (t.val + 1) (4 * ((t.val + 1) / 4) + 2 * k) y) (fun k y => wp_trips2 il mk arg2 arg3 arg4 arg6 harg6 arg7 arg8 f2 f3 f4 t k y))
  have e2 : 4 * Scf.trips (k0_t2_loop t).lb (k0_t2_loop t).ub (k0_t2_loop t).st = 4 * ((t.val + 1) / 4) := congrArg (4 * ·) (t2_trips t)
  have e4 : 2 * Scf.trips (k0_t4_loop t).lb (k0_t4_loop t).ub (k0_t4_loop t).st = 2 * ((t.val + 1) % 4 / 2) := congrArg (2 * ·) (t4_trips t)
  have e6 : Scf.trips (k0_t6_loop t).lb (k0_t6_loop t).ub (k0_t6_loop t).st = (t.val + 1) % 2 := t6_trips t
  isplitl [H]; · rw [e2]; iexact H
  iintro %x4 H
  iapply (wp_loop0 (k0_t5_loop t) (k0_t5_ok t) (t5_trips t) x4)
  iapply (Scf.wp_for frame (wpE defs Variants.none (c : Thread nD τ) none) Set.univ (k0_t6_loop t).lb (k0_t6_loop t).ub (k0_t6_loop t).st (k0_t6_ok t) x4 _
    (fun k y => INV (t.val + 1) (4 * ((t.val + 1) / 4) + 2 * ((t.val + 1) % 4 / 2) + k) y) (fun k y => wp_trip1 il mk arg2 arg3 arg4 arg6 harg6 arg7 arg8 f2 f3 f4 t k y))
  isplitl [H]; · rw [e4]; iexact H
  iintro %x6 H
  iapply (wp_loop0 (k0_t7_loop t) (k0_t7_ok t) (t7_trips t) x6)
  rw [e6, show 4 * ((t.val + 1) / 4) + 2 * ((t.val + 1) % 4 / 2) + (t.val + 1) % 2 = t.val + 1 by omega]
  iexact H

/-- The output held, its first `n` blocks of rows written. -/
def Outs (c : Dev nD) (n : Nat) : sProp 𝕄 :=
  iprop(∃ f5, ⌜∀ i < n, oAt arg5 f5 ![0, 512 * (i % 16), 0] (out_inb i) = Out SRC i⌝ ∗ (arg5.view.loc (c : Thread nD τ) ↦{fullShare} f5))

local notation "OUTS" => Outs (U := U) il mk arg2 arg3 arg4 arg5 f2 f3 f4 c

/-- A block of rows written. -/
theorem wp_stOut (harg5 : arg5.IsWhole) (n : Nat) (hn : n < 16) (o : Fin 3 → Nat) (ho : ∀ a, o a + S1x512x128.size a ≤ S1x8192x128.size a)
    (hp : (Rect.unit (s := S1x8192x128) o S1x512x128.size ho).PackedRows (EltTy.packing .bf16)) (e : o = ![0, 512 * n, 0])
    (y : FVec F S1x512x128 .bf16) (ey : y = Out SRC n) (Q : PUnit → sProp 𝕄) :
    iprop(OUTS n ∗ (OUTS (n + 1) -∗ Q ⟨⟩)) ⊢ WP (stOut arg5 o ho hp harg5 y) Q := by
  haveI : ClosedOff o := ⟨o, rfl⟩
  conv_lhs => unfold Outs
  iintro ⟨⟨%f5, %hf, H5⟩, Hk⟩
  unfold stOut
  sl_exec
  sl_step
  iapply Hk
  iexists _; isplitr; swap; · iexact H5
  ipureintro
  intro i hi
  funext j
  rw [oAt, View.readAt_apply]
  subst e
  by_cases h : i = n
  · subst h
    rw [← ey]
    have hin : ∀ a, (((Rect.unit (s := S1x8192x128) ![0, 512 * (i % 16), 0] S1x512x128.size (out_inb i)).toLoadRect.idx j) a).val
        = (![0, 512 * i, 0] : Fin 3 → Nat) a + (j a).val := by
      intro a
      show (![0, 512 * (i % 16), 0] : Fin 3 → Nat) a + 1 * (j a).val = _
      rw [Nat.mod_eq_of_lt hn, Nat.one_mul]
    exact View.read_writes_cons_unit_of_mem arg5.view f5 ho y [] _ j rfl hin
  · rw [View.read_writes_cons_unit_of_not_mem _ _ _ _ _ _ rfl 1 (by
      left; show 512 * (i % 16) + 1 * (j 1).val < 512 * n
      have : (j 1).val < 512 := (j 1).isLt
      omega), ← hf i (by omega), oAt, View.readAt_apply]
    rfl

/-- A query block's load. -/
theorem wp_ldQ (o : Fin 4 → Nat) (ho : ∀ a, o a + S1x1x128x512.size a ≤ S1x16x128x512.size a) (Q : Vec F S1x1x128x512 .bf16 → sProp 𝕄) :
    iprop((arg2.view.loc (c : Thread nD τ) ↦{fullShare} f2) ∗ ((arg2.view.loc (c : Thread nD τ) ↦{fullShare} f2) -∗ Q (qAt arg2 f2 o ho)))
      ⊢ WP (ldQ arg2 o ho) Q := by
  iintro ⟨H2, Hk⟩
  sl_exec
  sl_step
  iapply Hk
  iexact H2

/-- What holds between query blocks: `i` blocks of rows written, block `i`'s last two stages to come. -/
def TInv (c : Dev nD) (i : Nat) (x : FVec F S1x512 .f32 × FVec F S1x512 .f32 × St F) : sProp 𝕄 :=
  iprop((arg2.view.loc (c : Thread nD τ) ↦{fullShare} f2) ∗ Outs (U := U) il mk arg2 arg3 arg4 arg5 f2 f3 f4 c i
    ∗ ∃ r0 r1, Inv (U := U) il mk arg2 arg3 arg4 arg6 arg7 arg8 f2 f3 f4 c i i (r0, r1, x))

local notation "TINV" => TInv (U := U) il mk arg2 arg3 arg4 arg5 arg6 arg7 arg8 f2 f3 f4 c

theorem qT_zero (S : Src F) (i : Nat) : qT S i 0 = tile0 (S.Q i) := if_pos rfl
theorem qT_one (S : Src F) (i : Nat) : qT S i 1 = tile1 (S.Q i) := if_neg (by decide)

/-- What a query block's trip starts with. -/
theorem wp_tileStart (harg5 : arg5.IsWhole) (t : Fin k0_t1_loop.trips) (x : FVec F S1x512 .f32 × FVec F S1x512 .f32 × St F) :
    TINV t.val x
      ⊢ WP (tileStart il mk arg2 arg3 arg4 arg5 arg6 harg6 arg7 arg8 harg5 t x)
          (fun s => iprop(⌜s.1 = qT SRC (t.val + 1) 0 ∧ s.2.1 = qT SRC (t.val + 1) 1⌝ ∗ (arg2.view.loc (c : Thread nD τ) ↦{fullShare} f2)
            ∗ OUTS (t.val + 1) ∗ INV (t.val + 1) 0 s.2.2)) := by
  have ht : t.val < 15 := lt_of_lt_of_eq t.isLt t1_trips
  have hQ := qAt_eq il mk arg2 arg3 arg4 f2 f3 f4 (k0_off1 t) (k0_off1_inb t) (t.val + 1) (by omega) (k0_off1_eq t)
  have hA := kAt_eq il mk arg2 arg3 arg4 f2 f3 f4 (k0_off2 t 0#32) (k0_off2_inb t 0) (2 * (t.val + 1) + 1 - 0) (by omega)
    ((k0_off2_eq t 0).trans (by rw [show (512 * t.val + 768) - 256 * (0 : Fin 2).val = 256 * (2 * (t.val + 1) + 1 - 0) by show 512 * t.val + 768 - 256 * 0 = _; omega]))
  have hB := kAt_eq il mk arg2 arg3 arg4 f2 f3 f4 (k0_off2 t 1#32) (k0_off2_inb t 1) (2 * (t.val + 1) + 1 - 1) (by omega)
    ((k0_off2_eq t 1).trans (by rw [show (512 * t.val + 768) - 256 * (1 : Fin 2).val = 256 * (2 * (t.val + 1) + 1 - 1) by show 512 * t.val + 768 - 256 * 1 = _; omega]))
  have hA0 := vAt_eq il mk arg2 arg3 arg4 f2 f3 f4 (k0_off3 t) (k0_off3_inb t) _ 0 (by omega) (off3_eq t)
  have hA1 := vAt_eq il mk arg2 arg3 arg4 f2 f3 f4 (k0_off4 t) (k0_off4_inb t) _ 1 (by omega) (off4_eq t)
  have hB0 := vAt_eq il mk arg2 arg3 arg4 f2 f3 f4 (k0_off5 t) (k0_off5_inb t) _ 0 (by omega) (off5_eq t)
  have hB1 := vAt_eq il mk arg2 arg3 arg4 f2 f3 f4 (k0_off6 t) (k0_off6_inb t) _ 1 (by omega) (off6_eq t)
  unfold tileStart
  conv_lhs => unfold TInv Inv
  simp only [wp_bind]
  iintro ⟨H2, H5, %r0, %r1, %X6, %X7, %X8, %hX, H3, H4, H6, H7, H8⟩
  iapply (wp_ldQ arg2 f2 (k0_off1 t) (k0_off1_inb t))
  isplitl [H2]; · iexact H2
  iintro H2
  rw [hQ, ← qT_zero, ← qT_one]
  iapply (wp_stageA il mk arg3 arg6 harg6 arg7 (k0_off2 t 0#32) (k0_off2_inb t 0) _ _ _ 0 X6 X7 f3)
  isplitl [H3]; · iexact H3
  isplitl [H6]; · iexact H6
  isplitl [H7]; · iexact H7
  iintro ⟨H3, H6, H7⟩
  iapply (wp_stageB suffix arg6 arg7 arg8 1 _ _ _ _ X8)
  isplitl [H6]; · iexact H6
  isplitl [H7]; · iexact H7
  isplitl [H8]; · iexact H8
  iintro ⟨H6, H7, H8⟩
  iapply (wp_stageA il mk arg3 arg6 harg6 arg7 (k0_off2 t 1#32) (k0_off2_inb t 1) _ _ _ 1 _ _ f3)
  isplitl [H3]; · iexact H3
  isplitl [H6]; · iexact H6
  isplitl [H7]; · iexact H7
  iintro ⟨H3, H6, H7⟩
  iapply (wp_stageC arg4 arg8 (k0_off3 t) (k0_off3_inb t) (k0_off4 t) (k0_off4_inb t) 0 _ _ _ _ f4)
  isplitl [H4]; · iexact H4
  isplitl [H8]; · iexact H8
  iintro ⟨H4, H8⟩
  iapply (wp_stageC arg4 arg8 (k0_off5 t) (k0_off5_inb t) (k0_off6 t) (k0_off6_inb t) 1 _ _ _ _ f4)
  isplitl [H4]; · iexact H4
  isplitl [H8]; · iexact H8
  iintro ⟨H4, H8⟩
  iapply (wp_stageB suffix arg6 arg7 arg8 0)
  isplitl [H6]; · iexact H6
  isplitl [H7]; · iexact H7
  isplitl [H8]; · iexact H8
  iintro ⟨H6, H7, H8⟩
  obtain ⟨⟨h6, h7, h8⟩, hx⟩ := hX
  have x60 := h6 0
  have x61 := h6 1
  have x70 := h7 0
  have x71 := h7 1
  have x80 := h8 0
  have x81 := h8 1
  obtain ⟨-, -, rfl⟩ : r0 = _ ∧ r1 = _ ∧ x = (carryAt SRC t.val t.val).2.2 := ⟨congrArg (·.1) hx, congrArg (·.2.1) hx, congrArg (·.2.2) hx⟩
  iapply (wp_stOut il mk arg2 arg3 arg4 arg5 f2 f3 f4 harg5 t.val (by omega) (k0_off7 t) (k0_off7_inb t) (k0_off7_packedbf16 t) (k0_off7_eq t) _ ?_)
  · simp only [put, show (0 : Fin 2) ≠ 1 from by decide, show (1 : Fin 2) ≠ 0 from by decide, if_true, if_false, x60, x61, x70, x71, x80, x81, hA0, hA1, hB0, hB1]
    rfl
  isplitl [H5]; · iexact H5
  iintro H5
  sl_step
  isplitr; · ipureintro; exact ⟨rfl, rfl⟩
  isplitl [H2]; · iexact H2
  isplitl [H5]; · iexact H5
  unfold Inv
  iexists _; iexists _; iexists _
  isplitr
  swap
  · isplitl [H3]; · iexact H3
    isplitl [H4]; · iexact H4
    isplitl [H6]; · iexact H6
    isplitl [H7]; · iexact H7
    iexact H8
  ipureintro
  have n0 : cmask 0 = some (causal 4294967040#32) := rfl
  have n1 : cmask 1 = some (causal 0#32) := rfl
  have r0 : ∀ h, LR SRC (t.val + 1) h 0 = mlr (some (causal 4294967040#32)) (lrOf il (zOf (kAt arg3 f3 (k0_off2 t 0#32) (k0_off2_inb t 0)) (qT SRC (t.val + 1) h))) := by
    intro h; unfold LR; rw [n0, hA]; rfl
  have b0 : ∀ h, LB SRC (t.val + 1) h 0 = mlb mk (some (causal 4294967040#32)) (lbOf il (zOf (kAt arg3 f3 (k0_off2 t 0#32) (k0_off2_inb t 0)) (qT SRC (t.val + 1) h))) := by
    intro h; unfold LB; rw [n0, hA]; rfl
  have r1 : ∀ h, LR SRC (t.val + 1) h 1 = mlr (some (causal 0#32)) (lrOf il (zOf (kAt arg3 f3 (k0_off2 t 1#32) (k0_off2_inb t 1)) (qT SRC (t.val + 1) h))) := by
    intro h; unfold LR; rw [n1, hB]; rfl
  have b1 : ∀ h, LB SRC (t.val + 1) h 1 = mlb mk (some (causal 0#32)) (lbOf il (zOf (kAt arg3 f3 (k0_off2 t 1#32) (k0_off2_inb t 1)) (qT SRC (t.val + 1) h))) := by
    intro h; unfold LB; rw [n1, hB]; rfl
  refine ⟨⟨?_, ?_, ?_⟩, ?_⟩
  · intro h; rw [show 2 * 0 + 1 = 1 from rfl, r1]; fin_cases h <;> simp [put]
  · intro h; rw [show 2 * 0 + 1 = 1 from rfl, b1]; fin_cases h <;> simp [put]
  · intro h; rw [show 2 * 0 = 0 from rfl]; unfold TT; rw [r0, b0]; fin_cases h <;> simp [put]
  · simp only [put, show (0 : Fin 2) ≠ 1 from by decide, show (1 : Fin 2) ≠ 0 from by decide, if_true, if_false, ← r0, ← r1]
    rfl

/-- A query block's trip. -/
theorem wp_tile (harg5 : arg5.IsWhole) (t : Fin k0_t1_loop.trips) (x : FVec F S1x512 .f32 × FVec F S1x512 .f32 × St F) :
    TINV t.val x
      ⊢ WP (tile il mk arg2 arg3 arg4 arg5 arg6 harg6 arg7 arg8 harg5 t x) (TINV (t.val + 1)) := by
  unfold tile
  simp only [wp_bind]
  refine (wp_tileStart il mk arg2 arg3 arg4 arg5 arg6 harg6 arg7 arg8 f2 f3 f4 harg5 t x).trans (wp_mono _ _ _ fun s => ?_)
  iintro ⟨%hs, H2, H5, HI⟩
  rw [hs.1, hs.2]
  iapply (wp_wand_r _ _ _)
  isplitl [HI]
  · iapply (wp_tileLoops il mk arg2 arg3 arg4 arg6 harg6 arg7 arg8 f2 f3 f4 t s.2.2); iexact HI
  iintro %y HI
  sl_step
  unfold TInv
  isplitl [H2]; · iexact H2
  isplitl [H5]; · iexact H5
  iexists y.1; iexists y.2.1
  iexact HI

/-- The first query block's causal key blocks. -/
theorem wp_start (X6 : Pieces F .bf16) (X7 X8 : Pieces F .f32) :
    iprop((arg2.view.loc (c : Thread nD τ) ↦{fullShare} f2) ∗ (arg3.view.loc (c : Thread nD τ) ↦{fullShare} f3) ∗ (arg4.view.loc (c : Thread nD τ) ↦{fullShare} f4)
      ∗ OUTS 0 ∗ Sc c arg6 X6 ∗ Sc c arg7 X7 ∗ Sc c arg8 X8)
      ⊢ WP (start il mk arg2 arg3 arg6 harg6 arg7 arg8) (TINV 0) := by
  have hQ := qAt_eq il mk arg2 arg3 arg4 f2 f3 f4 ![0, 0, 0, 0] inb_S1x16x128x512_S1x1x128x512_0_0_0_0 0 (by omega) rfl
  have hA := kAt_eq il mk arg2 arg3 arg4 f2 f3 f4 ![0, 256, 0] inb_S1x8192x128_S1x256x128_0_256_0 1 (by omega) rfl
  have hB := kAt_eq il mk arg2 arg3 arg4 f2 f3 f4 ![0, 0, 0] inb_S1x8192x128_S1x256x128_0_0_0 0 (by omega) rfl
  unfold start
  simp only [wp_bind]
  iintro ⟨H2, H3, H4, H5, H6, H7, H8⟩
  iapply (wp_ldQ arg2 f2 ![0, 0, 0, 0] inb_S1x16x128x512_S1x1x128x512_0_0_0_0)
  isplitl [H2]; · iexact H2
  iintro H2
  rw [hQ, ← qT_zero, ← qT_one]
  iapply (wp_stageA il mk arg3 arg6 harg6 arg7 ![0, 256, 0] inb_S1x8192x128_S1x256x128_0_256_0 _ _ _ 0 X6 X7 f3)
  isplitl [H3]; · iexact H3
  isplitl [H6]; · iexact H6
  isplitl [H7]; · iexact H7
  iintro ⟨H3, H6, H7⟩
  iapply (wp_stageA il mk arg3 arg6 harg6 arg7 ![0, 0, 0] inb_S1x8192x128_S1x256x128_0_0_0 _ _ _ 1 _ _ f3)
  isplitl [H3]; · iexact H3
  isplitl [H6]; · iexact H6
  isplitl [H7]; · iexact H7
  iintro ⟨H3, H6, H7⟩
  iapply (wp_stageB suffix arg6 arg7 arg8 0)
  isplitl [H6]; · iexact H6
  isplitl [H7]; · iexact H7
  isplitl [H8]; · iexact H8
  iintro ⟨H6, H7, H8⟩
  sl_step
  unfold TInv Inv
  isplitl [H2]; · iexact H2
  isplitl [H5]; · iexact H5
  iexists (row0 (LR SRC 0 0 1)); iexists (row0 (LR SRC 0 1 1))
  iexists _; iexists _; iexists _
  isplitr
  swap
  · isplitl [H3]; · iexact H3
    isplitl [H4]; · iexact H4
    isplitl [H6]; · iexact H6
    isplitl [H7]; · iexact H7
    iexact H8
  ipureintro
  have r0 : ∀ h, LR SRC 0 h 0 = mlr (some (causal 4294967040#32)) (lrOf il (zOf (kAt arg3 f3 ![0, 256, 0] inb_S1x8192x128_S1x256x128_0_256_0) (qT SRC 0 h))) := by
    intro h; rw [hA]; rfl
  have b0 : ∀ h, LB SRC 0 h 0 = mlb mk (some (causal 4294967040#32)) (lbOf il (zOf (kAt arg3 f3 ![0, 256, 0] inb_S1x8192x128_S1x256x128_0_256_0) (qT SRC 0 h))) := by
    intro h; rw [hA]; rfl
  have r1 : ∀ h, LR SRC 0 h 1 = mlr (some (causal 0#32)) (lrOf il (zOf (kAt arg3 f3 ![0, 0, 0] inb_S1x8192x128_S1x256x128_0_0_0) (qT SRC 0 h))) := by
    intro h; rw [hB]; rfl
  have b1 : ∀ h, LB SRC 0 h 1 = mlb mk (some (causal 0#32)) (lbOf il (zOf (kAt arg3 f3 ![0, 0, 0] inb_S1x8192x128_S1x256x128_0_0_0) (qT SRC 0 h))) := by
    intro h; rw [hB]; rfl
  refine ⟨⟨?_, ?_, ?_⟩, ?_⟩
  · intro h; rw [show 2 * 0 + 1 = 1 from rfl, r1]; fin_cases h <;> simp [put]
  · intro h; rw [show 2 * 0 + 1 = 1 from rfl, b1]; fin_cases h <;> simp [put]
  · intro h; rw [show 2 * 0 = 0 from rfl]; unfold TT; rw [r0, b0]; fin_cases h <;> simp [put]
  · simp only [put, show (0 : Fin 2) ≠ 1 from by decide, show (1 : Fin 2) ≠ 0 from by decide, if_true, if_false, ← r0, ← r1]
    rfl

/-- The inputs, the output with `n` blocks written, and the scratch. -/
def Done (c : Dev nD) (n : Nat) : sProp 𝕄 :=
  iprop((arg2.view.loc (c : Thread nD τ) ↦{fullShare} f2) ∗ (arg3.view.loc (c : Thread nD τ) ↦{fullShare} f3) ∗ (arg4.view.loc (c : Thread nD τ) ↦{fullShare} f4)
    ∗ Outs (U := U) il mk arg2 arg3 arg4 arg5 f2 f3 f4 c n ∗ (∃ X6, Sc c arg6 X6) ∗ (∃ X7, Sc c arg7 X7) ∗ (∃ X8, Sc c arg8 X8))

/-- The last query block's last stages and output. -/
theorem wp_finish (harg5 : arg5.IsWhole) (x : FVec F S1x512 .f32 × FVec F S1x512 .f32 × St F) :
    TINV 15 x ⊢ WP (finish arg4 arg5 arg6 arg7 arg8 harg5 x) (fun _ => Done (U := U) il mk arg2 arg3 arg4 arg5 arg6 arg7 arg8 f2 f3 f4 c 16) := by
  have hA0 := vAt_eq il mk arg2 arg3 arg4 f2 f3 f4 ![0, 1, 0, 0] inb_S1x32x128x256_S1x1x64x256_0_1_0_0 1 0 (by omega) rfl
  have hA1 := vAt_eq il mk arg2 arg3 arg4 f2 f3 f4 ![0, 1, 64, 0] inb_S1x32x128x256_S1x1x64x256_0_1_64_0 1 1 (by omega) rfl
  have hB0 := vAt_eq il mk arg2 arg3 arg4 f2 f3 f4 ![0, 0, 0, 0] inb_S1x32x128x256_S1x1x64x256_0_0_0_0 0 0 (by omega) rfl
  have hB1 := vAt_eq il mk arg2 arg3 arg4 f2 f3 f4 ![0, 0, 64, 0] inb_S1x32x128x256_S1x1x64x256_0_0_64_0 0 1 (by omega) rfl
  unfold finish
  conv_lhs => unfold TInv Inv
  simp only [wp_bind]
  iintro ⟨H2, H5, %r0, %r1, %X6, %X7, %X8, %hX, H3, H4, H6, H7, H8⟩
  iapply (wp_stageB suffix arg6 arg7 arg8 1 _ _ _ _ X8)
  isplitl [H6]; · iexact H6
  isplitl [H7]; · iexact H7
  isplitl [H8]; · iexact H8
  iintro ⟨H6, H7, H8⟩
  iapply (wp_stageC arg4 arg8 ![0, 1, 0, 0] inb_S1x32x128x256_S1x1x64x256_0_1_0_0 ![0, 1, 64, 0] inb_S1x32x128x256_S1x1x64x256_0_1_64_0 0 _ _ _ _ f4)
  isplitl [H4]; · iexact H4
  isplitl [H8]; · iexact H8
  iintro ⟨H4, H8⟩
  iapply (wp_stageC arg4 arg8 ![0, 0, 0, 0] inb_S1x32x128x256_S1x1x64x256_0_0_0_0 ![0, 0, 64, 0] inb_S1x32x128x256_S1x1x64x256_0_0_64_0 1 _ _ _ _ f4)
  isplitl [H4]; · iexact H4
  isplitl [H8]; · iexact H8
  iintro ⟨H4, H8⟩
  obtain ⟨⟨h6, h7, h8⟩, hx⟩ := hX
  have x60 := h6 0
  have x61 := h6 1
  have x70 := h7 0
  have x71 := h7 1
  have x80 := h8 0
  have x81 := h8 1
  obtain ⟨-, -, rfl⟩ : r0 = _ ∧ r1 = _ ∧ x = (carryAt SRC 15 15).2.2 := ⟨congrArg (·.1) hx, congrArg (·.2.1) hx, congrArg (·.2.2) hx⟩
  iapply (wp_stOut il mk arg2 arg3 arg4 arg5 f2 f3 f4 harg5 15 (by omega) ![0, 7680, 0] inb_S1x8192x128_S1x512x128_0_7680_0 packedbf16_S1x8192x128_S1x512x128_0_7680_0 rfl _ ?_)
  · simp only [put, show (0 : Fin 2) ≠ 1 from by decide, show (1 : Fin 2) ≠ 0 from by decide, if_true, if_false, x60, x61, x70, x71, x80, x81, hA0, hA1, hB0, hB1]
    rfl
  isplitl [H5]; · iexact H5
  iintro H5
  unfold Done
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The kernel's triple. -/
theorem wp_body (harg5 : arg5.IsWhole) (X6 : Pieces F .bf16) (X7 X8 : Pieces F .f32) :
    iprop((arg2.view.loc (c : Thread nD τ) ↦{fullShare} f2) ∗ (arg3.view.loc (c : Thread nD τ) ↦{fullShare} f3) ∗ (arg4.view.loc (c : Thread nD τ) ↦{fullShare} f4)
      ∗ OUTS 0 ∗ Sc c arg6 X6 ∗ Sc c arg7 X7 ∗ Sc c arg8 X8)
      ⊢ WP (body il mk arg2 arg3 arg4 arg5 arg6 harg6 arg7 arg8 harg5) (fun _ => Done (U := U) il mk arg2 arg3 arg4 arg5 arg6 arg7 arg8 f2 f3 f4 c 16) := by
  unfold body
  simp only [wp_bind]
  refine (wp_start il mk arg2 arg3 arg4 arg5 arg6 harg6 arg7 arg8 f2 f3 f4 X6 X7 X8).trans (wp_mono _ _ _ fun x => ?_)
  iintro H
  iapply (Scf.wp_for frame (wpE defs Variants.none (c : Thread nD τ) none) Set.univ k0_t1_loop.lb k0_t1_loop.ub k0_t1_loop.st k0_t1_ok x _
    (fun k y => TINV k y) (fun k y => wp_tile il mk arg2 arg3 arg4 arg5 arg6 harg6 arg7 arg8 f2 f3 f4 harg5 k y))
  isplitl [H]; · iexact H
  iintro %y H
  iapply (wp_finish il mk arg2 arg3 arg4 arg5 arg6 arg7 arg8 f2 f3 f4 harg5 y)
  rw [show Scf.trips k0_t1_loop.lb k0_t1_loop.ub k0_t1_loop.st = 15 from t1_trips]
  iexact H

end Cert.Proof.Sb

end
-- ==== Proof.Whole.lean ====
/-
  The whole kernel's triple in terms of what its buffers read as: the inputs' blocks `x2`, `x3`, `x4` are left as they were
  and the output block ends as `outV` of them, one query block of 512 rows after another.
-/
module

public import proofs.«01_k».proof.Proof.Loops
public import Idealize.ShloMosaic.Lib.Pipeline.FrameBody

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512)
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

/-- The blocks that the three inputs' contents hold. -/
def srcV (il mk : F .f32) (x2 : Vec F S1x16x128x512 .bf16) (x3 : Vec F S1x8192x128 .bf16) (x4 : Vec F S1x32x128x256 .bf16) : Src F where
  il := il
  msk := mk
  Q i := View.ld x2 (Rect.unit (s := S1x16x128x512) ![0, i % 16, 0, 0] S1x1x128x512.size (q_inb i))
  K n := View.ld x3 (Rect.unit (s := S1x8192x128) ![0, 256 * (n % 32), 0] S1x256x128.size (k_inb n))
  V n h := View.ld x4 (Rect.unit (s := S1x32x128x256) ![0, n % 32, 64 * h.val, 0] S1x1x64x256.size (v_inb n h))

/-- Where an output row's query block has it. -/
def inBlock (j : S1x8192x128.Idx) : S1x512x128.Idx := fun a => match a with
  | ⟨0, _⟩ => (0 : Fin 1)
  | ⟨1, _⟩ => (⟨(j 1).val % 512, Nat.mod_lt _ (by decide)⟩ : Fin 512)
  | ⟨2, _⟩ => (⟨(j 2).val, (j 2).isLt⟩ : Fin 128)

/-- The output block. -/
def outV (il mk : F .f32) (x2 : Vec F S1x16x128x512 .bf16) (x3 : Vec F S1x8192x128 .bf16) (x4 : Vec F S1x32x128x256 .bf16) : Vec F S1x8192x128 .bf16 :=
  fun j => Out (srcV il mk x2 x3 x4) ((j 1).val / 512) (inBlock j)

variable (il mk : F .f32) (arg2 : Memref sig .tc .vmem S1x16x128x512 .bf16) (arg3 : Memref sig .tc .vmem S1x8192x128 .bf16) (arg4 : Memref sig .tc .vmem S1x32x128x256 .bf16)
  (arg5 : Memref sig .tc .vmem S1x8192x128 .bf16) (arg6 : Memref sig .tc .vmem S2x2x256x512 .bf16) (harg6 : arg6.IsWhole) (arg7 : Memref sig .tc .vmem S2x2x256x512 .f32) (arg8 : Memref sig .tc .vmem S2x2x256x512 .f32)

theorem srcOf_eq (f2 : arg2.view.ty.Contents (Elt F)) (f3 : arg3.view.ty.Contents (Elt F)) (f4 : arg4.view.ty.Contents (Elt F)) :
    srcOf il mk arg2 arg3 arg4 f2 f3 f4 = srcV il mk (arg2.view.read (Elt F) f2) (arg3.view.read (Elt F) f3) (arg4.view.read (Elt F) f4) := rfl

/-- An output row lies in its query block. -/
theorem row_eq (j : S1x8192x128.Idx) :
    (Rect.unit (s := S1x8192x128) ![0, 512 * ((j 1).val / 512 % 16), 0] S1x512x128.size (out_inb ((j 1).val / 512))).idx (inBlock j) = j := by
  have h1 : (j 1).val < 8192 := (j 1).isLt
  have h0 : (j 0).val < 1 := (j 0).isLt
  funext a
  apply Fin.ext
  match a with
  | ⟨0, _⟩ => show 0 + 1 * 0 = (j 0).val; omega
  | ⟨1, _⟩ => show 512 * ((j 1).val / 512 % 16) + 1 * ((j 1).val % 512) = (j 1).val; omega
  | ⟨2, _⟩ => show 0 + 1 * (j 2).val = (j 2).val; omega

/-- Every query block's rows written, the output reads as `outV`. -/
theorem read_out (S : Src F) (f5 : arg5.view.ty.Contents (Elt F))
    (h : ∀ i < 16, oAt arg5 f5 ![0, 512 * (i % 16), 0] (out_inb i) = Out S i) :
    arg5.view.read (Elt F) f5 = fun j => Out S ((j 1).val / 512) (inBlock j) := by
  funext j
  have h1 : (j 1).val < 8192 := (j 1).isLt
  rw [← h ((j 1).val / 512) (by omega)]
  show arg5.view.read (Elt F) f5 j = View.ld (arg5.view.read (Elt F) f5) (Rect.unit (s := S1x8192x128) ![0, 512 * ((j 1).val / 512 % 16), 0] S1x512x128.size (out_inb ((j 1).val / 512))) (inBlock j)
  rw [View.ld, row_eq j]

/-- The whole kernel's triple, for any continuation. -/
theorem wp_whole (defs : Defs nD τ sig (Elt F) Λ) (c : Dev nD) (harg2 : arg2.IsWhole) (harg3 : arg3.IsWhole) (harg4 : arg4.IsWhole) (harg5 : arg5.IsWhole) (harg7 : arg7.IsWhole) (harg8 : arg8.IsWhole)
    (x2 : Vec F S1x16x128x512 .bf16) (x3 : Vec F S1x8192x128 .bf16) (x4 : Vec F S1x32x128x256 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (outV il mk x2 x3 x4) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE defs Variants.none (c : Thread nD τ) none) Set.univ (body il mk arg2 arg3 arg4 arg5 arg6 harg6 arg7 arg8 harg5) K := by
  unfold owns
  rw [harg2.set_eq_univ, harg3.set_eq_univ, harg4.set_eq_univ, harg5.set_eq_univ, harg6.set_eq_univ, harg7.set_eq_univ, harg8.set_eq_univ]
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  iapply (wp_wand_r frame (wpE defs Variants.none (c : Thread nD τ) none) (Q := fun _ => Done (U := U) il mk arg2 arg3 arg4 arg5 arg6 arg7 arg8 f2 f3 f4 c 16))
  isplitr [Hk]
  · iapply (wp_body (U := U) (defs := defs) (c := c) il mk arg2 arg3 arg4 arg5 arg6 harg6 arg7 arg8 f2 f3 f4 harg5
      (fun s h => arg6.view.readAt (Elt F) (slotR s h).toLoadRect f6) (fun s h => arg7.view.readAt (Elt F) (slotR s h).toLoadRect f7)
      (fun s h => arg8.view.readAt (Elt F) (slotR s h).toLoadRect f8))
    unfold Outs Sc
    isplitl [H2]; · iexact H2
    isplitl [H3]; · iexact H3
    isplitl [H4]; · iexact H4
    isplitl [H5]
    · iexists f5; isplitr; · ipureintro; intro i hi; omega
      iexact H5
    isplitl [H6]
    · iexists f6; isplitr; · ipureintro; intro s h; rfl
      iexact H6
    isplitl [H7]
    · iexists f7; isplitr; · ipureintro; intro s h; rfl
      iexact H7
    iexists f8; isplitr; · ipureintro; intro s h; rfl
    iexact H8
  iintro %_ HD
  iapply Hk
  unfold Done Outs Sc
  icases HD with ⟨H2, H3, H4, ⟨%g5, %hg5, H5⟩, ⟨%X6, %g6, %h6, H6⟩, ⟨%X7, %g7, %h7, H7⟩, ⟨%X8, %g8, %h8, H8⟩⟩
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists g5; isplitr
    · ipureintro; exact read_out arg5 _ g5 hg5
    iexact H5
  isplitl [H6]
  · iexists _, g6; isplitr; swap; · iexact H6
    ipureintro; rfl
  isplitl [H7]
  · iexists _, g7; isplitr; swap; · iexact H7
    ipureintro; rfl
  iexists _, g8; isplitr; swap; · iexact H8
  ipureintro; rfl

end Cert.Proof.Sb

end
-- ==== Proof.KernelIdealEq.lean ====
/-
  The ideal form of the kernel is the sequence of stages of `Body.lean`, loop by loop.
-/
module

public import proofs.«01_k».proof.Proof.Body
public import proofs.«01_k».proof.Proof.Gen.KernelIdeal.Skeleton

@[expose] public section

set_option maxRecDepth 65536

noncomputable section

namespace Cert.Proof.KernelIdeal

open Cert.KernelIdeal Cert.KernelIdeal.Gen
open Idealize.ShloMosaic Idealize.SL.Sem

variable {F : FTy → Type} [FloatOps F] [Named F]

/-- The constant that turns natural logs into base-two ones. -/
abbrev il : F .f32 := Named.named κ "inv_ln2" 0x3FB8AA3B#32
/-- The constant off the causal mask. -/
abbrev mk : F .f32 := Named.named κ "mask" 0xF149F2CA#32

/-- Loop 2's body. -/
theorem t2_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v8 : FVec F S256x256 .bf16) (k0_t1 : Fin k0_t1_loop.trips) (arg9 : BitVec 32) (v237 : FVec F S128x512 .bf16) (v240 : FVec F S128x512 .bf16) (v358 : FVec F S1x512 .f32) (v384 : FVec F S1x512 .f32) (v444 : FVec F S1x512 .f32) (v455 : FVec F S1x512 .f32) (v464 : FVec F S1x512x128 .bf16) (v472 : BitVec 32) (t : Fin (k0_t2_loop k0_t1).trips) (x : Sb.Carry F) (hv8 : v8 = Sb.suffix) :
    k0_t2_body i arg2 harg2 arg3 harg3 arg4 harg4 arg5 harg5 arg6 harg6 arg7 harg7 arg8 harg8 v8 k0_t1 arg9 v237 v240 v358 v384 v444 v455 v464 v472 t x = Sb.trips4 il mk arg3 arg4 arg6 harg6 arg7 arg8 k0_t1 v237 v240 t x := by
  subst hv8; rfl

/-- Loop 3's body. -/
theorem t3_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v8 : FVec F S256x256 .bf16) (k0_t1 : Fin k0_t1_loop.trips) (arg9 : BitVec 32) (v237 : FVec F S128x512 .bf16) (v240 : FVec F S128x512 .bf16) (v358 : FVec F S1x512 .f32) (v384 : FVec F S1x512 .f32) (v444 : FVec F S1x512 .f32) (v455 : FVec F S1x512 .f32) (v464 : FVec F S1x512x128 .bf16) (v472 : BitVec 32) (v479 : BitVec 32) (t : Fin (k0_t3_loop k0_t1).trips) (x : Sb.Carry F) (hv8 : v8 = Sb.suffix) :
    k0_t3_body i arg2 harg2 arg3 harg3 arg4 harg4 arg5 harg5 arg6 harg6 arg7 harg7 arg8 harg8 v8 k0_t1 arg9 v237 v240 v358 v384 v444 v455 v464 v472 v479 t x = Sb.trips4r il mk arg3 arg4 arg6 harg6 arg7 arg8 k0_t1 v237 v240 t x := by
  subst hv8; rfl

/-- Loop 4's body. -/
theorem t4_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v8 : FVec F S256x256 .bf16) (k0_t1 : Fin k0_t1_loop.trips) (arg9 : BitVec 32) (v237 : FVec F S128x512 .bf16) (v240 : FVec F S128x512 .bf16) (v358 : FVec F S1x512 .f32) (v384 : FVec F S1x512 .f32) (v444 : FVec F S1x512 .f32) (v455 : FVec F S1x512 .f32) (v464 : FVec F S1x512x128 .bf16) (v472 : BitVec 32) (v483 : BitVec 32) (t : Fin (k0_t4_loop k0_t1).trips) (x : Sb.Carry F) (hv8 : v8 = Sb.suffix) :
    k0_t4_body i arg2 harg2 arg3 harg3 arg4 harg4 arg5 harg5 arg6 harg6 arg7 harg7 arg8 harg8 v8 k0_t1 arg9 v237 v240 v358 v384 v444 v455 v464 v472 v483 t x = Sb.trips2 il mk arg3 arg4 arg6 harg6 arg7 arg8 k0_t1 v237 v240 t x := by
  subst hv8; rfl

/-- Loop 5's body. -/
theorem t5_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v8 : FVec F S256x256 .bf16) (k0_t1 : Fin k0_t1_loop.trips) (arg9 : BitVec 32) (v237 : FVec F S128x512 .bf16) (v240 : FVec F S128x512 .bf16) (v358 : FVec F S1x512 .f32) (v384 : FVec F S1x512 .f32) (v444 : FVec F S1x512 .f32) (v455 : FVec F S1x512 .f32) (v464 : FVec F S1x512x128 .bf16) (v472 : BitVec 32) (v483 : BitVec 32) (v490 : BitVec 32) (t : Fin (k0_t5_loop k0_t1).trips) (x : Sb.Carry F) (hv8 : v8 = Sb.suffix) :
    k0_t5_body i arg2 harg2 arg3 harg3 arg4 harg4 arg5 harg5 arg6 harg6 arg7 harg7 arg8 harg8 v8 k0_t1 arg9 v237 v240 v358 v384 v444 v455 v464 v472 v483 v490 t x = Sb.trips2r il mk arg3 arg4 arg6 harg6 arg7 arg8 k0_t1 v237 v240 t x := by
  subst hv8; rfl

/-- Loop 6's body. -/
theorem t6_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v2 : IVec S256x512 32) (v8 : FVec F S256x256 .bf16) (v50 : FVec F S1x512 .f32) (v76 : FVec F S1x512 .f32) (v135 : FVec F S256x512 .f32) (v141 : FVec F S1x1x256x512 .f32) (k0_t1 : Fin k0_t1_loop.trips) (v237 : FVec F S128x512 .bf16) (v240 : FVec F S128x512 .bf16) (v472 : BitVec 32) (v494 : BitVec 32) (c0_i32_354 : BitVec 32) (t : Fin (k0_t6_loop k0_t1).trips) (x : Sb.Carry F) (hv8 : v8 = Sb.suffix) :
    k0_t6_body i arg2 harg2 arg3 harg3 arg4 harg4 arg5 harg5 arg6 harg6 arg7 harg7 arg8 harg8 v2 v8 v50 v76 v135 v141 k0_t1 v237 v240 v472 v494 c0_i32_354 t x = Sb.trip1 il mk arg3 arg4 arg6 harg6 arg7 arg8 k0_t1 t v237 v240 x := by
  subst hv8; rfl

/-- Loop 7's body. -/
theorem t7_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v2 : IVec S256x512 32) (v8 : FVec F S256x256 .bf16) (v50 : FVec F S1x512 .f32) (v76 : FVec F S1x512 .f32) (v135 : FVec F S256x512 .f32) (v141 : FVec F S1x1x256x512 .f32) (k0_t1 : Fin k0_t1_loop.trips) (v237 : FVec F S128x512 .bf16) (v240 : FVec F S128x512 .bf16) (v472 : BitVec 32) (v494 : BitVec 32) (v501 : BitVec 32) (t : Fin (k0_t7_loop k0_t1).trips) (x : Sb.Carry F) (hv8 : v8 = Sb.suffix) :
    k0_t7_body i arg2 harg2 arg3 harg3 arg4 harg4 arg5 harg5 arg6 harg6 arg7 harg7 arg8 harg8 v2 v8 v50 v76 v135 v141 k0_t1 v237 v240 v472 v494 v501 t x = Sb.trip1r il mk arg3 arg4 arg6 harg6 arg7 arg8 k0_t1 t v237 v240 x := by
  subst hv8; rfl

/-- The rows of the previous block's output, the causal blocks' two first stages and what the loops start from. -/
def preStart (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (t1 : Fin k0_t1_loop.trips) (x : FVec F S1x512 .f32 × FVec F S1x512 .f32 × Sb.St F) :
    Prog (TpuEff nD τ sig (Elt F) Λ₀ .tc) (FVec F S128x512 .bf16 × FVec F S128x512 .bf16 × Sb.Carry F × FVec F S1x512x128 .bf16) := do
  let q ← Sb.ldQ arg2 (k0_off1 t1) (k0_off1_inb t1)
  let rA ← Sb.stageA il mk arg3 arg6 harg6 arg7 (k0_off2 t1 0#32) (k0_off2_inb t1 0) (some (Sb.causal 4294967040#32)) (Sb.tile0 q) (Sb.tile1 q) 0
  let _ ← Sb.stageB Sb.suffix arg6 arg7 arg8 1 Sb.zero1 Sb.zero1
  let rB ← Sb.stageA il mk arg3 arg6 harg6 arg7 (k0_off2 t1 1#32) (k0_off2_inb t1 1) (some (Sb.causal 0#32)) (Sb.tile0 q) (Sb.tile1 q) 1
  let st ← Sb.stageC arg4 arg8 (k0_off3 t1) (k0_off3_inb t1) (k0_off4 t1) (k0_off4_inb t1) 0 x.1 x.2.1 x.2.2
  let st ← Sb.stageC arg4 arg8 (k0_off5 t1) (k0_off5_inb t1) (k0_off6 t1) (k0_off6_inb t1) 1 Sb.zero1 Sb.zero1 st
  let uA ← Sb.stageB Sb.suffix arg6 arg7 arg8 0 rA.1 rA.2
  let _ : Vec F S1x512x128 .bf16 ← Prog.lift (.load arg5 (Rect.unit (s := S1x8192x128) (k0_off7 t1) S1x512x128.size (k0_off7_inb t1)).toLoadRect (View.loadsAt_vmem h_S1x512x128))
  pure (Sb.tile0 q, Sb.tile1 q, (rB.1, rB.2, uA.1, uA.2, Sb.zero1, Sb.zero64, Sb.zero1, Sb.zero64), Sb.yOf st.2.1 st.2.2.2)

section
attribute [local irreducible] k0_part92 k0_t6_body k0_t7_body

/-- A query block's trip up to its loops, and the loops. -/
theorem t1_eq1 (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v50 v76 : FVec F S1x512 .f32) (v135 : FVec F S256x512 .f32) (v141 : FVec F S1x1x256x512 .f32) (t1 : Fin k0_t1_loop.trips)
    (x : FVec F S1x512 .f32 × FVec F S1x512 .f32 × Sb.St F) :
    k0_t1_body i arg2 harg2 arg3 harg3 arg4 harg4 arg5 harg5 arg6 harg6 arg7 harg7 arg8 harg8 Sb.offsets Sb.suffix v50 v76 v135 v141 t1 x = (do
      let s ← preStart i arg2 harg2 arg3 harg3 arg4 harg4 arg5 harg5 arg6 harg6 arg7 harg7 arg8 harg8 t1 x
      let w ← k0_part92 i arg2 harg2 arg3 harg3 arg4 harg4 arg5 harg5 arg6 harg6 arg7 harg7 arg8 harg8 Sb.suffix t1 (Scf.iv 1#32 1#32 t1) s.1 s.2.1 s.2.2.1.1 s.2.2.1.2.1 s.2.2.1.2.2.1 s.2.2.1.2.2.2.1 s.2.2.2
      let y ← Scf.Loop.for (k0_t6_loop t1) (k0_t6_ok t1) (w.2.1, w.2.2.1, w.2.2.2.1, w.2.2.2.2.1, w.2.2.2.2.2.1, w.2.2.2.2.2.2.1, w.2.2.2.2.2.2.2.1, w.2.2.2.2.2.2.2.2.1)
        (k0_t6_body i arg2 harg2 arg3 harg3 arg4 harg4 arg5 harg5 arg6 harg6 arg7 harg7 arg8 harg8 Sb.offsets Sb.suffix v50 v76 v135 v141 t1 s.1 s.2.1 w.1 w.2.2.2.2.2.2.2.2.2.1 w.2.2.2.2.2.2.2.2.2.2.1)
      let y ← Scf.Loop.for (k0_t7_loop t1) (k0_t7_ok t1) y
        (k0_t7_body i arg2 harg2 arg3 harg3 arg4 harg4 arg5 harg5 arg6 harg6 arg7 harg7 arg8 harg8 Sb.offsets Sb.suffix v50 v76 v135 v141 t1 s.1 s.2.1 w.1 w.2.2.2.2.2.2.2.2.2.1 (Scalar.addi w.2.2.2.2.2.2.2.2.2.2.1 (Scalar.muli (Scalar.divsi w.2.2.2.2.2.2.2.2.2.2.2.1 w.2.2.2.2.2.2.2.2.2.2.2.2) w.2.2.2.2.2.2.2.2.2.2.2.2)))
      pure y.2.2) := by
  rfl

end

/-- The words the printed part of the first four loops computes. -/
def words92 (arg9 : BitVec 32) : (BitVec 32 × BitVec 32) × (BitVec 32 × BitVec 32) × BitVec 32 × BitVec 32 × BitVec 32 × BitVec 32 :=
  let v469 : BitVec 32 := Scalar.addi arg9 1#32
  let v470 : BitVec 32 := Scalar.addi arg9 1#32
  let v471 : BitVec 32 := Scalar.muli v470 2#32
  let v472 : BitVec 32 := Scalar.subi v471 1#32
  let v473 : BitVec 32 := Scalar.subi v469 1#32
  let v474 : BitVec 32 := Scalar.shrui v473 2#32
  let v475 : BitVec 32 := Scalar.subi v474 0#32
  let v477 : BitVec 32 := Scalar.divsi v475 1#32
  let v478 : BitVec 32 := Scalar.muli v477 1#32
  let v479 : BitVec 32 := Scalar.addi 0#32 v478
  let v482 : BitVec 32 := Scalar.muli 4#32 v474
  let v483 : BitVec 32 := Scalar.addi 1#32 v482
  let v484 : BitVec 32 := Scalar.subi v469 v483
  let v485 : BitVec 32 := Scalar.shrui v484 1#32
  let v486 : BitVec 32 := Scalar.subi v485 0#32
  let v488 : BitVec 32 := Scalar.divsi v486 1#32
  let v489 : BitVec 32 := Scalar.muli v488 1#32
  let v490 : BitVec 32 := Scalar.addi 0#32 v489
  let v493 : BitVec 32 := Scalar.muli 2#32 v485
  let v494 : BitVec 32 := Scalar.addi v483 v493
  let v495 : BitVec 32 := Scalar.subi v469 v494
  let v496 : BitVec 32 := Scalar.shrui v495 0#32
  let v497 : BitVec 32 := Scalar.subi v496 0#32
  ((v472, v479), (v483, v490), v494, 0#32, v497, 1#32)

/-- The first four loops. -/
theorem part92_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (t1 : Fin k0_t1_loop.trips) (arg9 : BitVec 32) (q0 q1 : FVec F S128x512 .bf16) (r0 r1 u0 u1 : FVec F S1x512 .f32) (y : FVec F S1x512x128 .bf16) :
    k0_part92 i arg2 harg2 arg3 harg3 arg4 harg4 arg5 harg5 arg6 harg6 arg7 harg7 arg8 harg8 Sb.suffix t1 arg9 q0 q1 r0 r1 u0 u1 y = (do
      Prog.lift (.store arg5 (Rect.unit (s := S1x8192x128) (k0_off7 t1) S1x512x128.size (k0_off7_inb t1)) y Finset.univ (View.stores_vmem h_S1x512x128 (harg5.storeExact_slice rfl _ (k0_off7_packedbf16 t1)) (fun _ => rfl)) (.inl rfl))
      let x ← Scf.Loop.for (k0_t2_loop t1) (k0_t2_ok t1) (r0, r1, u0, u1, Sb.zero1, Sb.zero64, Sb.zero1, Sb.zero64) (k0_t2_body i arg2 harg2 arg3 harg3 arg4 harg4 arg5 harg5 arg6 harg6 arg7 harg7 arg8 harg8 Sb.suffix t1 arg9 q0 q1 r0 r1 u0 u1 y (words92 arg9).1.1)
      let x ← Scf.Loop.for (k0_t3_loop t1) (k0_t3_ok t1) x (k0_t3_body i arg2 harg2 arg3 harg3 arg4 harg4 arg5 harg5 arg6 harg6 arg7 harg7 arg8 harg8 Sb.suffix t1 arg9 q0 q1 r0 r1 u0 u1 y (words92 arg9).1.1 (words92 arg9).1.2)
      let x ← Scf.Loop.for (k0_t4_loop t1) (k0_t4_ok t1) x (k0_t4_body i arg2 harg2 arg3 harg3 arg4 harg4 arg5 harg5 arg6 harg6 arg7 harg7 arg8 harg8 Sb.suffix t1 arg9 q0 q1 r0 r1 u0 u1 y (words92 arg9).1.1 (words92 arg9).2.1.1)
      let x ← Scf.Loop.for (k0_t5_loop t1) (k0_t5_ok t1) x (k0_t5_body i arg2 harg2 arg3 harg3 arg4 harg4 arg5 harg5 arg6 harg6 arg7 harg7 arg8 harg8 Sb.suffix t1 arg9 q0 q1 r0 r1 u0 u1 y (words92 arg9).1.1 (words92 arg9).2.1.1 (words92 arg9).2.1.2)
      pure ⟨(words92 arg9).1.1, x.1, x.2.1, x.2.2.1, x.2.2.2.1, x.2.2.2.2.1, x.2.2.2.2.2.1, x.2.2.2.2.2.2.1, x.2.2.2.2.2.2.2, (words92 arg9).2.2.1, (words92 arg9).2.2.2.1, (words92 arg9).2.2.2.2.1, (words92 arg9).2.2.2.2.2⟩) := by
  rfl

/-- A query block's trip. -/
theorem t1_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v50 v76 : FVec F S1x512 .f32) (v135 : FVec F S256x512 .f32) (v141 : FVec F S1x1x256x512 .f32) :
    k0_t1_body i arg2 harg2 arg3 harg3 arg4 harg4 arg5 harg5 arg6 harg6 arg7 harg7 arg8 harg8 Sb.offsets Sb.suffix v50 v76 v135 v141 = Sb.tile il mk arg2 arg3 arg4 arg5 arg6 harg6 arg7 arg8 harg5 := by
  funext t1 x
  rw [t1_eq1]
  have h2 : ∀ arg9 (q0 q1 : FVec F S128x512 .bf16) (r0 r1 u0 u1 : FVec F S1x512 .f32) (y : FVec F S1x512x128 .bf16) a, k0_t2_body i arg2 harg2 arg3 harg3 arg4 harg4 arg5 harg5 arg6 harg6 arg7 harg7 arg8 harg8 Sb.suffix t1 arg9 q0 q1 r0 r1 u0 u1 y a = Sb.trips4 il mk arg3 arg4 arg6 harg6 arg7 arg8 t1 q0 q1 := by
    intros; funext t x; exact t2_eq _ _ _ _ _ _ _ _ _ _ _ _ _ _ _ _ _ _ _ _ _ _ _ _ _ _ _ _ rfl
  have h3 : ∀ arg9 (q0 q1 : FVec F S128x512 .bf16) (r0 r1 u0 u1 : FVec F S1x512 .f32) (y : FVec F S1x512x128 .bf16) a b, k0_t3_body i arg2 harg2 arg3 harg3 arg4 harg4 arg5 harg5 arg6 harg6 arg7 harg7 arg8 harg8 Sb.suffix t1 arg9 q0 q1 r0 r1 u0 u1 y a b = Sb.trips4r il mk arg3 arg4 arg6 harg6 arg7 arg8 t1 q0 q1 := by
    intros; funext t x; exact t3_eq _ _ _ _ _ _ _ _ _ _ _ _ _ _ _ _ _ _ _ _ _ _ _ _ _ _ _ _ _ rfl
  have h4 : ∀ arg9 (q0 q1 : FVec F S128x512 .bf16) (r0 r1 u0 u1 : FVec F S1x512 .f32) (y : FVec F S1x512x128 .bf16) a b, k0_t4_body i arg2 harg2 arg3 harg3 arg4 harg4 arg5 harg5 arg6 harg6 arg7 harg7 arg8 harg8 Sb.suffix t1 arg9 q0 q1 r0 r1 u0 u1 y a b = Sb.trips2 il mk arg3 arg4 arg6 harg6 arg7 arg8 t1 q0 q1 := by
    intros; funext t x; exact t4_eq _ _ _ _ _ _ _ _ _ _ _ _ _ _ _ _ _ _ _ _ _ _ _ _ _ _ _ _ _ rfl
  have h5 : ∀ arg9 (q0 q1 : FVec F S128x512 .bf16) (r0 r1 u0 u1 : FVec F S1x512 .f32) (y : FVec F S1x512x128 .bf16) a b c, k0_t5_body i arg2 harg2 arg3 harg3 arg4 harg4 arg5 harg5 arg6 harg6 arg7 harg7 arg8 harg8 Sb.suffix t1 arg9 q0 q1 r0 r1 u0 u1 y a b c = Sb.trips2r il mk arg3 arg4 arg6 harg6 arg7 arg8 t1 q0 q1 := by
    intros; funext t x; exact t5_eq _ _ _ _ _ _ _ _ _ _ _ _ _ _ _ _ _ _ _ _ _ _ _ _ _ _ _ _ _ _ rfl
  have h6 : ∀ (q0 q1 : FVec F S128x512 .bf16) a b c, k0_t6_body i arg2 harg2 arg3 harg3 arg4 harg4 arg5 harg5 arg6 harg6 arg7 harg7 arg8 harg8 Sb.offsets Sb.suffix v50 v76 v135 v141 t1 q0 q1 a b c = fun t => Sb.trip1 il mk arg3 arg4 arg6 harg6 arg7 arg8 t1 t q0 q1 := by
    intros; funext t x; exact t6_eq _ _ _ _ _ _ _ _ _ _ _ _ _ _ _ _ _ _ _ _ _ _ _ _ _ _ _ _ _ rfl
  have h7 : ∀ (q0 q1 : FVec F S128x512 .bf16) a b c, k0_t7_body i arg2 harg2 arg3 harg3 arg4 harg4 arg5 harg5 arg6 harg6 arg7 harg7 arg8 harg8 Sb.offsets Sb.suffix v50 v76 v135 v141 t1 q0 q1 a b c = fun t => Sb.trip1r il mk arg3 arg4 arg6 harg6 arg7 arg8 t1 t q0 q1 := by
    intros; funext t x; exact t7_eq _ _ _ _ _ _ _ _ _ _ _ _ _ _ _ _ _ _ _ _ _ _ _ _ _ _ _ _ _ rfl
  simp only [part92_eq, h2, h3, h4, h5, h6, h7, bind_assoc, pure_bind]
  unfold preStart Sb.tile Sb.tileStart Sb.tileLoops Sb.stOut
  simp only [bind_assoc, pure_bind]

/-- The first query block's first stages up to the first of the second stages' store. -/
def preBody (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) : Prog (TpuEff nD τ sig (Elt F) Λ₀ .tc) (FVec F S1x512 .f32 × FVec F S1x512 .f32 × FVec F S256x512 .f32 × FVec F S1x1x256x512 .f32) := do
  let q ← Sb.ldQ arg2 ![0, 0, 0, 0] inb_S1x16x128x512_S1x1x128x512_0_0_0_0
  let rA ← Sb.stageA il mk arg3 arg6 harg6 arg7 ![0, 256, 0] inb_S1x8192x128_S1x256x128_0_256_0 (some (Sb.causal 4294967040#32)) (Sb.tile0 q) (Sb.tile1 q) 0
  let rB ← Sb.stageA il mk arg3 arg6 harg6 arg7 ![0, 0, 0] inb_S1x8192x128_S1x256x128_0_0_0 (some (Sb.causal 0#32)) (Sb.tile0 q) (Sb.tile1 q) 1
  let x0 ← Sb.ldSlot arg6 0 0
  let y0 ← Sb.ldSlot arg7 0 0
  let _ ← Sb.ldSlot (F := F) arg8 0 0
  pure (rA.1, rA.2, Sb.within Sb.suffix x0, Sb.pack (addf (Sb.unpack y0) (Sb.within Sb.suffix x0)))

section
attribute [local irreducible] k0_part97

/-- The kernel up to the loop over query blocks, and the rest. -/
theorem body_eq1 (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) :
    cc0_sb_attn (F := F) i arg2 harg2 arg3 harg3 arg4 harg4 arg5 harg5 arg6 harg6 arg7 harg7 arg8 harg8 = ((do
      let s ← preBody i arg2 harg2 arg3 harg3 arg4 harg4 arg5 harg5 arg6 harg6 arg7 harg7 arg8 harg8
      let w ← k0_part97 i arg2 harg2 arg3 harg3 arg4 harg4 arg5 harg5 arg6 harg6 arg7 harg7 arg8 harg8 Sb.offsets Sb.suffix s.1 s.2.1 s.2.2.1 s.2.2.2
      let _ ← Sb.ldSlot (F := F) arg8 1 0
      Sb.stSlot arg8 1 0 (Sb.pack w.2.2.2.2.2.2)
      let x1 ← Sb.ldSlot arg6 1 1
      let y1 ← Sb.ldSlot arg7 1 1
      let _ ← Sb.ldSlot (F := F) arg8 1 1
      Sb.stSlot arg8 1 1 (Sb.pack (addf (Sb.unpack y1) (Sb.within Sb.suffix x1)))
      let st ← Sb.stageC arg4 arg8 ![0, 1, 0, 0] inb_S1x32x128x256_S1x1x64x256_0_1_0_0 ![0, 1, 64, 0] inb_S1x32x128x256_S1x1x64x256_0_1_64_0 0 w.1 w.2.1
        (w.2.2.1, w.2.2.2.1, w.2.2.2.2.1, w.2.2.2.2.2.1)
      let st ← Sb.stageC arg4 arg8 ![0, 0, 0, 0] inb_S1x32x128x256_S1x1x64x256_0_0_0_0 ![0, 0, 64, 0] inb_S1x32x128x256_S1x1x64x256_0_0_64_0 1 Sb.zero1 Sb.zero1 st
      pure (Sb.rowsOf st.2.1 st.2.2.2) : Prog (TpuEff nD τ sig (Elt F) Λ₀ .tc) _) >>= fun y =>
        Sb.stOut arg5 ![0, 7680, 0] inb_S1x8192x128_S1x512x128_0_7680_0 packedbf16_S1x8192x128_S1x512x128_0_7680_0 harg5 (shapeCast S1x512x128 y shapeCasts_S512x128_S1x512x128)) := by
  rfl

end

section
attribute [local irreducible] k0_t1_body

/-- The loop over query blocks. -/
theorem part97_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) (v50 v76 : FVec F S1x512 .f32) (v135 : FVec F S256x512 .f32) (v141 : FVec F S1x1x256x512 .f32) :
    k0_part97 i arg2 harg2 arg3 harg3 arg4 harg4 arg5 harg5 arg6 harg6 arg7 harg7 arg8 harg8 Sb.offsets Sb.suffix v50 v76 v135 v141 = (do
      Sb.stSlot arg8 0 0 v141
      let x1 ← Sb.ldSlot arg6 0 1
      let y1 ← Sb.ldSlot arg7 0 1
      let _ ← Sb.ldSlot (F := F) arg8 0 1
      Sb.stSlot arg8 0 1 (Sb.pack (addf (Sb.unpack y1) (Sb.within Sb.suffix x1)))
      let x ← Scf.Loop.for k0_t1_loop k0_t1_ok (addf (Sb.row0 v135) v50, addf (Sb.row0 (Sb.within Sb.suffix x1)) v76, Sb.zero1, Sb.zero64, Sb.zero1, Sb.zero64)
        (k0_t1_body i arg2 harg2 arg3 harg3 arg4 harg4 arg5 harg5 arg6 harg6 arg7 harg7 arg8 harg8 Sb.offsets Sb.suffix v50 v76 v135 v141)
      let x0 ← Sb.ldSlot arg6 1 0
      let y0 ← Sb.ldSlot arg7 1 0
      pure ⟨x.1, x.2.1, x.2.2.1, x.2.2.2.1, x.2.2.2.2.1, x.2.2.2.2.2, addf (Sb.unpack y0) (Sb.within Sb.suffix x0)⟩) := by
  rw [k0_part97_eq_skeleton]
  rfl

end

/-- The kernel. -/
theorem body_eq (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S1x8192x128 .bf16) (harg5 : arg5.IsWhole) (arg6 : Memref sig .tc .vmem S2x2x256x512 .bf16) (harg6 : arg6.IsWhole) (arg7 : Memref sig .tc .vmem S2x2x256x512 .f32) (harg7 : arg7.IsWhole) (arg8 : Memref sig .tc .vmem S2x2x256x512 .f32) (harg8 : arg8.IsWhole) : cc0_sb_attn (F := F) i arg2 harg2 arg3 harg3 arg4 harg4 arg5 harg5 arg6 harg6 arg7 harg7 arg8 harg8 = Sb.body il mk arg2 arg3 arg4 arg5 arg6 harg6 arg7 arg8 harg5 := by
  rw [body_eq1]
  simp only [part97_eq, t1_eq, bind_assoc, pure_bind]
  unfold preBody Sb.body Sb.start Sb.finish Sb.stageB
  simp only [bind_assoc, pure_bind]
  rfl

end Cert.Proof.KernelIdeal

end
-- ==== Proof.KernelIdealRun.lean ====
/-
  The run of `KernelIdeal`: its body is the common kernel, so each point of the grid leaves the output block at `Sb.outV` of the
  input blocks; the launch and the frame follow.
-/
module

public import proofs.«01_k».proof.Proof.KernelIdealEq
public import proofs.«01_k».proof.Proof.Whole
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev sc0 : Memref sig .tc .vmem S2x2x256x512 .bf16 := Memref.whole cc0_scratch0
abbrev sc1 : Memref sig .tc .vmem S2x2x256x512 .f32 := Memref.whole cc0_scratch1
abbrev sc2 : Memref sig .tc .vmem S2x2x256x512 .f32 := Memref.whole cc0_scratch2

/-- The invariant between points: the three scratches at some contents, and the generator register. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d))
        ∗ ∃ r, prngReg c r) := by
  rw [Pipeline.ΦA, scopedRest0_eq]; simp only [sc0, sc1, sc2, owns_whole]; try rfl

/-- The proof data of the pipeline on core `c`: each input's buffer at its block after every point, the output's at
    `Sb.outV` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Sb.outV (il (F := F)) (mk (F := F)) (iblk m c 0 t) (iblk m c 1 t) (iblk m c 2 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = Sb.outV (il (F := F)) (mk (F := F)) (iblk m c 0 t) (iblk m c 1 t) (iblk m c 2 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, PhiA_eq, body_eq]
  iintro ⟨⟨⟨H6, H7, H8⟩, HΦ⟩, Ho, ⟨%d0, H0⟩, ⟨%d1, H1⟩, ⟨%d2, H2⟩, ⟨%d3, H3⟩⟩
  iapply (Sb.wp_whole (il (F := F)) (mk (F := F)) _ _ _ _ _ _ _ _ (defs₀ (F := F)) c (hstage0_0 _) (hstage0_1 _) (hstage0_2 _) (hstage0_3 _)
    (Memref.isWhole_whole _) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [HΦ H6 H7 H8]
  · isplitr [HΦ]; swap; · iexact HΦ
    isplitl [H6]; · iexact H6
    isplitl [H7]; · iexact H7
    iexact H8
  isplitl [Ho]; · iexact Ho
  isplitl [H0]; · iexact H0
  isplitl [H1]; · iexact H1
  isplitl [H2]; · iexact H2
  iexact H3

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- The launch: every array of the pipeline ends at what the proof data says, every other unscoped buffer as the region found
    it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and the machine quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Stick.lean ====
/-
  The stick-breaking weights over the reals, one query at a time: a query's scores are a sequence of real numbers, key `j` takes
  the share `sigmoid (z j)` of what the keys between it and the query have left over, and the logs of the weights are sums of
  log sigmoids. What follows is about such sequences alone; the kernel's and the reference's readings meet here.
-/
module

public import Idealize.ShloMosaic.Lib.Pointwise

@[expose] public section

noncomputable section

namespace Cert.Proof.Sb

open Idealize.ShloMosaic

/-- The log of a score's sigmoid. -/
def ls (z : ℝ) : ℝ := min z 0 - Real.log (1 + Real.exp (-|z|))

/-- The log of what a key leaves over of the stick, for the keys before the query; zero from the query on. -/
def left (z : ℕ → ℝ) (s j : ℕ) : ℝ := if j < s then ls (-z j) else 0

/-- The weight of key `j` for query `s`, the keys up to `N` counted. -/
def wt (z : ℕ → ℝ) (s N j : ℕ) : ℝ := if j < s then Real.exp (ls (z j) + ∑ j' ∈ Finset.Ico (j + 1) N, left z s j') else 0

/-- A real sum read as an extended one. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

/-- The complementary log is the log less the score. -/
theorem ls_neg (z : ℝ) : ls (-z) = ls z - z := by
  have h : min (-z) 0 = min z 0 - z := by
    rcases le_total z 0 with h | h
    · rw [min_eq_right (by linarith), min_eq_left h]; ring
    · rw [min_eq_left (by linarith), min_eq_right h]; ring
  unfold ls
  rw [abs_neg, h]; ring

theorem log2_pos : 0 < Real.log 2 := Real.log_pos (by norm_num)

/-- A power of two of a log in base two. -/
theorem two_rpow_div (x : ℝ) : Real.rpow 2 (x / Real.log 2) = Real.exp x := by
  have h := log2_pos.ne'
  show (2 : ℝ) ^ (x / Real.log 2) = _
  rw [Real.rpow_def_of_pos (by norm_num), mul_div_cancel₀ _ h]

/-- The base-two log of a sigmoid of a score given in units of `log 2`. -/
theorem base2 (z : ℝ) :
    min (((z / Real.log 2 : ℝ) : EReal)) 0
      - Ideal.log (1 + Ideal.exp2 (0 - max (((z / Real.log 2 : ℝ) : EReal)) (-((z / Real.log 2 : ℝ) : EReal)))) * (((Real.log 2)⁻¹ : ℝ) : EReal)
    = ((ls z / Real.log 2 : ℝ) : EReal) := by
  have hp := log2_pos
  have e1 : max (((z / Real.log 2 : ℝ) : EReal)) (-((z / Real.log 2 : ℝ) : EReal)) = ((|z| / Real.log 2 : ℝ) : EReal) := by
    rw [← EReal.coe_neg, ← coe_max]
    congr 1
    rw [← abs_eq_max_neg, abs_div, abs_of_pos hp]
  have e2 : (0 : EReal) - ((|z| / Real.log 2 : ℝ) : EReal) = ((-|z| / Real.log 2 : ℝ) : EReal) := by
    rw [zero_sub, ← EReal.coe_neg]; congr 1; ring
  have e3 : min (((z / Real.log 2 : ℝ) : EReal)) 0 = ((min z 0 / Real.log 2 : ℝ) : EReal) := by
    rw [← EReal.coe_zero, ← coe_min]; congr 1
    rcases le_total z 0 with h | h
    · rw [min_eq_left h, min_eq_left (div_nonpos_of_nonpos_of_nonneg h hp.le)]
    · rw [min_eq_right h, min_eq_right (div_nonneg h hp.le), zero_div]
  have hpos : 0 < 1 + Real.exp (-|z|) := by positivity
  rw [e1, e2, e3, Ideal.exp2_coe, two_rpow_div, ← EReal.coe_one, ← EReal.coe_add, Ideal.log_coe, if_neg (not_le.mpr hpos),
    ← EReal.coe_mul, ← EReal.coe_sub]
  congr 1
  unfold ls
  field_simp

/-- The log of a sigmoid as the reference spells it. -/
theorem base_e (z : ℝ) :
    -(max (-(z : EReal)) 0 + Ideal.log1p (Ideal.exp (-(max (-(z : EReal)) (- -(z : EReal)))))) = ((ls z : ℝ) : EReal) := by
  have e1 : max (-(z : EReal)) (- -(z : EReal)) = ((|z| : ℝ) : EReal) := by
    rw [neg_neg, ← EReal.coe_neg, ← coe_max, max_comm, ← abs_eq_max_neg]
  have e2 : max (-(z : EReal)) 0 = ((-(min z 0) : ℝ) : EReal) := by
    rw [← EReal.coe_neg, ← EReal.coe_zero, ← coe_max]; congr 1
    rcases le_total z 0 with h | h
    · rw [min_eq_left h, max_eq_left (by linarith)]
    · rw [min_eq_right h, max_eq_right (by linarith), neg_zero]
  have hpos : 0 < 1 + Real.exp (-|z|) := by positivity
  rw [e1, e2, ← EReal.coe_neg, Ideal.exp_coe, Ideal.log1p, ← EReal.coe_one, ← EReal.coe_add, Ideal.log_coe, if_neg (not_le.mpr hpos),
    ← EReal.coe_add, ← EReal.coe_neg]
  congr 1
  unfold ls
  ring

/-- The weight from its log: what is masked has weight zero, and the rest the power of two of its log in base two. -/
theorem wt_exp2 (z : ℕ → ℝ) (s N j : ℕ) (b : EReal)
    (hb : b = if j < s then ((ls (z j) / Real.log 2 : ℝ) : EReal) else ⊥) (a c : ℝ)
    (h : a + c = ∑ j' ∈ Finset.Ico (j + 1) N, left z s j' / Real.log 2) :
    Ideal.exp2 (b + (a : EReal) + (c : EReal)) = ((wt z s N j : ℝ) : EReal) := by
  subst hb
  unfold wt
  split
  · rw [add_assoc, ← EReal.coe_add, ← EReal.coe_add, h, Ideal.exp2_coe, ← Finset.sum_div, ← add_div, two_rpow_div]
  · rw [EReal.bot_add, EReal.bot_add, Ideal.exp2_bot, EReal.coe_zero]

/-- Keys from the query on leave everything over: they may be counted or not. -/
theorem wt_mono (z : ℕ → ℝ) (s N M j : ℕ) (hN : s ≤ N) (hM : N ≤ M) : wt z s M j = wt z s N j := by
  unfold wt
  split
  · rename_i h
    rw [← Finset.sum_Ico_consecutive _ (by omega : j + 1 ≤ N) hM, Finset.sum_eq_zero (s := Finset.Ico N M), add_zero]
    intro x hx
    rw [Finset.mem_Ico] at hx
    exact if_neg (by omega)
  · rfl

/-- A block of 256 terms. -/
theorem sum_block {α : Type} [AddCommMonoid α] (f : ℕ → α) (m : ℕ) :
    ∑ j ∈ Finset.Ico (256 * m) (256 * (m + 1)), f j = ∑ r : Fin 256, f (256 * m + r.val) := by
  rw [Finset.sum_Ico_eq_sum_range, show 256 * (m + 1) - 256 * m = 256 by omega, Finset.sum_range]

/-- The terms of a block after the one at `r`. -/
theorem sum_after (f : ℕ → ℝ) (m : ℕ) (r : Fin 256) :
    ∑ r' : Fin 256, (if r < r' then (1 : EReal) else 0) * ((f (256 * m + r'.val) : ℝ) : EReal)
      = ((∑ j ∈ Finset.Ico (256 * m + r.val + 1) (256 * (m + 1)), f j : ℝ) : EReal) := by
  have h : ∀ r' : Fin 256, (if r < r' then (1 : EReal) else 0) * ((f (256 * m + r'.val) : ℝ) : EReal)
      = (((fun j => if 256 * m + r.val < j then f j else 0) (256 * m + r'.val) : ℝ) : EReal) := by
    intro r'
    by_cases hr : r < r'
    · have : 256 * m + r.val < 256 * m + r'.val := by have := Fin.lt_def.mp hr; omega
      simp only [if_pos hr, if_pos this, one_mul]
    · have : ¬ 256 * m + r.val < 256 * m + r'.val := by have := fun h => hr (Fin.lt_def.mpr h); omega
      simp only [if_neg hr, if_neg this, zero_mul, EReal.coe_zero]
  rw [Finset.sum_congr rfl fun r' _ => h r', ← coe_sum, ← sum_block (fun j => if 256 * m + r.val < j then f j else 0)]
  congr 1
  rw [← Finset.sum_Ico_consecutive _ (by omega : 256 * m ≤ 256 * m + r.val + 1) (by have := r.isLt; omega), Finset.sum_eq_zero, zero_add]
  · refine Finset.sum_congr rfl fun j hj => ?_
    rw [Finset.mem_Ico] at hj
    exact if_pos (by omega)
  · intro j hj
    rw [Finset.mem_Ico] at hj
    exact if_neg (by omega)

end Cert.Proof.Sb

end
-- ==== Proof.Steps.lean ====
module

public import proofs.«01_k».proof.Proof.Spec
public import proofs.«01_k».proof.Proof.Stick
public import Idealize.ShloMosaic.Lib.Pointwise
public import Idealize.ShloMosaic.Lib.WordCmp

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512)
open Idealize.ShloMosaic Idealize.SL.Sem

/-- A score is the product of a key's row and a query's column. -/
theorem zOf_apply (kb : Vec Ideal S1x256x128 .bf16) (q : FVec Ideal S128x512 .bf16) (r : Fin 256) (c : Fin 512) :
    zOf kb q (ix2 r c) = ∑ e : Fin 128, kb (ix3 0 r e) * q (ix2 e c) := by
  pointwise [zOf, kMat]

theorem lbOf_apply (il : Ideal .f32) (z : FVec Ideal S256x512 .f32) (r : Fin 256) (c : Fin 512) :
    lbOf il z (ix2 r c)
      = min (z (ix2 r c)) 0 - Ideal.log (1 + Ideal.exp2 (0 - max (z (ix2 r c)) (-z (ix2 r c)))) * il := by
  pointwise [lbOf]
  rfl

theorem lrOf_apply (il : Ideal .f32) (z : FVec Ideal S256x512 .f32) (r : Fin 256) (c : Fin 512) :
    lrOf il z (ix2 r c) = lbOf il z (ix2 r c) - z (ix2 r c) := by
  pointwise [lrOf]

theorem mlb_apply (mk : Ideal .f32) (m : IVec S256x512 1) (x : FVec Ideal S256x512 .f32) (r : Fin 256) (c : Fin 512) :
    mlb mk (some m) x (ix2 r c) = if m (ix2 r c) = 1#1 then x (ix2 r c) else mk := by
  pointwise [mlb]
  rfl

theorem mlr_apply (m : IVec S256x512 1) (x : FVec Ideal S256x512 .f32) (r : Fin 256) (c : Fin 512) :
    mlr (some m) x (ix2 r c) = if m (ix2 r c) = 1#1 then x (ix2 r c) else 0 := by
  pointwise [mlr]
  rfl

theorem sub_toInt (r : Fin 256) (c : Fin 512) : (IntOp.subi (BitVec.ofNat 32 r.val) (BitVec.ofNat 32 c.val)).toInt = (r.val : ℤ) - c.val := by
  have hr := r.isLt
  have hc := c.isLt
  unfold IntOp.subi
  have er : (BitVec.ofNat 32 r.val).toInt = (r.val : ℤ) := by
    rw [BitVec.toInt_eq_toNat_of_lt] <;> rw [BitVec.toNat_ofNat] <;> omega
  have ec : (BitVec.ofNat 32 c.val).toInt = (c.val : ℤ) := by
    rw [BitVec.toInt_eq_toNat_of_lt] <;> rw [BitVec.toNat_ofNat] <;> omega
  rw [BitVec.toInt_sub, er, ec]
  exact Int.bmod_eq_of_le (by norm_num; omega) (by norm_num; omega)

/-- The mask of the last causal block: the rows more than 256 before the column. -/
theorem causal0_apply (r : Fin 256) (c : Fin 512) : causal 4294967040#32 (ix2 r c) = 1#1 ↔ r.val + 256 < c.val := by
  pointwise [causal, offsets]
  rw [WordCmp.cmpi_slt_eq, sub_toInt, show (4294967040#32 : BitVec 32).toInt = -256 by decide]
  by_cases h : r.val + 256 < c.val
  · simp only [h, iff_true]; rw [decide_eq_true (by omega)]; rfl
  · simp only [h, iff_false]; rw [decide_eq_false (by omega)]; decide

/-- The mask of the block before it: the rows before the column. -/
theorem causal1_apply (r : Fin 256) (c : Fin 512) : causal 0#32 (ix2 r c) = 1#1 ↔ r.val < c.val := by
  pointwise [causal, offsets]
  rw [WordCmp.cmpi_slt_eq, sub_toInt, show (0#32 : BitVec 32).toInt = 0 by decide]
  by_cases h : r.val < c.val
  · simp only [h, iff_true]; rw [decide_eq_true (by omega)]; rfl
  · simp only [h, iff_false]; rw [decide_eq_false (by omega)]; decide

theorem suffix_apply (r r' : Fin 256) :
    suffix (F := Ideal) (ix2 r r') = if r < r' then 1 else 0 := by
  pointwise [suffix]
  rw [WordCmp.cmpi_sgt_ofNat (by have := r'.isLt; omega) (by have := r.isLt; omega)]
  by_cases h : r < r'
  · rw [decide_eq_true (Fin.lt_def.mp h), if_pos h]
    show (((1 : ℤ) : ℝ) : EReal) = 1
    norm_num
  · rw [decide_eq_false (fun h' => h (Fin.lt_def.mpr h')), if_neg h]
    show (((0 : ℤ) : ℝ) : EReal) = 0
    norm_num

theorem row0_apply (x : FVec Ideal S256x512 .f32) (c : Fin 512) : row0 x (ix2 0 c) = x (ix2 0 c) := by
  pointwise [row0]

theorem within_apply (su : FVec Ideal S256x256 .bf16) (x : FVec Ideal S256x512 .f32) (r : Fin 256) (c : Fin 512) :
    within su (pack16 x) (ix2 r c) = ∑ r' : Fin 256, su (ix2 r r') * x (ix2 r' c) := by
  pointwise [within, pack16]

theorem unpack_pack (x : FVec Ideal S256x512 .f32) (r : Fin 256) (c : Fin 512) : unpack (pack x) (ix2 r c) = x (ix2 r c) := by
  pointwise [pack, unpack]

theorem wOf_apply (x : FVec Ideal S256x512 .f32) (s : FVec Ideal S1x512 .f32) (r : Fin 256) (c : Fin 512) :
    wOf (pack x) s (ix2 r c) = Ideal.exp2 (x (ix2 r c) + s (ix2 0 c)) := by
  pointwise [wOf, pack, unpack]
  rfl

theorem accOf_apply (acc : FVec Ideal S64x512 .f32) (v : Vec Ideal S1x1x64x256 .bf16) (w : FVec Ideal S256x512 .bf16) (d : Fin 64)
    (c : Fin 512) : accOf acc v w (ix2 d c) = acc (ix2 d c) + ∑ r : Fin 256, v (ix4 0 0 d r) * w (ix2 r c) := by
  pointwise [accOf]

theorem yOf_apply (a0 a1 : FVec Ideal S64x512 .f32) (c : Fin 512) (l : Fin 128) :
    yOf a0 a1 (ix3 0 c l) = if h : l.val < 64 then a0 (ix2 ⟨l.val, h⟩ c) else a1 (ix2 ⟨l.val - 64, by omega⟩ c) := by
  pointwise [yOf, rowsOf]

theorem tile0_apply (q : Vec Ideal S1x1x128x512 .bf16) (e : Fin 128) (c : Fin 512) :
    tile0 q (ix2 e c) = if e.val < 64 then q (ix4 0 0 e c) else 0 := by
  pointwise [tile0]
  rw [WordCmp.cmpi_slt_ofNat (by have := e.isLt; omega) (by omega), WordCmp.select_ofBool]
  simp only [decide_eq_true_eq]

theorem tile1_apply (q : Vec Ideal S1x1x128x512 .bf16) (e : Fin 128) (c : Fin 512) :
    tile1 q (ix2 e c) = if 64 ≤ e.val then q (ix4 0 0 e c) else 0 := by
  pointwise [tile1]
  rw [WordCmp.cmpi_sge_ofNat (by have := e.isLt; omega) (by omega), WordCmp.select_ofBool]
  simp only [decide_eq_true_eq]

/-! ## A head's loop at a query -/

variable (S : Src Ideal) (i : Nat) (h : Fin 2) (c : Fin 512) (z : ℕ → ℝ) (vv : Fin 64 → ℕ → EReal)

/-- What a query block's sources hold, read at a query: the scores of its keys, in units of `log 2`, and a head's values. -/
structure Reads : Prop where
  il : S.il = (((Real.log 2)⁻¹ : ℝ) : EReal)
  msk : S.msk = ⊥
  z : ∀ n, n ≤ 2 * i + 1 → ∀ r : Fin 256, zOf (S.K n) (qT S i h) (ix2 r c) = ((z (256 * n + r.val) / Real.log 2 : ℝ) : EReal)
  v : ∀ n, n ≤ 2 * i + 1 → ∀ (d : Fin 64) (r : Fin 256), S.V n h (ix4 0 0 d r) = vv d (256 * n + r.val)

variable {S i h c z vv} (R : Reads S i h c z vv)
include R

/-- A block's complementary log. -/
theorem LR_apply (n m : Nat) (hm : m + n = 2 * i + 1) (r : Fin 256) :
    LR S i h n (ix2 r c) = ((left z (512 * i + c.val) (256 * m + r.val) / Real.log 2 : ℝ) : EReal) := by
  have hz := R.z m (by omega) r
  have hc := c.isLt
  have hr := r.isLt
  have e : lrOf S.il (zOf (S.K m) (qT S i h)) (ix2 r c) = ((ls (-z (256 * m + r.val)) / Real.log 2 : ℝ) : EReal) := by
    rw [lrOf_apply, lbOf_apply, hz, R.il, base2, ls_neg, ← EReal.coe_sub, sub_div]
  unfold LR
  rw [show 2 * i + 1 - n = m by omega]
  unfold cmask left
  by_cases h0 : n = 0
  · rw [if_pos h0, mlr_apply, e]
    have hi : causal 4294967040#32 (ix2 r c) = 1#1 ↔ 256 * m + r.val < 512 * i + c.val := by rw [causal0_apply]; omega
    by_cases hk : 256 * m + r.val < 512 * i + c.val
    · rw [if_pos (hi.mpr hk), if_pos hk]
    · rw [if_neg fun h' => hk (hi.mp h'), if_neg hk, zero_div, EReal.coe_zero]
  · rw [if_neg h0]
    by_cases h1 : n = 1
    · rw [if_pos h1, mlr_apply, e]
      have hi : causal 0#32 (ix2 r c) = 1#1 ↔ 256 * m + r.val < 512 * i + c.val := by rw [causal1_apply]; omega
      by_cases hk : 256 * m + r.val < 512 * i + c.val
      · rw [if_pos (hi.mpr hk), if_pos hk]
      · rw [if_neg fun h' => hk (hi.mp h'), if_neg hk, zero_div, EReal.coe_zero]
    · rw [if_neg h1, if_pos (by omega)]
      exact e

/-- A block's log. -/
theorem LB_apply (n m : Nat) (hm : m + n = 2 * i + 1) (r : Fin 256) :
    LB S i h n (ix2 r c) = if 256 * m + r.val < 512 * i + c.val then ((ls (z (256 * m + r.val)) / Real.log 2 : ℝ) : EReal) else ⊥ := by
  have hz := R.z m (by omega) r
  have hc := c.isLt
  have hr := r.isLt
  have e : lbOf S.il (zOf (S.K m) (qT S i h)) (ix2 r c) = ((ls (z (256 * m + r.val)) / Real.log 2 : ℝ) : EReal) := by
    rw [lbOf_apply, hz, R.il, base2]
  unfold LB
  rw [show 2 * i + 1 - n = m by omega]
  unfold cmask
  by_cases h0 : n = 0
  · rw [if_pos h0, mlb_apply, e, R.msk]
    have hi : causal 4294967040#32 (ix2 r c) = 1#1 ↔ 256 * m + r.val < 512 * i + c.val := by rw [causal0_apply]; omega
    exact if_congr hi rfl rfl
  · rw [if_neg h0]
    by_cases h1 : n = 1
    · rw [if_pos h1, mlb_apply, e, R.msk]
      have hi : causal 0#32 (ix2 r c) = 1#1 ↔ 256 * m + r.val < 512 * i + c.val := by rw [causal1_apply]; omega
      exact if_congr hi rfl rfl
    · rw [if_neg h1, if_pos (by omega)]
      exact e

/-- The sums over a block's later rows. -/
theorem within_LR (n m : Nat) (hm : m + n = 2 * i + 1) (r : Fin 256) :
    within suffix (pack16 (LR S i h n)) (ix2 r c)
      = ((∑ j ∈ Finset.Ico (256 * m + r.val + 1) (256 * (m + 1)), left z (512 * i + c.val) j / Real.log 2 : ℝ) : EReal) := by
  rw [within_apply, ← sum_after]
  exact Finset.sum_congr rfl fun r' _ => by rw [suffix_apply, LR_apply R n m hm r']

/-- A block's column sum. -/
theorem SUM_apply (n m : Nat) (hm : m + n = 2 * i + 1) :
    SUM S i h n (ix2 0 c) = ((∑ j ∈ Finset.Ico (256 * m) (256 * (m + 1)), left z (512 * i + c.val) j / Real.log 2 : ℝ) : EReal) := by
  have e : SUM S i h n (ix2 0 c) = row0 (within suffix (pack16 (LR S i h n))) (ix2 0 c) + row0 (LR S i h n) (ix2 0 c) := rfl
  rw [e, row0_apply, row0_apply, within_LR R n m hm, LR_apply R n m hm, ← EReal.coe_add,
    Finset.sum_eq_sum_Ico_succ_bot (by omega : 256 * m < 256 * (m + 1)), add_comm]
  rfl

/-- A block's weights, from the sums of the later blocks. -/
theorem w_apply (n m : Nat) (hm : m + n = 2 * i + 1) (s : FVec Ideal S1x512 .f32)
    (hs : s (ix2 0 c) = ((∑ j ∈ Finset.Ico (256 * (m + 1)) (512 * (i + 1)), left z (512 * i + c.val) j / Real.log 2 : ℝ) : EReal)) (r : Fin 256) :
    wOf (TT S i h n) s (ix2 r c) = ((wt z (512 * i + c.val) (512 * (i + 1)) (256 * m + r.val) : ℝ) : EReal) := by
  have hr := r.isLt
  unfold TT
  rw [wOf_apply, hs]
  have e : addf (unpack (pack (LB S i h n))) (within suffix (pack16 (LR S i h n))) (ix2 r c)
      = unpack (pack (LB S i h n)) (ix2 r c) + within suffix (pack16 (LR S i h n)) (ix2 r c) := rfl
  rw [e, unpack_pack, within_LR R n m hm, LB_apply R n m hm]
  refine wt_exp2 z _ _ _ _ rfl _ _ ?_
  exact Finset.sum_Ico_consecutive _ (by omega) (by omega)

/-- The running sums and the accumulator after `n` blocks. -/
theorem hst_apply (n : Nat) : ∀ m, m + n = 2 * i + 2 →
    (hst S i h n).1 (ix2 0 c) = ((∑ j ∈ Finset.Ico (256 * m) (512 * (i + 1)), left z (512 * i + c.val) j / Real.log 2 : ℝ) : EReal)
    ∧ ∀ d : Fin 64, (hst S i h n).2 (ix2 d c)
        = ∑ j ∈ Finset.Ico (256 * m) (512 * (i + 1)), vv d j * ((wt z (512 * i + c.val) (512 * (i + 1)) j : ℝ) : EReal) := by
  induction n with
  | zero =>
    intro m hm
    have e : 256 * m = 512 * (i + 1) := by omega
    rw [e, Finset.Ico_self, Finset.sum_empty]
    refine ⟨?_, fun d => ?_⟩
    · show zero1 (ix2 0 c) = _
      pointwise [zero1]
      exact EReal.coe_zero.symm
    · rw [Finset.sum_empty]
      show zero64 (ix2 d c) = _
      pointwise [zero64]
  | succ n ih =>
    intro m hm
    obtain ⟨hs, ha⟩ := ih (m + 1) (by omega)
    refine ⟨?_, fun d => ?_⟩
    · show (hst S i h n).1 (ix2 0 c) + SUM S i h n (ix2 0 c) = _
      rw [hs, SUM_apply R n m (by omega), ← EReal.coe_add, add_comm, Finset.sum_Ico_consecutive _ (by omega) (by omega)]
    · show accOf (hst S i h n).2 (S.V (2 * i + 1 - n) h) (wOf (TT S i h n) (hst S i h n).1) (ix2 d c) = _
      rw [accOf_apply, ha d, ← Finset.sum_Ico_consecutive _ (by omega : 256 * m ≤ 256 * (m + 1)) (by omega : 256 * (m + 1) ≤ 512 * (i + 1)),
        add_comm, sum_block]
      refine congrArg₂ _ (Finset.sum_congr rfl fun r _ => ?_) rfl
      rw [w_apply R n m (by omega) _ hs r, show 2 * i + 1 - n = m by omega, R.v m (by omega) d r]

/-- A head's accumulator at the end: the values weighted, over all the keys. -/
theorem acc_apply (hi : i < 16) (d : Fin 64) : (hst S i h (2 * i + 2)).2 (ix2 d c)
    = ∑ j ∈ Finset.range 8192, vv d j * ((wt z (512 * i + c.val) 8192 j : ℝ) : EReal) := by
  have hc := c.isLt
  rw [(hst_apply R (2 * i + 2) 0 (by omega)).2 d, mul_zero, ← Finset.range_eq_Ico]
  have hN : 512 * (i + 1) ≤ 8192 := by omega
  rw [Finset.range_eq_Ico, Finset.range_eq_Ico, ← Finset.sum_Ico_consecutive _ (Nat.zero_le _) hN,
    Finset.sum_eq_zero (s := Finset.Ico (512 * (i + 1)) 8192), add_zero]
  · exact Finset.sum_congr rfl fun j _ => by rw [wt_mono z _ _ _ j (by omega) hN]
  · intro j hj
    rw [Finset.mem_Ico] at hj
    unfold wt
    rw [if_neg (by omega), EReal.coe_zero, mul_zero]

end Cert.Proof.Sb

end
-- ==== Proof.Result.lean ====
/-
  The result of the stick-breaking attention as one function of the queries, keys and values, and a grid point's output block
  as that function's values: what both programs are shown to compute.
-/
module

public import proofs.«01_k».proof.Proof.Whole
public import proofs.«01_k».proof.Proof.Steps
public import Idealize.ShloMosaic.Lib.Pointwise

@[expose] public section

set_option maxRecDepth 16384

noncomputable section

namespace Cert.Proof.Sb

open Cert.KernelIdeal (S1x256x128 S256x128 S128x512 S256x512 S1x1x256x512 S1x512 S64x512 S1x1x64x256 S64x256 S256x256 S1x512x128 S512x128
  S2x2x256x512 S1x8192x128 S1x32x128x256 S1x16x128x512 S1x1x128x512 S2x8192x512)
open Idealize.ShloMosaic Idealize.SL.Sem

/-- An argument's element by batch, row and column; zero where there is none. -/
def at3 (a : S2x8192x512.Idx → EReal) (b : Fin 2) (j e : ℕ) : EReal :=
  if h : j < 8192 ∧ e < 512 then a (ix3 b ⟨j, h.1⟩ ⟨e, h.2⟩) else 0

theorem at3_eq (a : S2x8192x512.Idx → EReal) (b : Fin 2) (j : Fin 8192) (e : Fin 512) : at3 a b j.val e.val = a (ix3 b j e) :=
  dif_pos ⟨j.isLt, e.isLt⟩

/-- The score of key `j` for query `s` in head `hd`: the product of the two rows, an eighth of it. -/
def score (q k : S2x8192x512.Idx → EReal) (b : Fin 2) (hd s j : ℕ) : ℝ :=
  (∑ d : Fin 64, (at3 q b s (64 * hd + d.val)).toReal * (at3 k b j (64 * hd + d.val)).toReal) / 8

/-- The stick-breaking attention. -/
def attn (q k v : S2x8192x512.Idx → EReal) : S2x8192x512.Idx → EReal := fun x =>
  ∑ j ∈ Finset.range 8192, at3 v (x 0) j (x 2).val * ((wt (score q k (x 0) ((x 2).val / 64) (x 1).val) (x 1).val 8192 j : ℝ) : EReal)

/-- An array of real numbers. -/
def Finite (a : S2x8192x512.Idx → EReal) : Prop := ∀ x, a x = ((a x).toReal : EReal)

theorem at3_coe {a : S2x8192x512.Idx → EReal} (ha : Finite a) (b : Fin 2) (j e : ℕ) : at3 a b j e = ((at3 a b j e).toReal : EReal) := by
  unfold at3
  split
  · exact ha _
  · simp

/-- A sum of 128 terms, those off the head's half zero. -/
theorem sum_half (f : ℕ → ℝ) (h : Fin 2) :
    ∑ e : Fin 128, (if e.val / 64 = h.val then f e.val else 0) = ∑ d : Fin 64, f (64 * h.val + d.val) := by
  have e : ∀ g : ℕ → ℝ, ∑ e : Fin 128, g e.val = ∑ d : Fin 64, g d.val + ∑ d : Fin 64, g (64 + d.val) := fun g => by
    rw [← Finset.sum_range, ← Finset.sum_range, show (128 : ℕ) = 64 + 64 from rfl, Finset.sum_range_add, ← Finset.sum_range (fun d => g (64 + d))]
  rw [e fun e => if e / 64 = h.val then f e else 0]
  fin_cases h
  · rw [Finset.sum_eq_zero (f := fun d : Fin 64 => if (64 + d.val) / 64 = _ then _ else _), add_zero]
    · refine Finset.sum_congr rfl fun d _ => ?_
      have := d.isLt
      show (if d.val / 64 = 0 then f d.val else 0) = f (64 * 0 + d.val)
      rw [if_pos (by omega), mul_zero, zero_add]
    · intro d _
      have := d.isLt
      exact if_neg (show ¬ (64 + d.val) / 64 = 0 by omega)
  · rw [Finset.sum_eq_zero (f := fun d : Fin 64 => if d.val / 64 = _ then _ else _), zero_add]
    · refine Finset.sum_congr rfl fun d _ => ?_
      have := d.isLt
      show (if (64 + d.val) / 64 = 1 then f (64 + d.val) else 0) = f (64 * 1 + d.val)
      rw [if_pos (by omega), mul_one]
    · intro d _
      have := d.isLt
      exact if_neg (show ¬ d.val / 64 = 1 by omega)

theorem qT_apply (S : Src Ideal) (i : Nat) (h : Fin 2) (e : Fin 128) (c : Fin 512) :
    qT S i h (ix2 e c) = if e.val / 64 = h.val then S.Q i (ix4 0 0 e c) else 0 := by
  have he := e.isLt
  unfold qT
  fin_cases h
  · show tile0 (S.Q i) (ix2 e c) = if e.val / 64 = 0 then S.Q i (ix4 0 0 e c) else 0
    rw [tile0_apply]
    exact if_congr (show e.val < 64 ↔ e.val / 64 = 0 by omega) rfl rfl
  · show tile1 (S.Q i) (ix2 e c) = if e.val / 64 = 1 then S.Q i (ix4 0 0 e c) else 0
    rw [tile1_apply]
    exact if_congr (show 64 ≤ e.val ↔ e.val / 64 = 1 by omega) rfl rfl

section Block

variable {q k v : S2x8192x512.Idx → EReal} (hq : Finite q) (hk : Finite k) (b : Fin 2) (hp : Fin 4)
  {il mk : Ideal .f32} (hil : il = (((Real.log 2)⁻¹ : ℝ) : EReal)) (hmk : mk = ⊥)
  {x2 : Vec Ideal S1x16x128x512 .bf16} {x3 : Vec Ideal S1x8192x128 .bf16} {x4 : Vec Ideal S1x32x128x256 .bf16}
  (h2 : ∀ (i : Fin 16) (e : Fin 128) (c : Fin 512), x2 (ix4 0 i e c) = at3 q b (512 * i.val + c.val) (128 * hp.val + e.val) * ((1 / 8 / Real.log 2 : ℝ) : EReal))
  (h3 : ∀ (j : Fin 8192) (e : Fin 128), x3 (ix3 0 j e) = at3 k b j.val (128 * hp.val + e.val))
  (h4 : ∀ (n : Fin 32) (e : Fin 128) (r : Fin 256), x4 (ix4 0 n e r) = at3 v b (256 * n.val + r.val) (128 * hp.val + e.val))
include hq hk hil hmk h2 h3 h4

/-- What a grid point's blocks hold, read at a query of a head. -/
theorem reads (i : ℕ) (hi : i < 16) (h : Fin 2) (c : Fin 512) :
    Reads (srcV il mk x2 x3 x4) i h c (score q k b (2 * hp.val + h.val) (512 * i + c.val))
      (fun d j => at3 v b j (64 * (2 * hp.val + h.val) + d.val)) where
  il := hil
  msk := hmk
  z := by
    intro n hn r
    have hr := r.isLt
    have hh := h.isLt
    have hK : ∀ e : Fin 128, (srcV il mk x2 x3 x4).K n (ix3 0 r e) = at3 k b (256 * n + r.val) (128 * hp.val + e.val) := by
      intro e
      have : (srcV il mk x2 x3 x4).K n (ix3 0 r e) = x3 (ix3 0 ⟨256 * (n % 32) + r.val, by omega⟩ e) := by
        unfold srcV
        pointwise
      rw [this, h3]
      show at3 k b (256 * (n % 32) + r.val) _ = _
      rw [Nat.mod_eq_of_lt (by omega)]
    have hQ : ∀ e : Fin 128, (srcV il mk x2 x3 x4).Q i (ix4 0 0 e c)
        = at3 q b (512 * i + c.val) (128 * hp.val + e.val) * ((1 / 8 / Real.log 2 : ℝ) : EReal) := by
      intro e
      have : (srcV il mk x2 x3 x4).Q i (ix4 0 0 e c) = x2 (ix4 0 ⟨i % 16, by omega⟩ e c) := by
        unfold srcV
        pointwise
      rw [this, h2]
      show at3 q b (512 * (i % 16) + c.val) _ * _ = _
      rw [Nat.mod_eq_of_lt (by omega)]
    rw [zOf_apply]
    obtain ⟨f, hf⟩ : ∃ f : ℕ → ℝ, f = fun e => (at3 q b (512 * i + c.val) (128 * hp.val + e)).toReal
            * (at3 k b (256 * n + r.val) (128 * hp.val + e)).toReal * (1 / 8 / Real.log 2) := ⟨_, rfl⟩
    have ht : ∀ e : Fin 128, (srcV il mk x2 x3 x4).K n (ix3 0 r e) * qT (srcV il mk x2 x3 x4) i h (ix2 e c)
        = ((if e.val / 64 = h.val then f e.val else 0 : ℝ) : EReal) := by
      intro e
      rw [qT_apply, hK]
      split
      · rw [hQ, at3_coe hq, at3_coe hk, ← EReal.coe_mul, ← EReal.coe_mul]
        congr 1
        rw [hf]
        ring
      · rw [mul_zero, EReal.coe_zero]
    rw [Finset.sum_congr rfl fun e _ => ht e, ← coe_sum, sum_half f h, hf, ← Finset.sum_mul]
    congr 1
    unfold score
    have e1 : ∀ d : ℕ, 64 * (2 * hp.val + h.val) + d = 128 * hp.val + (64 * h.val + d) := fun d => by omega
    simp only [e1]
    ring
  v := by
    intro n hn d r
    have hd := d.isLt
    have hh := h.isLt
    have : (srcV il mk x2 x3 x4).V n h (ix4 0 0 d r) = x4 (ix4 0 ⟨n % 32, by omega⟩ ⟨64 * h.val + d.val, by omega⟩ r) := by
      unfold srcV
      pointwise
    rw [this, h4]
    show at3 v b (256 * (n % 32) + r.val) (128 * hp.val + (64 * h.val + d.val)) = at3 v b (256 * n + r.val) (64 * (2 * hp.val + h.val) + d.val)
    rw [Nat.mod_eq_of_lt (by omega), show 128 * hp.val + (64 * h.val + d.val) = 64 * (2 * hp.val + h.val) + d.val by omega]

/-- A grid point's output block is the attention's. -/
theorem outV_apply (s : Fin 8192) (l : Fin 128) :
    outV il mk x2 x3 x4 (ix3 0 s l) = attn q k v (ix3 b s ⟨128 * hp.val + l.val, by omega⟩) := by
  have hs := s.isLt
  have hl := l.isLt
  have hi : s.val / 512 < 16 := by omega
  have e : outV il mk x2 x3 x4 (ix3 0 s l) = yOf (hst (srcV il mk x2 x3 x4) (s.val / 512) 0 (2 * (s.val / 512) + 2)).2
      (hst (srcV il mk x2 x3 x4) (s.val / 512) 1 (2 * (s.val / 512) + 2)).2 (ix3 0 ⟨s.val % 512, Nat.mod_lt _ (by decide)⟩ l) := by
    show Out _ _ (inBlock (ix3 0 s l)) = _
    have : inBlock (ix3 0 s l) = ix3 0 ⟨s.val % 512, Nat.mod_lt _ (by decide)⟩ l := by
      funext a
      fin_cases a <;> rfl
    rw [this]
    rfl
  have hsd : 512 * (s.val / 512) + s.val % 512 = s.val := Nat.div_add_mod _ _
  rw [e, yOf_apply]
  split
  · rename_i h
    rw [acc_apply (reads hq hk b hp hil hmk h2 h3 h4 (s.val / 512) hi 0 ⟨s.val % 512, Nat.mod_lt _ (by decide)⟩) hi]
    show _ = ∑ j ∈ Finset.range 8192, at3 v b j (128 * hp.val + l.val) * ((wt (score q k b ((128 * hp.val + l.val) / 64) s.val) s.val 8192 j : ℝ) : EReal)
    refine Finset.sum_congr rfl fun j _ => ?_
    show at3 v b j (64 * (2 * hp.val + 0) + l.val) * ((wt (score q k b (2 * hp.val + 0) (512 * (s.val / 512) + s.val % 512)) (512 * (s.val / 512) + s.val % 512) 8192 j : ℝ) : EReal) = _
    rw [hsd, show 64 * (2 * hp.val + 0) + l.val = 128 * hp.val + l.val by omega, show (128 * hp.val + l.val) / 64 = 2 * hp.val + 0 by omega]
  · rename_i h
    rw [acc_apply (reads hq hk b hp hil hmk h2 h3 h4 (s.val / 512) hi 1 ⟨s.val % 512, Nat.mod_lt _ (by decide)⟩) hi]
    show _ = ∑ j ∈ Finset.range 8192, at3 v b j (128 * hp.val + l.val) * ((wt (score q k b ((128 * hp.val + l.val) / 64) s.val) s.val 8192 j : ℝ) : EReal)
    refine Finset.sum_congr rfl fun j _ => ?_
    show at3 v b j (64 * (2 * hp.val + 1) + (l.val - 64)) * ((wt (score q k b (2 * hp.val + 1) (512 * (s.val / 512) + s.val % 512)) (512 * (s.val / 512) + s.val % 512) 8192 j : ℝ) : EReal) = _
    rw [hsd, show 64 * (2 * hp.val + 1) + (l.val - 64) = 128 * hp.val + l.val by omega, show (128 * hp.val + l.val) / 64 = 2 * hp.val + 1 by omega]

end Block

end Cert.Proof.Sb

end
-- ==== Proof.Final.lean ====
/-
  The kernel's result after the run, over the extended reals: one function of the argument arrays.
-/
module

public import proofs.«01_k».proof.Proof.KernelIdealRun
public import proofs.«01_k».proof.Proof.Result
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The scaled queries, tile by tile and transposed; -/
def qIn (a : FVec Ideal S2x8192x512 .f32) : FVec Ideal S2x16x512x512 .bf16 :=
  transpose S2x16x512x512 [0, 1, 3, 2] (shapeCast S2x16x512x512 (truncf .bf16 (mulf a (broadcastInDim S2x8192x512 ![] bcast_S_S2x8192x512
    (Host.divf (constant S_ .f32 0x3E000000#32) (Host.log (constant S_ .f32 0x40000000#32))))) bitsLt_bf16_f32)
    shapeCasts_S2x8192x512_S2x16x512x512) transposes_S2x16x512x512_S2x16x512x512_0_1_3_2
/-- the keys; -/
def kIn (a : FVec Ideal S2x8192x512 .f32) : FVec Ideal S2x8192x512 .bf16 := truncf .bf16 a bitsLt_bf16_f32
/-- and the values, block by block and transposed. -/
def vIn (a : FVec Ideal S2x8192x512 .f32) : FVec Ideal S2x32x512x256 .bf16 :=
  transpose S2x32x512x256 [0, 1, 3, 2] (shapeCast S2x32x256x512
      (truncf .bf16 a bitsLt_bf16_f32) shapeCasts_S2x8192x512_S2x32x256x512) transposes_S2x32x256x512_S2x32x512x256_0_1_3_2

theorem V_v6 (c : Dev nD) : V m c main_v6 = qIn (m ((c : Thread nD τ).loc main_arg0)) := by
  unfold V hostOps0
  after_results_simp <;> rfl
theorem V_v7 (c : Dev nD) : V m c main_v7 = kIn (m ((c : Thread nD τ).loc main_arg1)) := by
  unfold V hostOps0
  after_results_simp <;> rfl
theorem V_v10 (c : Dev nD) : V m c main_v10 = vIn (m ((c : Thread nD τ).loc main_arg2)) := by
  unfold V hostOps0
  after_results_simp <;> rfl

/-- The scale: an eighth, in units of `log 2`. -/
theorem scale_eq : Ideal.div (Ideal.ofBits .f32 0x3E000000#32) (Ideal.log (Ideal.ofBits .f32 0x40000000#32)) = ((1 / 8 / Real.log 2 : ℝ) : EReal) := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h8, h2, Ideal.log_coe, if_neg (by norm_num), Ideal.div_coe Sb.log2_pos.ne', ← EReal.coe_mul]
  congr 1; ring

theorem qIn_apply (a : FVec Ideal S2x8192x512 .f32) (b : Fin 2) (i : Fin 16) (e : Fin 512) (l : Fin 512) :
    qIn a (ix4 b i e l) = a (ix3 b ⟨512 * i.val + l.val, by omega⟩ e) * ((1 / 8 / Real.log 2 : ℝ) : EReal) := by
  pointwise [qIn]
  rw [scale_eq]
  congr 3
  exact Fin.ext (by show i.val * 512 + l.val = 512 * i.val + l.val; omega)
theorem kIn_apply (a : FVec Ideal S2x8192x512 .f32) (b : Fin 2) (j : Fin 8192) (e : Fin 512) : kIn a (ix3 b j e) = a (ix3 b j e) := by
  pointwise [kIn]
theorem vIn_apply (a : FVec Ideal S2x8192x512 .f32) (b : Fin 2) (n : Fin 32) (e : Fin 512) (r : Fin 256) :
    vIn a (ix4 b n e r) = a (ix3 b ⟨256 * n.val + r.val, by omega⟩ e) := by
  pointwise [vIn]
  congr 2
  exact Fin.ext (by show n.val * 256 + r.val = 256 * n.val + r.val; omega)

theorem idx_facts : ∀ t : Fin cfg0.N, win0_0.index t = ![(grid0.coords t 0).val, 0, (grid0.coords t 1).val, 0]
    ∧ win0_1.index t = ![(grid0.coords t 0).val, 0, (grid0.coords t 1).val]
    ∧ win0_2.index t = ![(grid0.coords t 0).val, 0, (grid0.coords t 1).val, 0]
    ∧ win0_3.index t = ![(grid0.coords t 0).val, 0, (grid0.coords t 1).val] :=
  (by decide +kernel : ∀ t : Fin grid0.N, _)

/-- The named constants' values. -/
theorem il_eq : (il (F := Ideal)) = (((Real.log 2)⁻¹ : ℝ) : EReal) :=
  IdealRules.named_const.ideal_named_scalar _ _ _ _ rfl
theorem mk_eq : (mk (F := Ideal)) = ⊥ :=
  IdealRules.named_const.ideal_named_scalar _ _ _ _ rfl

/-- The input blocks at an index. -/
theorem iblk0_apply (c : Dev nD) (t : Fin cfg0.N) (b : Fin 2) (hb : b.val = (grid0.coords t 0).val) (hp : Fin 4) (hh : hp.val = (grid0.coords t 1).val)
    (i : Fin 16) (e : Fin 128) (l : Fin 512) : iblk m c 0 t (ix4 0 i e l)
      = Sb.at3 (m ((c : Thread nD τ).loc main_arg0)) b (512 * i.val + l.val) (128 * hp.val + e.val) * ((1 / 8 / Real.log 2 : ℝ) : EReal) := by
  obtain ⟨e0, e1, e2, e3⟩ := idx_facts t
  have : iblk m c 0 t (ix4 0 i e l) = V m c main_v6 (ix4 b i ⟨128 * hp.val + e.val, by omega⟩ l) := by
    blk_simp [iblk]
    refine congrArg (V m c main_v6) ?_
    funext a
    fin_cases a <;> apply Fin.ext <;> blk_simp [e0] <;> simp [hb, hh] <;> omega
  rw [this, V_v6, qIn_apply]
  exact congrArg (· * _) (Sb.at3_eq (m ((c : Thread nD τ).loc main_arg0)) _ _ _).symm

theorem iblk1_apply (c : Dev nD) (t : Fin cfg0.N) (b : Fin 2) (hb : b.val = (grid0.coords t 0).val) (hp : Fin 4) (hh : hp.val = (grid0.coords t 1).val)
    (j : Fin 8192) (e : Fin 128) : iblk m c 1 t (ix3 0 j e)
      = Sb.at3 (m ((c : Thread nD τ).loc main_arg1)) b j.val (128 * hp.val + e.val) := by
  obtain ⟨e0, e1, e2, e3⟩ := idx_facts t
  have : iblk m c 1 t (ix3 0 j e) = V m c main_v7 (ix3 b j ⟨128 * hp.val + e.val, by omega⟩) := by
    blk_simp [iblk]
    refine congrArg (V m c main_v7) ?_
    funext a
    fin_cases a <;> apply Fin.ext <;> blk_simp [e1] <;> simp [hb, hh] <;> omega
  rw [this, V_v7, kIn_apply]
  exact (Sb.at3_eq (m ((c : Thread nD τ).loc main_arg1)) _ _ _).symm

theorem iblk2_apply (c : Dev nD) (t : Fin cfg0.N) (b : Fin 2) (hb : b.val = (grid0.coords t 0).val) (hp : Fin 4) (hh : hp.val = (grid0.coords t 1).val)
    (n : Fin 32) (e : Fin 128) (r : Fin 256) : iblk m c 2 t (ix4 0 n e r)
      = Sb.at3 (m ((c : Thread nD τ).loc main_arg2)) b (256 * n.val + r.val) (128 * hp.val + e.val) := by
  obtain ⟨e0, e1, e2, e3⟩ := idx_facts t
  have : iblk m c 2 t (ix4 0 n e r) = V m c main_v10 (ix4 b n ⟨128 * hp.val + e.val, by omega⟩ r) := by
    blk_simp [iblk]
    refine congrArg (V m c main_v10) ?_
    funext a
    fin_cases a <;> apply Fin.ext <;> blk_simp [e2] <;> simp [hb, hh] <;> omega
  rw [this, V_v10, vIn_apply]
  exact (Sb.at3_eq (m ((c : Thread nD τ).loc main_arg2)) _ _ _).symm

/-- The result array after the run: the attention of the arguments, the queries and keys finite. -/
theorem final_o (c : Dev nD) (hq : Sb.Finite (m ((c : Thread nD τ).loc main_arg0))) (hk : Sb.Finite (m ((c : Thread nD τ).loc main_arg1))) :
    (dats m 0 c).arrAt 3 cfg0.N
      = Sb.attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨e0, e1, e2, e3⟩ := idx_facts t
  have hb := (grid0.coords t 0).isLt
  have hh := (grid0.coords t 1).isLt
  obtain ⟨s, l, rfl⟩ : ∃ (s : Fin 8192) (l : Fin 128), y = (show S1x8192x128.Idx from ix3 0 s l) := by
    have h : ∀ y : S1x8192x128.Idx, ∃ (s : Fin 8192) (l : Fin 128), y = ix3 0 s l := fun y => ⟨y 1, y 2, by
      have h0 : (show Fin 1 from y 0) = (0 : Fin 1) := Subsingleton.elim _ _
      exact (eq_ix3 y).trans (congrArg (fun z : Fin 1 => (ix3 z (show Fin 8192 from y 1) (show Fin 128 from y 2))) h0)⟩
    exact h y
  refine (Sb.outV_apply hq hk ⟨(grid0.coords t 0).val, hb⟩ ⟨(grid0.coords t 1).val, hh⟩ il_eq mk_eq (iblk0_apply m c t _ rfl _ rfl)
    (iblk1_apply m c t _ rfl _ rfl) (iblk2_apply m c t _ rfl _ rfl) s l).trans ?_
  refine congrArg (Sb.attn _ _ _) ?_
  funext a
  fin_cases a <;> apply Fin.ext <;> blk_simp [e3] <;> simp <;> omega

end Cert.Proof.KernelIdeal

end
-- ==== Proof.RefValue.lean ====
/-
  What the reference computes, read at one index: the attention of its three arrays, when the queries and the keys are finite.
-/
module

public import proofs.«01_k».proof.Proof.Gen.ReferenceIdeal
public import proofs.«01_k».proof.Proof.Gen.ReferenceIdeal.Run
public import proofs.«01_k».proof.Proof.Result
public import Idealize.ShloMosaic.Lib.Pointwise
public import Idealize.ShloMosaic.Lib.WordCmp

@[expose] public section

set_option maxRecDepth 16384

noncomputable section

namespace Cert.Proof.ReferenceIdeal

open Cert.ReferenceIdeal Cert.ReferenceIdeal.Gen
open Idealize Idealize.ShloMosaic Idealize.ShloMosaic.TcCoe

/-- An array of the reference by its heads: batch, head, position, lane in the head. -/
def heads (a : FVec Ideal S2x8192x512 .f32) : FVec Ideal S2x8x8192x64 .f32 :=
  transpose S2x8x8192x64 [0, 2, 1, 3] (shapeCast S2x8192x8x64 a shapeCasts_S2x8192x512_S2x8192x8x64)
    transposes_S2x8192x8x64_S2x8x8192x64_0_2_1_3

/-- One number at every pair of positions. -/
def every (x : FVec Ideal S_ .f32) : FVec Ideal S2x8x8192x8192 .f32 :=
  broadcastInDim S2x8x8192x8192 ![] bcast_S_S2x8x8192x8192 x

/-- The scores: the products of queries and keys, scaled by an eighth. -/
def zR (q k : FVec Ideal S2x8192x512 .f32) : FVec Ideal S2x8x8192x8192 .f32 :=
  mulf (Host.dotGeneral dot_S2x8x8192x64_S2x8x8192x64_S2x8x8192x8192_3_3_2_2_01_01 none (heads q) (heads k)) (every (constant S_ .f32 0x3E000000#32))

/-- The logarithm of the sigmoid, as the reference spells it. -/
def lsR (x : FVec Ideal S2x8x8192x8192 .f32) : FVec Ideal S2x8x8192x8192 .f32 :=
  Host.negf (select
    (cmpf .une (subf (Host.negf x) (every (constant S_ .f32 0x00000000#32))) (subf (Host.negf x) (every (constant S_ .f32 0x00000000#32))))
    (addf (Host.negf x) (every (constant S_ .f32 0x00000000#32)))
    (addf (maximumf (Host.negf x) (every (constant S_ .f32 0x00000000#32)))
      (Host.log1p (Host.exp (Host.negf (Host.absf (subf (Host.negf x) (every (constant S_ .f32 0x00000000#32)))))))))

/-- Which pairs of positions count: the key strictly before the query. -/
def maskR : IVec S2x8x8192x8192 1 :=
  broadcastInDim S2x8x8192x8192 ![2, 3] bcast_S8192x8192_S2x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- What each key leaves of the stick, by its logarithm. -/
def lomR (z : FVec Ideal S2x8x8192x8192 .f32) : FVec Ideal S2x8x8192x8192 .f32 :=
  select maskR (lsR (Host.negf z)) (every (id (constant S_ .f32 0x00000000#32)))

/-- The sums from each key on. -/
def cumR (x : FVec Ideal S2x8x8192x8192 .f32) : FVec Ideal S2x8x8192x8192 .f32 :=
  Host.reduceWindowAdd ![1, 1, 1, 8192] ![1, 1, 1, 1] ![0, 0, 0, 0] ![0, 0, 0, 8191] x
    (broadcastInDim S_ ![] bcast_S_S_ (constant S_ .f32 0x00000000#32))
    reduceWindows_S2x8x8192x8192_S2x8x8192x8192_w1s1p0_0_w1s1p0_0_w1s1p0_0_w8192s1p0_8191 h_S_

/-- The weights. -/
def wR (z : FVec Ideal S2x8x8192x8192 .f32) : FVec Ideal S2x8x8192x8192 .f32 :=
  select maskR (Host.exp (addf (lsR z) (subf (cumR (lomR z)) (lomR z)))) (every (id (constant S_ .f32 0x00000000#32)))

/-- The result: the weighted sums of the values, head by head, side by side again. -/
def outR (w : FVec Ideal S2x8x8192x8192 .f32) (v : FVec Ideal S2x8192x512 .f32) : FVec Ideal S2x8192x512 .bf16 :=
  truncf .bf16 (shapeCast S2x8192x512 (transpose S2x8192x8x64 [0, 2, 1, 3]
    (Host.dotGeneral dot_S2x8x8192x8192_S2x8x8192x64_S2x8x8192x64_3_2_2_3_01_01 none w (heads v))
    transposes_S2x8x8192x64_S2x8192x8x64_0_2_1_3) shapeCasts_S2x8192x8x64_S2x8192x512) bitsLt_bf16_f32

/-- The run's result is these stages in a row. -/
theorem res_eq (m : (ℓ : Loc nD τ sig) → Buf (Elt Ideal) ℓ) (c : Dev nD) :
    Value.res_main_v27 m c = outR (wR (zR (m ((c.tc : Thread nD τ).loc main_arg0)) (m ((c.tc : Thread nD τ).loc main_arg1))))
      (m ((c.tc : Thread nD τ).loc main_arg2)) := by
  unfold Value.res_main_v27
  rfl

/-- A head's entry. -/
theorem heads_apply (a : FVec Ideal S2x8192x512 .f32) (b : Fin 2) (h : Fin 8) (s : Fin 8192) (d : Fin 64) :
    heads a (ix4 b h s d) = Sb.at3 a b s.val (64 * h.val + d.val) := by
  unfold heads
  pointwise
  refine (Sb.at3_eq a b s ⟨h.val * 64 + d.val, by omega⟩).symm.trans ?_
  exact congrArg (Sb.at3 a b s.val) (by show h.val * 64 + d.val = 64 * h.val + d.val; omega)

/-- The scores, for finite queries and keys. -/
theorem zR_apply (q k : FVec Ideal S2x8192x512 .f32) (hq : Sb.Finite q) (hk : Sb.Finite k) (b : Fin 2) (h : Fin 8) (s t : Fin 8192) :
    zR q k (ix4 b h s t) = ((Sb.score q k b h.val s.val t.val : ℝ) : EReal) := by
  have h8 : Ideal.ofBits FTy.f32 0x3E000000#32 = ((1 / 8 : ℝ) : EReal) := by
    simp [Ideal.ofBits, Ideal.ieee, -EReal.coe_mul]; norm_num
  unfold zR every
  pointwise
  rw [h8]
  unfold Sb.score
  refine Eq.trans ?_ (congrArg (fun r : ℝ => (r : EReal)) (div_eq_mul_one_div (∑ d : Fin 64, (Sb.at3 q b s.val (64 * h.val + d.val)).toReal
    * (Sb.at3 k b t.val (64 * h.val + d.val)).toReal) 8).symm)
  rw [EReal.coe_mul, Sb.coe_sum]
  refine congrArg (· * _) (Finset.sum_congr rfl fun d _ => ?_)
  rw [heads_apply, heads_apply, Sb.at3_coe hq, Sb.at3_coe hk, EReal.coe_mul]
  simp only [EReal.toReal_coe]

/-- The logarithm of the sigmoid of a real number. -/
theorem lsR_apply (x : FVec Ideal S2x8x8192x8192 .f32) (i : S2x8x8192x8192.Idx) (z : ℝ) (hx : x i = (z : EReal)) :
    lsR x i = ((Sb.ls z : ℝ) : EReal) := by
  unfold lsR every
  pointwise
  rw [hx, if_neg (fun h => h rfl)]
  exact Sb.base_e z

/-- The mask's words. -/
theorem maskR_apply (b : Fin 2) (h : Fin 8) (s t : Fin 8192) : maskR (ix4 b h s t) = BitVec.ofBool (decide (t.val < s.val)) := by
  unfold maskR
  pointwise
  exact WordCmp.cmpi_slt_ofNat (by omega) (by omega)

/-- The logarithm of what a key leaves, zero where it does not count. -/
theorem lomR_apply (z : FVec Ideal S2x8x8192x8192 .f32) (b : Fin 2) (h : Fin 8) (s : Fin 8192) (f : ℕ → ℝ)
    (hz : ∀ t : Fin 8192, z (ix4 b h s t) = ((f t.val : ℝ) : EReal)) (t : Fin 8192) :
    lomR z (ix4 b h s t) = ((Sb.left f s.val t.val : ℝ) : EReal) := by
  unfold lomR every
  show Scalar.select (maskR (ix4 b h s t)) (lsR (Host.negf z) (ix4 b h s t)) (Ideal.ofBits FTy.f32 0x00000000#32) = _
  rw [maskR_apply, WordCmp.select_ofBool, lsR_apply _ _ (-(f t.val)) (by
    show -(z (ix4 b h s t)) = _
    rw [hz, EReal.coe_neg])]
  unfold Sb.left
  simp only [decide_eq_true_eq]
  split
  · rfl
  · simp [Ideal.ofBits, Ideal.ieee]

/-- A fold that adds is a sum. -/
theorem foldl_add_sum (n : ℕ) (g : Fin n → EReal) : (List.finRange n).foldl (fun r i => r + g i) 0 = ∑ i, g i := by
  rw [Fin.sum_univ_def, List.sum_eq_foldl, List.foldl_map]

/-- The sums from a key on, of a row of real numbers. -/
theorem cumR_apply (x : FVec Ideal S2x8x8192x8192 .f32) (b : Fin 2) (h : Fin 8) (s : Fin 8192) (f : ℕ → ℝ)
    (hx : ∀ t : Fin 8192, x (ix4 b h s t) = ((f t.val : ℝ) : EReal)) (t : Fin 8192) :
    cumR x (ix4 b h s t) = ((∑ j ∈ Finset.Ico t.val 8192, f j : ℝ) : EReal) := by
  have h0 : Ideal.ofBits FTy.f32 0x00000000#32 = 0 := by simp [Ideal.ofBits, Ideal.ieee]
  have ht := t.isLt
  let W : Shape := ⟨4, (![1, 1, 1, 8192] : Fin 4 → ℕ)⟩
  have hW : W.numel = 8192 := by simp [W, Shape.numel, Fin.prod_univ_succ]
  have hw : ∀ n : Fin W.numel, (W.rowMajor.symm n 0).val = 0 ∧ (W.rowMajor.symm n 1).val = 0 ∧ (W.rowMajor.symm n 2).val = 0
      ∧ (W.rowMajor.symm n 3).val = n.val := by
    intro n
    have h0 : (W.rowMajor.symm n 0).val < 1 := (W.rowMajor.symm n 0).isLt
    have h1 : (W.rowMajor.symm n 1).val < 1 := (W.rowMajor.symm n 1).isLt
    have h2 : (W.rowMajor.symm n 2).val < 1 := (W.rowMajor.symm n 2).isLt
    have h3 : n.val = (((W.rowMajor.symm n 0).val * 1 + (W.rowMajor.symm n 1).val) * 1 + (W.rowMajor.symm n 2).val) * 8192
        + (W.rowMajor.symm n 3).val := by
      have e := Shape.rowMajor_val_four (d := ![1, 1, 1, 8192]) (W.rowMajor.symm n)
      rw [show (⟨4, (![1, 1, 1, 8192] : Fin 4 → ℕ)⟩ : Shape).rowMajor (W.rowMajor.symm n) = n from W.rowMajor.apply_symm_apply n] at e
      exact e
    omega
  have hv : (broadcastInDim S_ ![] bcast_S_S_ (constant S_ .f32 0x00000000#32) : FVec Ideal S_ .f32) (Shape.Idx.first h_S_) = 0 := h0
  unfold cumR Host.reduceWindowAdd
  rw [hv, Ideal.hostReduceWindowAdd_def]
  unfold Ideal.hostReduceWindowAdd Host.reduceWindow
  refine Eq.trans (b := (List.finRange W.numel).foldl (fun r n => r + (fun n : Fin W.numel =>
    (fun n : ℕ => (((if t.val + n < 8192 then f (t.val + n) else 0 : ℝ)) : EReal)) n.val) n) 0) ?_ ?_
  · refine congrArg (fun g => (List.finRange W.numel).foldl g (0 : EReal)) ?_
    funext r n
    obtain ⟨w0, w1, w2, w3⟩ := hw n
    refine congrArg (r + ·) ?_
    dsimp only
    split
    · next hin =>
      have h3 := hin 3
      change 0 ≤ t.val * 1 + (W.rowMajor.symm n 3).val ∧ t.val * 1 + (W.rowMajor.symm n 3).val - 0 < 8192 at h3
      rw [w3] at h3
      rw [if_pos (by omega)]
      refine (congrArg x (funext fun a => Fin.ext ?_)).trans (hx ⟨t.val + n.val, by omega⟩)
      match a with
      | ⟨0, _⟩ => show b.val * 1 + (W.rowMajor.symm n 0).val - 0 = b.val; omega
      | ⟨1, _⟩ => show h.val * 1 + (W.rowMajor.symm n 1).val - 0 = h.val; omega
      | ⟨2, _⟩ => show s.val * 1 + (W.rowMajor.symm n 2).val - 0 = s.val; omega
      | ⟨3, _⟩ => show t.val * 1 + (W.rowMajor.symm n 3).val - 0 = t.val + n.val; omega
    · next hin =>
      rw [if_neg fun hlt => hin fun a => by
        match a with
        | ⟨0, _⟩ =>
          show 0 ≤ b.val * 1 + (W.rowMajor.symm n 0).val ∧ b.val * 1 + (W.rowMajor.symm n 0).val - 0 < 2
          omega
        | ⟨1, _⟩ =>
          show 0 ≤ h.val * 1 + (W.rowMajor.symm n 1).val ∧ h.val * 1 + (W.rowMajor.symm n 1).val - 0 < 8
          omega
        | ⟨2, _⟩ =>
          show 0 ≤ s.val * 1 + (W.rowMajor.symm n 2).val ∧ s.val * 1 + (W.rowMajor.symm n 2).val - 0 < 8192
          omega
        | ⟨3, _⟩ =>
          show 0 ≤ t.val * 1 + (W.rowMajor.symm n 3).val ∧ t.val * 1 + (W.rowMajor.symm n 3).val - 0 < 8192
          omega]
      rfl
  · rw [foldl_add_sum, ← Finset.sum_range (fun n : ℕ => (((if t.val + n < 8192 then f (t.val + n) else 0 : ℝ)) : EReal)), hW, ← Sb.coe_sum]
    refine congrArg _ ?_
    have split : ∀ N : ℕ, t.val ≤ N → ∀ g : ℕ → ℝ, ∑ i ∈ Finset.range N, g i
        = ∑ i ∈ Finset.range (N - t.val), g i + ∑ i ∈ Finset.range t.val, g (N - t.val + i) := fun N hN g => by
      rw [← Finset.sum_range_add, Nat.sub_add_cancel hN]
    rw [Finset.sum_Ico_eq_sum_range, split 8192 (by omega), Finset.sum_eq_zero (s := Finset.range t.val), add_zero]
    · refine Finset.sum_congr rfl fun j hj => ?_
      have := Finset.mem_range.1 hj
      rw [if_pos (by omega)]
    · intro j hj
      rw [if_neg (by omega)]

/-- The weights. -/
theorem wR_apply (z : FVec Ideal S2x8x8192x8192 .f32) (b : Fin 2) (h : Fin 8) (s : Fin 8192) (f : ℕ → ℝ)
    (hz : ∀ t : Fin 8192, z (ix4 b h s t) = ((f t.val : ℝ) : EReal)) (t : Fin 8192) :
    wR z (ix4 b h s t) = ((Sb.wt f s.val 8192 t.val : ℝ) : EReal) := by
  unfold wR every
  show Scalar.select (maskR (ix4 b h s t)) (Ideal.exp (lsR z (ix4 b h s t) + (cumR (lomR z) (ix4 b h s t) - lomR z (ix4 b h s t))))
    (Ideal.ofBits FTy.f32 0x00000000#32) = _
  rw [maskR_apply, WordCmp.select_ofBool, lsR_apply _ _ _ (hz t), cumR_apply _ b h s _ (lomR_apply z b h s f hz), lomR_apply z b h s f hz,
    ← EReal.coe_sub, ← EReal.coe_add]
  unfold Sb.wt
  simp only [decide_eq_true_eq]
  split
  · rw [Finset.sum_eq_sum_Ico_succ_bot t.isLt, add_sub_cancel_left]
    rfl
  · simp [Ideal.ofBits, Ideal.ieee]

/-- The reference's result is the attention of its arguments. -/
theorem outR_eq (q k v : FVec Ideal S2x8192x512 .f32) (hq : Sb.Finite q) (hk : Sb.Finite k) : outR (wR (zR q k)) v = Sb.attn q k v := by
  funext x
  obtain ⟨b, s, e, rfl⟩ : ∃ (b : Fin 2) (s : Fin 8192) (e : Fin 512), x = ix3 b s e := ⟨x 0, x 1, x 2, eq_ix3 x⟩
  unfold outR
  pointwise
  show _ = ∑ j ∈ Finset.range 8192, Sb.at3 v b j e.val * ((Sb.wt (Sb.score q k b (e.val / 64) s.val) s.val 8192 j : ℝ) : EReal)
  rw [Finset.sum_range]
  refine Finset.sum_congr rfl fun t _ => ?_
  rw [wR_apply _ b _ s _ (zR_apply q k hq hk b _ s), heads_apply, mul_comm]
  refine congrArg (fun n => Sb.at3 v b t.val n * _) ?_
  show 64 * (e.val / 64) + e.val % 64 = e.val
  omega

/-- The run leaves the attention of the arguments. -/
theorem res_attn (m : (ℓ : Loc nD τ sig) → Buf (Elt Ideal) ℓ) (c : Dev nD) (hq : Sb.Finite (m ((c.tc : Thread nD τ).loc main_arg0)))
    (hk : Sb.Finite (m ((c.tc : Thread nD τ).loc main_arg1))) :
    Value.res_main_v27 m c = Sb.attn (m ((c.tc : Thread nD τ).loc main_arg0)) (m ((c.tc : Thread nD τ).loc main_arg1))
      (m ((c.tc : Thread nD τ).loc main_arg2)) :=
  (res_eq m c).trans (outR_eq _ _ _ hq hk)

end Cert.Proof.ReferenceIdeal

end
-- ==== Proof.Finite.lean ====
/-
  The precondition, read as real numbers: the queries and the keys have no infinite entry.
-/
module

public import proofs.«01_k».proof.Defs
public import proofs.«01_k».proof.Proof.Result
public import Idealize.ShloMosaic.Lib.ReduceAll
public import Idealize.ShloMosaic.Lib.Affine

@[expose] public section

noncomputable section

namespace Cert.Proof

open Idealize.ShloMosaic

/-- A number whose absolute value is below the infinite one is real. -/
theorem real_of_lt (x : EReal) (h : FloatOps.cmpf (F := Ideal) (φ := .f32) .olt (max x (-x)) (Ideal.ofBits FTy.f32 0x7F800000#32) = 1#1) : x = (x.toReal : EReal) := by
  have e : Ideal.ofBits FTy.f32 0x7F800000#32 = ⊤ := by simp [Ideal.ofBits, Ideal.ieee]
  rw [e] at h
  have hlt : max x (-x) < ⊤ := by
    by_contra hn
    exact absurd ((show BitVec.ofBool (decide (max x (-x) < ⊤)) = 1#1 from h).symm.trans (by rw [decide_eq_false hn])) (by decide)
  refine (EReal.coe_toReal ?_ ?_).symm
  · rintro rfl
    simp at hlt
  · rintro rfl
    simp at hlt

/-- The precondition makes the queries and the keys finite. -/
theorem finite_of_pre [Cert.Pre_finite.Facts] (q k v : FVec Ideal Cert.Pre_finite.S2x8192x512 .f32)
    (h : Cert.Pre_finite.fn (F := Ideal) q k v = fun _ => 1#1) : Sb.Finite q ∧ Sb.Finite k := by
  have h0 := congrFun h ix0
  dsimp only [Cert.Pre_finite.fn] at h0
  obtain ⟨h1, h2⟩ := IntOp.andi_eq_one.1 h0
  haveI : Subsingleton Cert.Pre_finite.S_.Idx := ⟨fun a b => funext fun i => i.elim0⟩
  exact ⟨fun x => real_of_lt _ (Host.reduce_andi_all _ _ _ _ _ h1 x), fun x => real_of_lt _ (Host.reduce_andi_all _ _ _ _ _ h2 x)⟩

end Cert.Proof

end
-- ==== Proof.FfnReads.lean ====
/- What the feed-forward body reads back from its scratch buffers: a window of rows of one half of a projection, and a range of columns of the activations. -/
module
public import proofs.«01_k».proof.Proof.Gen.Kernel2Ideal.Value
public import Idealize.ShloMosaic.Lib.Pointwise
public import Idealize.ShloMosaic.Lib.Pipeline.ValueKit
public import Idealize.ShloMosaic.Lib.Pipeline.ReadBack
@[expose] public section
noncomputable section
namespace Cert.Proof.Ffn
open Cert.Kernel2Ideal Cert.Kernel2Ideal.Gen
open Idealize.ShloMosaic Idealize.ShloMosaic.TcCoe Idealize.ShloMosaic.Tactic

/-- A window of 512 of the 528 rows lies within them. -/
theorem rows_inb {r : ℕ} (h : r + 512 ≤ 528) : ∀ k, (![0, r, 0] : Fin 3 → ℕ) k + (![1, 512, 256] : Fin 3 → ℕ) k ≤ S1x528x256.size k := by
  intro k
  fin_cases k
  · exact Nat.le_refl 1
  · exact h
  · exact Nat.le_refl 256

/-- Rows r to r + 511 of a half that was stored whole are those rows of what was stored. -/
theorem readCov_rows {sp : Space} (v : View sig κ sp S2x528x256 .f32) {a r : ℕ}
    {inb : ∀ k, (![a, 0, 0] : Fin 3 → ℕ) k + (![1, 528, 256] : Fin 3 → ℕ) k ≤ S2x528x256.size k}
    {inb' : ∀ k, (![a, r, 0] : Fin 3 → ℕ) k + (![1, 512, 256] : Fin 3 → ℕ) k ≤ S2x528x256.size k}
    (w : S1x528x256.Idx → EReal) (L : List (View.Piece (Elt Ideal) S2x528x256 .f32)) :
    v.readCov (⟨Rect.unit ![a, 0, 0] ![1, 528, 256] inb, w⟩ :: L) (Rect.unit ![a, r, 0] ![1, 512, 256] inb').toLoadRect
      = View.ld (S := S1x528x256) (e' := .f32) (Val := Elt Ideal) w (Rect.unit (s := S1x528x256) ![0, r, 0] ![1, 512, 256] (rows_inb (inb' 1))) := by
  rw [View.readCov_eq_canon']
  funext j
  have hr : r + 512 ≤ 528 := inb' 1
  have hj : (j 1 : Fin 512).val < 512 := (j 1 : Fin 512).isLt
  have e0 : j 0 = (0 : Fin 1) := Subsingleton.elim (α := Fin 1) _ _
  refine (congrArg _ ?_).trans (View.canon_cons_emb (Rect.unit ![a, 0, 0] ![1, 528, 256] inb) w L
    ((Rect.unit (s := S1x528x256) ![0, r, 0] ![1, 512, 256] (rows_inb (inb' 1))).emb j))
  funext k
  fin_cases k <;> apply Fin.ext
  · show a + 1 * (j 0).val = a + 1 * (0 + 1 * (j 0).val)
    omega
  · show r + 1 * (j 1).val = 0 + 1 * (r + 1 * (j 1).val)
    omega
  · show 0 + 1 * (j 2).val = 0 + 1 * (0 + 1 * (j 2).val)
    omega

end Cert.Proof.Ffn
end
-- ==== Proof.FfnStages.lean ====
/- The feed-forward body's result at a grid point as its stages: the causal convolution of a chunk of both halves of the
   up-projection, the gated activations of a chunk, the down projection of two groups of chunks, and the layer's end. -/
module
public import proofs.«01_k».proof.Proof.FfnReads
@[expose] public section
noncomputable section
namespace Cert.Proof.Ffn
open Cert.Kernel2Ideal Cert.Kernel2Ideal.Gen
open Idealize.ShloMosaic Idealize.ShloMosaic.TcCoe Idealize.ShloMosaic.Tactic
open Idealize.SL.Sem

variable (H : FVec Ideal S528x1024 .bf16) (W : FVec Ideal S1024x5632 .bf16) (K : FVec Ideal S3x5632 .f32) (B : FVec Ideal S1x5632 .f32)

/-- Columns j to j + 255 of the projection's weights. -/
theorem wcols_inb {j : ℕ} (h : j + 256 ≤ 5632) : ∀ k, (![0, j] : Fin 2 → ℕ) k + (![1024, 256] : Fin 2 → ℕ) k ≤ S1024x5632.size k := by
  intro k
  fin_cases k
  · exact Nat.le_refl 1024
  · exact h

/-- Columns j to j + 255 of the bias. -/
theorem bcols_inb {j : ℕ} (h : j + 256 ≤ 5632) : ∀ k, (![0, j] : Fin 2 → ℕ) k + (![1, 256] : Fin 2 → ℕ) k ≤ S1x5632.size k := by
  intro k
  fin_cases k
  · exact Nat.le_refl 1
  · exact h

/-- Columns j to j + 255 of one of the convolution's three taps. -/
theorem kcols_inb {i j : ℕ} (hi : i + 1 ≤ 3) (h : j + 256 ≤ 5632) : ∀ k, (![i, j] : Fin 2 → ℕ) k + (![1, 256] : Fin 2 → ℕ) k ≤ S3x5632.size k := by
  intro k
  fin_cases k
  · exact hi
  · exact h

/-- The projection of the extended block on columns j to j + 255. -/
def upV (j : ℕ) (h : j + 256 ≤ 5632) : FVec Ideal S1x528x256 .f32 :=
  k0_pay6 H (View.ld (Val := Elt Ideal) (e' := .bf16) W (Rect.unit ![0, j] ![1024, 256] (wcols_inb h)))

/-- Its rows from r on. -/
def rowsV (j r : ℕ) (h : j + 256 ≤ 5632) (hr : r + 512 ≤ 528) : FVec Ideal S1x512x256 .f32 :=
  View.ld (Val := Elt Ideal) (e' := .f32) (upV H W j h) (Rect.unit ![0, r, 0] ![1, 512, 256] (rows_inb hr))

/-- A tap's weights on those columns. -/
def tapV (i j : ℕ) (hi : i + 1 ≤ 3) (h : j + 256 ≤ 5632) : FVec Ideal S1x256 .f32 :=
  View.ld (Val := Elt Ideal) (e' := .f32) K (Rect.unit ![i, j] ![1, 256] (kcols_inb hi h))

/-- The bias on those columns. -/
def biasV (j : ℕ) (h : j + 256 ≤ 5632) : FVec Ideal S1x256 .f32 :=
  View.ld (Val := Elt Ideal) (e' := .f32) B (Rect.unit ![0, j] ![1, 256] (bcols_inb h))

/-- The gated activations of the chunk whose gates lie at columns j and whose values lie at columns j'. -/
def actV (j j' : ℕ) (h : j + 256 ≤ 5632) (h' : j' + 256 ≤ 5632) : FVec Ideal S512x256 .bf16 :=
  k0_pay10
    (k0_pay8 (biasV B j h) (tapV K 0 j (by omega) h) (rowsV H W j 14 h (by omega)) (tapV K 1 j (by omega) h) (rowsV H W j 15 h (by omega)) (tapV K 2 j (by omega) h) (rowsV H W j 16 h (by omega)))
    (k0_pay9 (biasV B j h) (tapV K 0 j (by omega) h) (rowsV H W j 14 h (by omega)) (tapV K 1 j (by omega) h) (rowsV H W j 15 h (by omega)) (tapV K 2 j (by omega) h) (rowsV H W j 16 h (by omega)))
    (biasV B j' h') (tapV K 0 j' (by omega) h') (rowsV H W j' 14 h' (by omega)) (tapV K 1 j' (by omega) h') (rowsV H W j' 15 h' (by omega)) (tapV K 2 j' (by omega) h') (rowsV H W j' 16 h' (by omega))

/-- The chunks stored before the first group's down projection, the last stored first. -/
def chunks6 : List (View.Piece (Elt Ideal) S512x2816 .bf16) :=
  [⟨Rect.unit ![0, 1280] ![512, 256] inb_S512x2816_S512x256_0_1280, actV H W K B 1280 4096 (by omega) (by omega)⟩,
    ⟨Rect.unit ![0, 1024] ![512, 256] inb_S512x2816_S512x256_0_1024, actV H W K B 1024 3840 (by omega) (by omega)⟩,
    ⟨Rect.unit ![0, 768] ![512, 256] inb_S512x2816_S512x256_0_768, actV H W K B 768 3584 (by omega) (by omega)⟩,
    ⟨Rect.unit ![0, 512] ![512, 256] inb_S512x2816_S512x256_0_512, actV H W K B 512 3328 (by omega) (by omega)⟩,
    ⟨Rect.unit ![0, 256] ![512, 256] inb_S512x2816_S512x256_0_256, actV H W K B 256 3072 (by omega) (by omega)⟩,
    ⟨Rect.unit ![0, 0] ![512, 256] inb_S512x2816_S512x256_0_0, actV H W K B 0 2816 (by omega) (by omega)⟩]

/-- All chunks, the last stored first. -/
def chunks11 : List (View.Piece (Elt Ideal) S512x2816 .bf16) :=
  [⟨Rect.unit ![0, 2560] ![512, 256] inb_S512x2816_S512x256_0_2560, actV H W K B 2560 5376 (by omega) (by omega)⟩,
    ⟨Rect.unit ![0, 2304] ![512, 256] inb_S512x2816_S512x256_0_2304, actV H W K B 2304 5120 (by omega) (by omega)⟩,
    ⟨Rect.unit ![0, 2048] ![512, 256] inb_S512x2816_S512x256_0_2048, actV H W K B 2048 4864 (by omega) (by omega)⟩,
    ⟨Rect.unit ![0, 1792] ![512, 256] inb_S512x2816_S512x256_0_1792, actV H W K B 1792 4608 (by omega) (by omega)⟩,
    ⟨Rect.unit ![0, 1536] ![512, 256] inb_S512x2816_S512x256_0_1536, actV H W K B 1536 4352 (by omega) (by omega)⟩,
    ⟨Rect.unit ![0, 1280] ![512, 256] inb_S512x2816_S512x256_0_1280, actV H W K B 1280 4096 (by omega) (by omega)⟩,
    ⟨Rect.unit ![0, 1024] ![512, 256] inb_S512x2816_S512x256_0_1024, actV H W K B 1024 3840 (by omega) (by omega)⟩,
    ⟨Rect.unit ![0, 768] ![512, 256] inb_S512x2816_S512x256_0_768, actV H W K B 768 3584 (by omega) (by omega)⟩,
    ⟨Rect.unit ![0, 512] ![512, 256] inb_S512x2816_S512x256_0_512, actV H W K B 512 3328 (by omega) (by omega)⟩,
    ⟨Rect.unit ![0, 256] ![512, 256] inb_S512x2816_S512x256_0_256, actV H W K B 256 3072 (by omega) (by omega)⟩,
    ⟨Rect.unit ![0, 0] ![512, 256] inb_S512x2816_S512x256_0_0, actV H W K B 0 2816 (by omega) (by omega)⟩]

/-- The activations of the first six chunks, as the down projection loads them. -/
def read6 : FVec Ideal S512x1536 .bf16 :=
  View.readCov (Val := Elt Ideal) (s := S512x2816) (e := .bf16) (View.whole cc0_scratch2) (chunks6 H W K B)
    (Rect.unit (s := S512x2816) ![0, 0] ![512, 1536] inb_S512x2816_S512x1536_0_0).toLoadRect

/-- The activations of the last five chunks, as the down projection loads them. -/
def read11 : FVec Ideal S512x1280 .bf16 :=
  View.readCov (Val := Elt Ideal) (s := S512x2816) (e := .bf16) (View.whole cc0_scratch2) (chunks11 H W K B)
    (Rect.unit (s := S512x2816) ![0, 1536] ![512, 1280] inb_S512x2816_S512x1280_0_1536).toLoadRect

variable (m : (ℓ : Loc nD τ sig) → Buf (Elt Ideal) ℓ)
set_option maxHeartbeats 1000000

/-- The feed-forward product of a point's rows, from the activations as read back. -/
def ffnV (A6 : FVec Ideal S512x1536 .bf16) (A11 : FVec Ideal S512x1280 .bf16) (D : FVec Ideal S2816x1024 .bf16) : FVec Ideal S512x1024 .f32 :=
  k0_pay73 (k0_pay44 A6 (View.ld (Val := Elt Ideal) (e' := .bf16) D (Rect.unit ![0, 0] ![1536, 1024] inb_S2816x1024_S1536x1024_0_0))) A11
    (View.ld (Val := Elt Ideal) (e' := .bf16) D (Rect.unit ![1536, 0] ![1280, 1024] inb_S2816x1024_S1280x1024_1536_0))

/-- The layer's end at a point, from the feed-forward product, the residual rows, the norm's weights, the gate's weights, the embedding rows and
    the embedding's weights. -/
def endV (f : FVec Ideal S512x1024 .f32) (x : FVec Ideal S1x512x1024 .f32) (g : FVec Ideal S1x1024 .f32) (wg : FVec Ideal S1024x1024 .bf16)
    (p : FVec Ideal S1x512x256 .f32) (wp : FVec Ideal S256x1024 .bf16) : FVec Ideal S1x512x1024 .f32 :=
  k0_pay1 (k0_pay75 f (k0_pay74 x) g) (k0_pay76 f (k0_pay74 x) g wg) p wp

/-- What a grid point stores to its output block, in stages. -/
theorem outsAt0_stages (c : Dev nD) (t : Fin cfg0.N) (y : S1x512x1024.Idx) : outsAt0 m c t y
    = endV (ffnV
        (read6 (k0_pay2 (grid0.coords t) (iblk m c 2 t) (iblk m c 1 t)) (iblk m c 4 t) (iblk m c 5 t) (iblk m c 6 t))
        (read11 (k0_pay2 (grid0.coords t) (iblk m c 2 t) (iblk m c 1 t)) (iblk m c 4 t) (iblk m c 5 t) (iblk m c 6 t))
        (iblk m c 7 t)) (iblk m c 0 t) (iblk m c 8 t) (iblk m c 9 t) (iblk m c 3 t) (iblk m c 10 t) y := by
  unfold outsAt0
  frame_open
  simp (disch := decide) only [↓ readCov_rows, ↓ View.readCov_skip, ↓ View.readCov_cons_toLoadRect, ↓ View.readCov_fill]
  frame_out
  rfl
end Cert.Proof.Ffn
end
-- ==== Proof.FfnValue.lean ====
/- The stages of the feed-forward body at an index, over the extended reals. -/
module
public import proofs.«01_k».proof.Proof.FfnStages
@[expose] public section
noncomputable section
namespace Cert.Proof.Ffn
open Cert.Kernel2Ideal Cert.Kernel2Ideal.Gen
open Idealize.ShloMosaic Idealize.ShloMosaic.TcCoe Idealize.ShloMosaic.Tactic
open Idealize.SL.Sem

/-- The activation function in its tanh form, with the constants as 32-bit words. -/
def gelu (z : EReal) : EReal :=
  Ideal.ofBits .f32 0x3F000000#32 * z * (Ideal.ofBits .f32 0x3F800000#32 + Ideal.tanh (Ideal.ofBits .f32 0x3F4C422A#32 * (z + Ideal.ofBits .f32 0x3D372713#32 * (z * z * z))))

variable (H : FVec Ideal S528x1024 .bf16) (W : FVec Ideal S1024x5632 .bf16) (K : FVec Ideal S3x5632 .f32) (B : FVec Ideal S1x5632 .f32)

/-- An entry of the extended block's projection. -/
def up (n : Fin 528) (j : Fin 5632) : EReal := ∑ d : Fin 1024, H (ix2 n d) * W (ix2 d j)

/-- An entry of its convolution. -/
def conv (s : Fin 512) (j : Fin 5632) : EReal :=
  B (ix2 0 j) + K (ix2 0 j) * up H W ⟨14 + s.val, by omega⟩ j + K (ix2 1 j) * up H W ⟨15 + s.val, by omega⟩ j + K (ix2 2 j) * up H W ⟨16 + s.val, by omega⟩ j

/-- A gated activation. -/
def act (s : Fin 512) (j : Fin 2816) : EReal :=
  gelu (conv H W K B s ⟨j.val, by omega⟩) * conv H W K B s ⟨2816 + j.val, by omega⟩

/-- An entry of a projected chunk. -/
theorem upV_apply (j : ℕ) (h : j + 256 ≤ 5632) (n : Fin 528) (l : Fin 256) :
    upV H W j h (ix3 0 n l) = up H W n ⟨j + l.val, by omega⟩ := by
  pointwise [upV, k0_pay6, up]

/-- An entry of a chunk's rows from a given row on. -/
theorem rowsV_apply (j r : ℕ) (h : j + 256 ≤ 5632) (hr : r + 512 ≤ 528) (s : Fin 512) (l : Fin 256) :
    rowsV H W j r h hr (ix3 0 s l) = up H W ⟨r + s.val, by omega⟩ ⟨j + l.val, by omega⟩ := by
  unfold rowsV
  pointwise
  exact upV_apply H W j h _ l

/-- An entry of a tap's chunk. -/
theorem tapV_apply (i j : ℕ) (hi : i + 1 ≤ 3) (h : j + 256 ≤ 5632) (l : Fin 256) :
    tapV K i j hi h (ix2 0 l) = K (ix2 ⟨i, hi⟩ ⟨j + l.val, by omega⟩) := by
  pointwise [tapV]

/-- An entry of the bias's chunk. -/
theorem biasV_apply (j : ℕ) (h : j + 256 ≤ 5632) (l : Fin 256) :
    biasV B j h (ix2 0 l) = B (ix2 0 ⟨j + l.val, by omega⟩) := by
  pointwise [biasV]

/-- The convolution of the projection on columns j to j + 255. -/
def convV (j : ℕ) (h : j + 256 ≤ 5632) : FVec Ideal S512x256 .f32 :=
  k0_pay7 (biasV B j h) (tapV K 0 j (by omega) h) (rowsV H W j 14 h (by omega)) (tapV K 1 j (by omega) h) (rowsV H W j 15 h (by omega)) (tapV K 2 j (by omega) h) (rowsV H W j 16 h (by omega))

/-- An entry of a convolved chunk. -/
theorem convV_apply (j : ℕ) (h : j + 256 ≤ 5632) (s : Fin 512) (l : Fin 256) :
    convV H W K B j h (ix2 s l)
      = conv H W K B s ⟨j + l.val, by omega⟩ := by
  unfold convV k0_pay7
  pointwise
  rw [biasV_apply, rowsV_apply, rowsV_apply, rowsV_apply]
  rw [tapV_apply, tapV_apply, tapV_apply]
  rfl

/-- An entry of a chunk of the activations. -/
theorem actV_apply (j j' : ℕ) (h : j + 256 ≤ 5632) (h' : j' + 256 ≤ 5632) (s : Fin 512) (l : Fin 256) :
    actV H W K B j j' h h' (ix2 s l) = gelu (conv H W K B s ⟨j + l.val, by omega⟩) * conv H W K B s ⟨j' + l.val, by omega⟩ := by
  have e : actV H W K B j j' h h' (ix2 s l) = gelu (convV H W K B j h (ix2 s l))
    * convV H W K B j' h' (ix2 s l) := by
    unfold actV k0_pay10 k0_pay8 k0_pay9 gelu
    pointwise [convV, k0_pay7]
  rw [e, convV_apply, convV_apply]

/-- The activations as one array. -/
def acts : FVec Ideal S512x2816 .bf16 := fun y => act H W K B (y 0) (y 1)

/-- A stored chunk is its columns of that array. -/
theorem piece_ok (j : ℕ) (hj : j + 256 ≤ 2816) (h : j + 256 ≤ 5632) (h' : 2816 + j + 256 ≤ 5632)
    (inb : ∀ k, (![0, j] : Fin 2 → ℕ) k + (![512, 256] : Fin 2 → ℕ) k ≤ S512x2816.size k) (x : S512x256.Idx) :
    actV H W K B j (2816 + j) h h' x = acts H W K B ((Rect.unit (s := S512x2816) ![0, j] ![512, 256] inb).emb x) := by
  obtain ⟨s, l, rfl⟩ : ∃ (s : Fin 512) (l : Fin 256), x = ix2 s l := ⟨x 0, x 1, eq_ix2 x⟩
  rw [actV_apply]
  have e0 : (Rect.unit (s := S512x2816) ![0, j] ![512, 256] inb).emb (ix2 s l) 0 = s := Fin.ext (by show 0 + 1 * s.val = s.val; omega)
  have e1 : (Rect.unit (s := S512x2816) ![0, j] ![512, 256] inb).emb (ix2 s l) 1 = (⟨j + l.val, by omega⟩ : Fin 2816) :=
    Fin.ext (by show j + 1 * l.val = j + l.val; omega)
  show _ = act H W K B ((Rect.unit (s := S512x2816) ![0, j] ![512, 256] inb).emb (ix2 s l) 0) ((Rect.unit (s := S512x2816) ![0, j] ![512, 256] inb).emb (ix2 s l) 1)
  rw [e0, e1]
  unfold act
  simp only [Nat.add_assoc]

/-- A column of a chunk lies in the chunk's store. -/
theorem mem_cols (j : ℕ) (inb : ∀ k, (![0, j] : Fin 2 → ℕ) k + (![512, 256] : Fin 2 → ℕ) k ≤ S512x2816.size k) (y : S512x2816.Idx)
    (h : j ≤ (y 1 : Fin 2816).val) (h' : (y 1 : Fin 2816).val < j + 256) : y ∈ (Rect.unit (s := S512x2816) ![0, j] ![512, 256] inb).set := by
  rw [Rect.mem_set_unit]
  intro a
  have h0 : (y 0 : Fin 512).val < 512 := (y 0 : Fin 512).isLt
  fin_cases a
  · exact ⟨Nat.zero_le _, by show (y 0).val < 0 + 512; exact h0⟩
  · exact ⟨h, h'⟩

/-- The first six chunks are pieces of the array of activations. -/
theorem pieces6 : View.PiecesOf (Val := Elt Ideal) (e := .bf16) (acts H W K B) (chunks6 H W K B) :=
  ⟨piece_ok H W K B 1280 (by omega) (by omega) (by omega) inb_S512x2816_S512x256_0_1280,
    piece_ok H W K B 1024 (by omega) (by omega) (by omega) inb_S512x2816_S512x256_0_1024,
    piece_ok H W K B 768 (by omega) (by omega) (by omega) inb_S512x2816_S512x256_0_768,
    piece_ok H W K B 512 (by omega) (by omega) (by omega) inb_S512x2816_S512x256_0_512,
    piece_ok H W K B 256 (by omega) (by omega) (by omega) inb_S512x2816_S512x256_0_256,
    piece_ok H W K B 0 (by omega) (by omega) (by omega) inb_S512x2816_S512x256_0_0, trivial⟩

/-- So are all eleven. -/
theorem pieces11 : View.PiecesOf (Val := Elt Ideal) (e := .bf16) (acts H W K B) (chunks11 H W K B) :=
  ⟨piece_ok H W K B 2560 (by omega) (by omega) (by omega) inb_S512x2816_S512x256_0_2560,
    piece_ok H W K B 2304 (by omega) (by omega) (by omega) inb_S512x2816_S512x256_0_2304,
    piece_ok H W K B 2048 (by omega) (by omega) (by omega) inb_S512x2816_S512x256_0_2048,
    piece_ok H W K B 1792 (by omega) (by omega) (by omega) inb_S512x2816_S512x256_0_1792,
    piece_ok H W K B 1536 (by omega) (by omega) (by omega) inb_S512x2816_S512x256_0_1536,
    piece_ok H W K B 1280 (by omega) (by omega) (by omega) inb_S512x2816_S512x256_0_1280,
    piece_ok H W K B 1024 (by omega) (by omega) (by omega) inb_S512x2816_S512x256_0_1024,
    piece_ok H W K B 768 (by omega) (by omega) (by omega) inb_S512x2816_S512x256_0_768,
    piece_ok H W K B 512 (by omega) (by omega) (by omega) inb_S512x2816_S512x256_0_512,
    piece_ok H W K B 256 (by omega) (by omega) (by omega) inb_S512x2816_S512x256_0_256,
    piece_ok H W K B 0 (by omega) (by omega) (by omega) inb_S512x2816_S512x256_0_0, trivial⟩

/-- The first six chunks cover the first 1536 columns. -/
theorem cover6 (y : S512x2816.Idx) (h : (y 1 : Fin 2816).val < 1536) : ∃ p ∈ chunks6 H W K B, y ∈ p.1.set := by
  unfold chunks6
  simp only [List.mem_cons, List.not_mem_nil, or_false, exists_eq_or_imp, exists_eq_left]
  by_cases h5 : 1280 ≤ (y 1 : Fin 2816).val
  · exact .inl (mem_cols 1280 _ y h5 (by omega))
  by_cases h4 : 1024 ≤ (y 1 : Fin 2816).val
  · exact .inr (.inl (mem_cols 1024 _ y h4 (by omega)))
  by_cases h3 : 768 ≤ (y 1 : Fin 2816).val
  · exact .inr (.inr (.inl (mem_cols 768 _ y h3 (by omega))))
  by_cases h2 : 512 ≤ (y 1 : Fin 2816).val
  · exact .inr (.inr (.inr (.inl (mem_cols 512 _ y h2 (by omega)))))
  by_cases h1 : 256 ≤ (y 1 : Fin 2816).val
  · exact .inr (.inr (.inr (.inr (.inl (mem_cols 256 _ y h1 (by omega))))))
  by_cases h0 : 0 ≤ (y 1 : Fin 2816).val
  · exact .inr (.inr (.inr (.inr (.inr ((mem_cols 0 _ y h0 (by omega)))))))
  omega

/-- The eleven chunks cover every column. -/
theorem cover11 (y : S512x2816.Idx) : ∃ p ∈ chunks11 H W K B, y ∈ p.1.set := by
  unfold chunks11
  simp only [List.mem_cons, List.not_mem_nil, or_false, exists_eq_or_imp, exists_eq_left]
  have h : (y 1 : Fin 2816).val < 2816 := (y 1 : Fin 2816).isLt
  by_cases h10 : 2560 ≤ (y 1 : Fin 2816).val
  · exact .inl (mem_cols 2560 _ y h10 (by omega))
  by_cases h9 : 2304 ≤ (y 1 : Fin 2816).val
  · exact .inr (.inl (mem_cols 2304 _ y h9 (by omega)))
  by_cases h8 : 2048 ≤ (y 1 : Fin 2816).val
  · exact .inr (.inr (.inl (mem_cols 2048 _ y h8 (by omega))))
  by_cases h7 : 1792 ≤ (y 1 : Fin 2816).val
  · exact .inr (.inr (.inr (.inl (mem_cols 1792 _ y h7 (by omega)))))
  by_cases h6 : 1536 ≤ (y 1 : Fin 2816).val
  · exact .inr (.inr (.inr (.inr (.inl (mem_cols 1536 _ y h6 (by omega))))))
  by_cases h5 : 1280 ≤ (y 1 : Fin 2816).val
  · exact .inr (.inr (.inr (.inr (.inr (.inl (mem_cols 1280 _ y h5 (by omega)))))))
  by_cases h4 : 1024 ≤ (y 1 : Fin 2816).val
  · exact .inr (.inr (.inr (.inr (.inr (.inr (.inl (mem_cols 1024 _ y h4 (by omega))))))))
  by_cases h3 : 768 ≤ (y 1 : Fin 2816).val
  · exact .inr (.inr (.inr (.inr (.inr (.inr (.inr (.inl (mem_cols 768 _ y h3 (by omega)))))))))
  by_cases h2 : 512 ≤ (y 1 : Fin 2816).val
  · exact .inr (.inr (.inr (.inr (.inr (.inr (.inr (.inr (.inl (mem_cols 512 _ y h2 (by omega))))))))))
  by_cases h1 : 256 ≤ (y 1 : Fin 2816).val
  · exact .inr (.inr (.inr (.inr (.inr (.inr (.inr (.inr (.inr (.inl (mem_cols 256 _ y h1 (by omega)))))))))))
  by_cases h0 : 0 ≤ (y 1 : Fin 2816).val
  · exact .inr (.inr (.inr (.inr (.inr (.inr (.inr (.inr (.inr (.inr ((mem_cols 0 _ y h0 (by omega))))))))))))
  omega

/-- What is read back after six chunks: the activations of the first 1536 columns. -/
theorem read6_apply (s : Fin 512) (l : Fin 1536) : read6 H W K B (ix2 s l) = act H W K B s ⟨l.val, by omega⟩ := by
  unfold read6
  rw [View.readCov_eq_canon']
  refine (View.canon_apply_of_pieces (acts H W K B) _ (pieces6 H W K B).mem _ (cover6 H W K B _ ?_)).trans ?_
  · show 0 + 1 * l.val < 1536
    omega
  · refine congrArg₂ (act H W K B) (Fin.ext ?_) (Fin.ext ?_)
    · show 0 + 1 * s.val = s.val
      omega
    · show 0 + 1 * l.val = l.val
      omega

/-- What is read back after all chunks: the activations of the last 1280 columns. -/
theorem read11_apply (s : Fin 512) (l : Fin 1280) : read11 H W K B (ix2 s l) = act H W K B s ⟨1536 + l.val, by omega⟩ := by
  unfold read11
  rw [View.readCov_eq_canon']
  refine (View.canon_apply_of_pieces (acts H W K B) _ (pieces11 H W K B).mem _ (cover11 H W K B _)).trans ?_
  refine congrArg₂ (act H W K B) (Fin.ext ?_) (Fin.ext ?_)
  · show 0 + 1 * s.val = s.val
    omega
  · show 1536 + 1 * l.val = 1536 + l.val
    omega

/-- The feed-forward product, the two groups joined. -/
theorem ffnV_apply (D : FVec Ideal S2816x1024 .bf16) (s : Fin 512) (e : Fin 1024) :
    ffnV (read6 H W K B) (read11 H W K B) D (ix2 s e) = ∑ j : Fin 2816, act H W K B s j * D (ix2 j e) := by
  unfold ffnV k0_pay73 k0_pay44
  pointwise
  refine Eq.trans ?_ (Fin.sum_univ_add (a := 1536) (b := 1280) fun j : Fin (1536 + 1280) => act H W K B s j * D (ix2 j e)).symm
  refine congrArg₂ (· + ·) (Finset.sum_congr rfl fun l _ => ?_) (Finset.sum_congr rfl fun l _ => ?_)
  · rw [read6_apply]
    rfl
  · rw [read11_apply]
    rfl

/-- A row after the normalised product is added. -/
def row2 (f x g : Fin 1024 → EReal) (e : Fin 1024) : EReal :=
  x e + f e * Ideal.rsqrt (Ideal.div (∑ k, f k * f k) (Ideal.ofBits .f32 0x44800000#32) + Ideal.ofBits .f32 0x358637BD#32) * g e

/-- The layer's end on one row. -/
def rowEnd (f x g : Fin 1024 → EReal) (wg : Fin 1024 → Fin 1024 → EReal) (p : Fin 256 → EReal) (wp : Fin 256 → Fin 1024 → EReal) (e : Fin 1024) : EReal :=
  row2 f x g e + Ideal.div 1 (1 + Ideal.exp (-(∑ k, row2 f x g k * wg k e)))
    * ∑ k, p k * wp k e

/-- An entry of the residual row after the normalised product is added. -/
theorem pay75_apply (f : FVec Ideal S512x1024 .f32) (x : FVec Ideal S1x512x1024 .f32) (g : FVec Ideal S1x1024 .f32) (s : Fin 512) (e : Fin 1024) :
    k0_pay75 f (k0_pay74 x) g (ix2 s e) = row2 (fun k => f (ix2 s k)) (fun k => x (ix3 0 s k)) (fun k => g (ix2 0 k)) e := by
  unfold k0_pay75 k0_pay74 row2
  pointwise

/-- An entry of the point's result. -/
theorem endV_apply (f : FVec Ideal S512x1024 .f32) (x : FVec Ideal S1x512x1024 .f32) (g : FVec Ideal S1x1024 .f32) (wg : FVec Ideal S1024x1024 .bf16)
    (p : FVec Ideal S1x512x256 .f32) (wp : FVec Ideal S256x1024 .bf16) (s : Fin 512) (e : Fin 1024) :
    endV f x g wg p wp (ix3 0 s e) = rowEnd (fun k => f (ix2 s k)) (fun k => x (ix3 0 s k)) (fun k => g (ix2 0 k)) (fun k e => wg (ix2 k e))
      (fun k => p (ix3 0 s k)) (fun k e => wp (ix2 k e)) e := by
  unfold endV k0_pay1 k0_pay76 rowEnd
  pointwise
  simp only [pay75_apply, zero_sub]

end Cert.Proof.Ffn
end
-- ==== Proof.FfnSpec.lean ====
/- The feed-forward part of the layer as one function of its argument arrays, entry by entry, over the extended reals: a row's projection, its causal
   convolution over three rows (zero before the first row), the gated activations, the down projection, its norm added to the residual row, and the
   gated per-layer embedding. -/
module
public import proofs.«01_k».proof.Proof.FfnValue
@[expose] public section
noncomputable section
namespace Cert.Proof.Ffn
open Cert.Kernel2Ideal Cert.Kernel2Ideal.Gen
open Idealize.ShloMosaic Idealize.ShloMosaic.TcCoe Idealize.ShloMosaic.Tactic
open Idealize.SL.Sem

/-- The projection of the row k - 2 places after row s, zero before the first row. -/
def tap (h : FVec Ideal S2x8192x1024 .f32) (w : FVec Ideal S1024x5632 .f32) (b : Fin 2) (s : Fin 8192) (k : Fin 3) (j : Fin 5632) : EReal :=
  if s.val + k.val < 2 then 0 else ∑ d : Fin 1024, h (ix3 b ⟨s.val + k.val - 2, by omega⟩ d) * w (ix2 d j)

/-- The causal convolution of the projection. -/
def mix (h : FVec Ideal S2x8192x1024 .f32) (w : FVec Ideal S1024x5632 .f32) (cw : FVec Ideal S3x5632 .f32) (cb : FVec Ideal S5632 .f32)
    (b : Fin 2) (s : Fin 8192) (j : Fin 5632) : EReal :=
  cb (ix1 j) + cw (ix2 0 j) * tap h w b s 0 j + cw (ix2 1 j) * tap h w b s 1 j + cw (ix2 2 j) * tap h w b s 2 j

/-- The feed-forward product of a row. -/
def ffn (h : FVec Ideal S2x8192x1024 .f32) (w : FVec Ideal S1024x5632 .f32) (cw : FVec Ideal S3x5632 .f32) (cb : FVec Ideal S5632 .f32)
    (wd : FVec Ideal S2816x1024 .f32) (b : Fin 2) (s : Fin 8192) (e : Fin 1024) : EReal :=
  ∑ j : Fin 2816, gelu (mix h w cw cb b s ⟨j.val, by omega⟩) * mix h w cw cb b s ⟨2816 + j.val, by omega⟩ * wd (ix2 j e)

/-- The layer's result. -/
def layer (x h : FVec Ideal S2x8192x1024 .f32) (p : FVec Ideal S2x8192x256 .f32) (w : FVec Ideal S1024x5632 .f32) (cw : FVec Ideal S3x5632 .f32)
    (cb : FVec Ideal S5632 .f32) (wd : FVec Ideal S2816x1024 .f32) (g : FVec Ideal S1024 .f32) (wp : FVec Ideal S256x1024 .f32)
    (wg : FVec Ideal S1024x1024 .f32) : FVec Ideal S2x8192x1024 .f32 := fun y =>
  rowEnd (ffn h w cw cb wd (y 0) (y 1)) (fun k => x (ix3 (show Fin 2 from y 0) (show Fin 8192 from y 1) k)) (fun k => g (ix1 k)) (fun k e => wg (ix2 k e))
    (fun k => p (ix3 (show Fin 2 from y 0) (show Fin 8192 from y 1) k)) (fun k e => wp (ix2 k e)) (y 2)

end Cert.Proof.Ffn
end
-- ==== Proof.FfnFinal.lean ====
/- The feed-forward kernel's result after the run, over the extended reals: the layer's function of the argument arrays. -/
module
public import proofs.«01_k».proof.Proof.FfnSpec
@[expose] public section
set_option maxRecDepth 16384
noncomputable section
namespace Cert.Proof.Ffn
open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ)

/-- What the host hands the kernel: arrays narrowed, -/
def narrow {s : Shape} (a : FVec Ideal s .f32) : FVec Ideal s .bf16 := truncf .bf16 a bitsLt_bf16_f32
/-- the bias as a row, -/
def biasRow (a : FVec Ideal S5632 .f32) : FVec Ideal S1x5632 .f32 := shapeCast S1x5632 a shapeCasts_S5632_S1x5632
/-- and the norm's weights as a row. -/
def normRow (a : FVec Ideal S1024 .f32) : FVec Ideal S1x1024 .f32 := shapeCast S1x1024 a shapeCasts_S1024_S1x1024

/-- The hidden rows reach the call narrowed. -/
theorem V_v0 (c : Dev nD) : V m c main_v0 = narrow (m ((c : Thread nD τ).loc main_arg1)) := by
  unfold V hostOps0
  after_results_simp <;> rfl
/-- So do the up projection's weights. -/
theorem V_v1 (c : Dev nD) : V m c main_v1 = narrow (m ((c : Thread nD τ).loc main_arg3)) := by
  unfold V hostOps0
  after_results_simp <;> rfl
/-- The bias reaches the call as a row. -/
theorem V_v2 (c : Dev nD) : V m c main_v2 = biasRow (m ((c : Thread nD τ).loc main_arg5)) := by
  unfold V hostOps0
  after_results_simp <;> rfl
/-- The down projection's weights reach the call narrowed. -/
theorem V_v3 (c : Dev nD) : V m c main_v3 = narrow (m ((c : Thread nD τ).loc main_arg6)) := by
  unfold V hostOps0
  after_results_simp <;> rfl
/-- The norm's gains reach the call as a row. -/
theorem V_v4 (c : Dev nD) : V m c main_v4 = normRow (m ((c : Thread nD τ).loc main_arg7)) := by
  unfold V hostOps0
  after_results_simp <;> rfl
/-- The gate's weights reach the call narrowed. -/
theorem V_v5 (c : Dev nD) : V m c main_v5 = narrow (m ((c : Thread nD τ).loc main_arg9)) := by
  unfold V hostOps0
  after_results_simp <;> rfl
/-- So do the embedding's. -/
theorem V_v6 (c : Dev nD) : V m c main_v6 = narrow (m ((c : Thread nD τ).loc main_arg8)) := by
  unfold V hostOps0
  after_results_simp <;> rfl

/-- The bias row holds the bias. -/
theorem biasRow_apply (a : FVec Ideal S5632 .f32) (j : Fin 5632) : biasRow a (ix2 0 j) = a (ix1 j) := by
  pointwise [biasRow]
/-- The gains' row holds the gains. -/
theorem normRow_apply (a : FVec Ideal S1024 .f32) (j : Fin 1024) : normRow a (ix2 0 j) = a (ix1 j) := by
  pointwise [normRow]

/-- The blocks a grid point moves: its rows of the streams, the sixteen rows before them, and its rows of the result. -/
theorem idx_facts : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 32 * (grid0.coords t 1).val - 1, 0]
    ∧ win0_3.index t = ![(grid0.coords t 0).val, (grid0.coords t 1).val, 0]
    ∧ win0_11.index t = ![(grid0.coords t 0).val, (grid0.coords t 1).val, 0] :=
  (by decide +kernel : ∀ t : Fin grid0.N, _)

/-- The weights' blocks are whole at every point. -/
theorem idx_zero : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The input blocks at an index. -/
theorem iblk0_apply (c : Dev nD) (t : Fin cfg0.N) (b : Fin 2) (hb : b.val = (grid0.coords t 0).val) (s : Fin 512) (r : Fin 8192)
    (hr : r.val = 512 * (grid0.coords t 1).val + s.val) (d : Fin 1024) :
    iblk m c 0 t (ix3 0 s d) = m ((c : Thread nD τ).loc main_arg0) (ix3 b r d) := by
  obtain ⟨e0, e1, e2, e3, e4⟩ := idx_facts t
  have : iblk m c 0 t (ix3 0 s d) = V m c main_arg0 (ix3 b r d) := by
    blk_simp [iblk]
    refine congrArg (V m c main_arg0) ?_
    funext a
    fin_cases a <;> apply Fin.ext <;> blk_simp [e0] <;> simp [hb, hr] <;> omega
  rw [this, V_main_arg0]

/-- The hidden block of a point holds the point's 512 rows. -/
theorem iblk1_apply (c : Dev nD) (t : Fin cfg0.N) (b : Fin 2) (hb : b.val = (grid0.coords t 0).val) (s : Fin 512) (r : Fin 8192)
    (hr : r.val = 512 * (grid0.coords t 1).val + s.val) (d : Fin 1024) :
    iblk m c 1 t (ix3 0 s d) = m ((c : Thread nD τ).loc main_arg1) (ix3 b r d) := by
  obtain ⟨e0, e1, e2, e3, e4⟩ := idx_facts t
  have : iblk m c 1 t (ix3 0 s d) = V m c main_v0 (ix3 b r d) := by
    blk_simp [iblk]
    refine congrArg (V m c main_v0) ?_
    funext a
    fin_cases a <;> apply Fin.ext <;> blk_simp [e1] <;> simp [hb, hr] <;> omega
  rw [this, V_v0]
  rfl

/-- The block before it holds the 16 rows before them. -/
theorem iblk2_apply (c : Dev nD) (t : Fin cfg0.N) (b : Fin 2) (hb : b.val = (grid0.coords t 0).val) (s : Fin 16) (r : Fin 8192)
    (hi : 0 < (grid0.coords t 1).val) (hr : r.val + 16 = 512 * (grid0.coords t 1).val + s.val) (d : Fin 1024) :
    iblk m c 2 t (ix3 0 s d) = m ((c : Thread nD τ).loc main_arg1) (ix3 b r d) := by
  obtain ⟨e0, e1, e2, e3, e4⟩ := idx_facts t
  have : iblk m c 2 t (ix3 0 s d) = V m c main_v0 (ix3 b r d) := by
    blk_simp [iblk]
    refine congrArg (V m c main_v0) ?_
    funext a
    fin_cases a <;> apply Fin.ext <;> blk_simp [e2] <;> simp [hb] <;> omega
  rw [this, V_v0]
  rfl

/-- The embedding's block holds the point's rows. -/
theorem iblk3_apply (c : Dev nD) (t : Fin cfg0.N) (b : Fin 2) (hb : b.val = (grid0.coords t 0).val) (s : Fin 512) (r : Fin 8192)
    (hr : r.val = 512 * (grid0.coords t 1).val + s.val) (d : Fin 256) :
    iblk m c 3 t (ix3 0 s d) = m ((c : Thread nD τ).loc main_arg2) (ix3 b r d) := by
  obtain ⟨e0, e1, e2, e3, e4⟩ := idx_facts t
  have : iblk m c 3 t (ix3 0 s d) = V m c main_arg2 (ix3 b r d) := by
    blk_simp [iblk]
    refine congrArg (V m c main_arg2) ?_
    funext a
    fin_cases a <;> apply Fin.ext <;> blk_simp [e3] <;> simp [hb, hr] <;> omega
  rw [this, V_main_arg2]

/-- The block of the up projection's weights is all of them. -/
theorem iblk4_apply (c : Dev nD) (t : Fin cfg0.N) (i : Fin 1024) (j : Fin 5632) :
    iblk m c 4 t (ix2 i j) = m ((c : Thread nD τ).loc main_arg3) (ix2 i j) := by
  obtain ⟨e4, e5, e6, e7, e8, e9, e10⟩ := idx_zero t
  have : iblk m c 4 t (ix2 i j) = V m c main_v1 (ix2 i j) := by
    blk_simp [iblk]
    refine congrArg (V m c main_v1) ?_
    funext a
    fin_cases a <;> apply Fin.ext <;> blk_simp [e4] <;> simp
  rw [this, V_v1]
  rfl

/-- The block of the taps is all of them. -/
theorem iblk5_apply (c : Dev nD) (t : Fin cfg0.N) (i : Fin 3) (j : Fin 5632) :
    iblk m c 5 t (ix2 i j) = m ((c : Thread nD τ).loc main_arg4) (ix2 i j) := by
  obtain ⟨e4, e5, e6, e7, e8, e9, e10⟩ := idx_zero t
  have : iblk m c 5 t (ix2 i j) = V m c main_arg4 (ix2 i j) := by
    blk_simp [iblk]
    refine congrArg (V m c main_arg4) ?_
    funext a
    fin_cases a <;> apply Fin.ext <;> blk_simp [e5] <;> simp
  rw [this, V_main_arg4]

/-- The block of the bias is all of it. -/
theorem iblk6_apply (c : Dev nD) (t : Fin cfg0.N) (j : Fin 5632) :
    iblk m c 6 t (ix2 0 j) = m ((c : Thread nD τ).loc main_arg5) (ix1 j) := by
  obtain ⟨e4, e5, e6, e7, e8, e9, e10⟩ := idx_zero t
  have : iblk m c 6 t (ix2 0 j) = V m c main_v2 (ix2 0 j) := by
    blk_simp [iblk]
    refine congrArg (V m c main_v2) ?_
    funext a
    fin_cases a <;> apply Fin.ext <;> blk_simp [e6] <;> simp
  rw [this, V_v2]
  exact biasRow_apply _ j

/-- The block of the down projection's weights is all of them. -/
theorem iblk7_apply (c : Dev nD) (t : Fin cfg0.N) (i : Fin 2816) (j : Fin 1024) :
    iblk m c 7 t (ix2 i j) = m ((c : Thread nD τ).loc main_arg6) (ix2 i j) := by
  obtain ⟨e4, e5, e6, e7, e8, e9, e10⟩ := idx_zero t
  have : iblk m c 7 t (ix2 i j) = V m c main_v3 (ix2 i j) := by
    blk_simp [iblk]
    refine congrArg (V m c main_v3) ?_
    funext a
    fin_cases a <;> apply Fin.ext <;> blk_simp [e7] <;> simp
  rw [this, V_v3]
  rfl

/-- The block of the gains is all of them. -/
theorem iblk8_apply (c : Dev nD) (t : Fin cfg0.N) (j : Fin 1024) :
    iblk m c 8 t (ix2 0 j) = m ((c : Thread nD τ).loc main_arg7) (ix1 j) := by
  obtain ⟨e4, e5, e6, e7, e8, e9, e10⟩ := idx_zero t
  have : iblk m c 8 t (ix2 0 j) = V m c main_v4 (ix2 0 j) := by
    blk_simp [iblk]
    refine congrArg (V m c main_v4) ?_
    funext a
    fin_cases a <;> apply Fin.ext <;> blk_simp [e8] <;> simp
  rw [this, V_v4]
  exact normRow_apply _ j

/-- The block of the gate's weights is all of them. -/
theorem iblk9_apply (c : Dev nD) (t : Fin cfg0.N) (i : Fin 1024) (j : Fin 1024) :
    iblk m c 9 t (ix2 i j) = m ((c : Thread nD τ).loc main_arg9) (ix2 i j) := by
  obtain ⟨e4, e5, e6, e7, e8, e9, e10⟩ := idx_zero t
  have : iblk m c 9 t (ix2 i j) = V m c main_v5 (ix2 i j) := by
    blk_simp [iblk]
    refine congrArg (V m c main_v5) ?_
    funext a
    fin_cases a <;> apply Fin.ext <;> blk_simp [e9] <;> simp
  rw [this, V_v5]
  rfl

/-- The block of the embedding's weights is all of them. -/
theorem iblk10_apply (c : Dev nD) (t : Fin cfg0.N) (i : Fin 256) (j : Fin 1024) :
    iblk m c 10 t (ix2 i j) = m ((c : Thread nD τ).loc main_arg8) (ix2 i j) := by
  obtain ⟨e4, e5, e6, e7, e8, e9, e10⟩ := idx_zero t
  have : iblk m c 10 t (ix2 i j) = V m c main_v6 (ix2 i j) := by
    blk_simp [iblk]
    refine congrArg (V m c main_v6) ?_
    funext a
    fin_cases a <;> apply Fin.ext <;> blk_simp [e10] <;> simp
  rw [this, V_v6]
  rfl

/-- The extended block's last 512 rows are the point's rows, -/
theorem ext_hi (i : grid0.Coords) (v1 : FVec Ideal S1x16x1024 .bf16) (v5 : FVec Ideal S1x512x1024 .bf16) (n : Fin 528) (hn : 16 ≤ n.val) (d : Fin 1024) :
    k0_pay2 (F := Ideal) i v1 v5 (ix2 n d) = v5 (ix3 0 ⟨n.val - 16, by omega⟩ d) := by
  unfold k0_pay2
  pointwise
  rw [dif_neg (by omega)]

/-- and its first 16 the rows before, or zero in a sequence's first block. -/
theorem ext_lo (i : grid0.Coords) (v1 : FVec Ideal S1x16x1024 .bf16) (v5 : FVec Ideal S1x512x1024 .bf16) (n : Fin 528) (hn : n.val < 16) (d : Fin 1024) :
    k0_pay2 (F := Ideal) i v1 v5 (ix2 n d) = if 0 < (i 1).val then v1 (ix3 0 ⟨n.val, hn⟩ d) else 0 := by
  unfold k0_pay2
  pointwise
  rw [dif_pos hn]
  have e : Scalar.cmpi CmpIPredicate.sgt (BitVec.ofNat 32 (i 1).val) 0#32 = BitVec.ofBool (decide (0 < (i 1).val)) :=
    WordCmp.cmpi_sgt_ofNat (by have := (i 1).isLt; have h : grid0.bound 1 = 16 := rfl; omega) (by omega)
  refine (congrArg (fun b => Scalar.select b (v1 (ix3 0 ⟨n.val, hn⟩ d)) (0 : EReal)) e).trans ?_
  rw [WordCmp.select_ofBool]
  by_cases h : 0 < (i 1).val
  · simp [h]
  · simp [h]

/-- A projected row of the extended block is the projection of the row two to none before. -/
theorem up_eq (c : Dev nD) (t : Fin cfg0.N) (b : Fin 2) (hb : b.val = (grid0.coords t 0).val) (s : Fin 512) (r : Fin 8192)
    (hr : r.val = 512 * (grid0.coords t 1).val + s.val) (k : Fin 3) (n : Fin 528) (hn : n.val = 14 + k.val + s.val) (j : Fin 5632) :
    up (k0_pay2 (grid0.coords t) (iblk m c 2 t) (iblk m c 1 t)) (iblk m c 4 t) n j
      = tap (m ((c : Thread nD τ).loc main_arg1)) (m ((c : Thread nD τ).loc main_arg3)) b r k j := by
  unfold up tap
  simp only [iblk4_apply]
  by_cases h16 : 16 ≤ n.val
  · rw [if_neg (by omega)]
    refine Finset.sum_congr rfl fun d _ => congrArg (· * _) ?_
    rw [ext_hi _ _ _ n h16]
    exact iblk1_apply m c t b hb _ _ (by show r.val + k.val - 2 = 512 * (grid0.coords t 1).val + (n.val - 16); omega) d
  · by_cases hi : 0 < (grid0.coords t 1).val
    · rw [if_neg (by omega)]
      refine Finset.sum_congr rfl fun d _ => congrArg (· * _) ?_
      rw [ext_lo _ _ _ n (by omega), if_pos hi]
      exact iblk2_apply m c t b hb _ _ hi (by show r.val + k.val - 2 + 16 = 512 * (grid0.coords t 1).val + n.val; omega) d
    · rw [if_pos (by omega)]
      refine Finset.sum_eq_zero fun d _ => ?_
      rw [ext_lo _ _ _ n (by omega), if_neg hi, zero_mul]

/-- The convolution at a point's row. -/
theorem conv_eq (c : Dev nD) (t : Fin cfg0.N) (b : Fin 2) (hb : b.val = (grid0.coords t 0).val) (s : Fin 512) (r : Fin 8192)
    (hr : r.val = 512 * (grid0.coords t 1).val + s.val) (j : Fin 5632) :
    conv (k0_pay2 (grid0.coords t) (iblk m c 2 t) (iblk m c 1 t)) (iblk m c 4 t) (iblk m c 5 t) (iblk m c 6 t) s j
      = mix (m ((c : Thread nD τ).loc main_arg1)) (m ((c : Thread nD τ).loc main_arg3)) (m ((c : Thread nD τ).loc main_arg4))
        (m ((c : Thread nD τ).loc main_arg5)) b r j := by
  unfold conv mix
  rw [up_eq m c t b hb s r hr 0 _ rfl, up_eq m c t b hb s r hr 1 _ rfl, up_eq m c t b hb s r hr 2 _ rfl, iblk6_apply, iblk5_apply, iblk5_apply, iblk5_apply]

/-- The feed-forward product at a point's row. -/
theorem ffn_eq (c : Dev nD) (t : Fin cfg0.N) (b : Fin 2) (hb : b.val = (grid0.coords t 0).val) (s : Fin 512) (r : Fin 8192)
    (hr : r.val = 512 * (grid0.coords t 1).val + s.val) (e : Fin 1024) :
    ffnV (read6 (k0_pay2 (grid0.coords t) (iblk m c 2 t) (iblk m c 1 t)) (iblk m c 4 t) (iblk m c 5 t) (iblk m c 6 t))
        (read11 (k0_pay2 (grid0.coords t) (iblk m c 2 t) (iblk m c 1 t)) (iblk m c 4 t) (iblk m c 5 t) (iblk m c 6 t)) (iblk m c 7 t) (ix2 s e)
      = ffn (m ((c : Thread nD τ).loc main_arg1)) (m ((c : Thread nD τ).loc main_arg3)) (m ((c : Thread nD τ).loc main_arg4))
        (m ((c : Thread nD τ).loc main_arg5)) (m ((c : Thread nD τ).loc main_arg6)) b r e := by
  rw [ffnV_apply]
  unfold ffn act
  refine Finset.sum_congr rfl fun j _ => ?_
  rw [conv_eq m c t b hb s r hr, conv_eq m c t b hb s r hr, iblk7_apply]

/-- The result array after the run: the layer's function of the arguments. -/
theorem final_o (c : Dev nD) :
    (dats m 0 c).arrAt 11 cfg0.N
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t hf y => ?_
  blk_simp
  rw [after0_11]
  obtain ⟨e0, e1, e2, e3, e4⟩ := idx_facts t
  have hb : (grid0.coords t 0).val < 2 := (grid0.coords t 0).isLt
  have hi : (grid0.coords t 1).val < 16 := (grid0.coords t 1).isLt
  obtain ⟨s, l, rfl⟩ : ∃ (s : Fin 512) (l : Fin 1024), y = (show S1x512x1024.Idx from ix3 0 s l) := by
    have h : ∀ y : S1x512x1024.Idx, ∃ (s : Fin 512) (l : Fin 1024), y = ix3 0 s l := fun y => ⟨y 1, y 2, by
      have h0 : (show Fin 1 from y 0) = (0 : Fin 1) := Subsingleton.elim _ _
      exact (eq_ix3 y).trans (congrArg (fun z : Fin 1 => (ix3 z (show Fin 512 from y 1) (show Fin 1024 from y 2))) h0)⟩
    exact h y
  refine (outsAt0_stages m c t _).trans ((endV_apply _ _ _ _ _ _ s l).trans ?_)
  have hr : (⟨512 * (grid0.coords t 1).val + s.val, by omega⟩ : Fin 8192).val = 512 * (grid0.coords t 1).val + s.val := rfl
  have hb' : (⟨(grid0.coords t 0).val, hb⟩ : Fin 2).val = (grid0.coords t 0).val := rfl
  simp only [ffn_eq m c t _ hb' s _ hr, iblk0_apply m c t _ hb' s _ hr, iblk3_apply m c t _ hb' s _ hr, iblk8_apply, iblk9_apply, iblk10_apply]
  refine Eq.trans ?_ (congrArg (layer _ _ _ _ _ _ _ _ _ _) (?_ : ix3 (⟨(grid0.coords t 0).val, hb⟩ : Fin 2) (⟨512 * (grid0.coords t 1).val + s.val, by omega⟩ : Fin 8192) l = _))
  · rfl
  · funext a
    fin_cases a <;> apply Fin.ext <;> blk_simp [e4] <;> simp <;> omega

end Cert.Proof.Ffn
end
-- ==== Proof.FfnRef.lean ====
/- The reference's result: the layer's function of the argument arrays. -/
module
public import proofs.«01_k».proof.Proof.FfnSpec
public import proofs.«01_k».proof.Proof.Gen.Reference2Ideal.Run
@[expose] public section
set_option maxRecDepth 16384
noncomputable section
namespace Cert.Proof.FfnRef
open Cert.Reference2Ideal Cert.Reference2Ideal.Gen
open Idealize.ShloMosaic Idealize.ShloMosaic.TcCoe Idealize.ShloMosaic.Tactic
open Idealize.SL.Sem

/-- The projection on one half of the columns with two rows of zeros before it. -/
def padR (h : FVec Ideal S2x8192x1024 .f32) (w : FVec Ideal S1024x2816 .f32) : FVec Ideal S2x8194x2816 .f32 :=
  pad S2x8194x2816 ![0, 2, 0] ![0, 0, 0] ![0, 0, 0] (Host.dotGeneral dot_S2x8192x1024_S1024x2816_S2x8192x2816_2_0_01_1_n_n none h w) (sitofp .f32 (constantI S_ 32 0#32)) pads_S2x8192x2816_S2x8194x2816_000_200_000 h_S_

/-- Its causal convolution. -/
def mixR (h : FVec Ideal S2x8192x1024 .f32) (w : FVec Ideal S1024x2816 .f32) (cw : FVec Ideal S3x2816 .f32) (cb : FVec Ideal S2816 .f32) : FVec Ideal S2x8192x2816 .f32 :=
  addf (addf (addf (addf (broadcastInDim S2x8192x2816 ![] bcast_S_S2x8192x2816 (constant S_ .f32 0x00000000#32)) (mulf (extractStridedSlice S2x8192x2816 ![0, 0, 0] (padR h w) slices_S2x8194x2816_S2x8192x2816_0_0_0) (broadcastInDim S2x8192x2816 ![0, 1, 2] bcast_S1x1x2816_S2x8192x2816_0_1_2 (broadcastInDim S1x1x2816 ![2] bcast_S2816_S1x1x2816_2 (shapeCast S2816 (extractStridedSlice S1x2816 ![0, 0] cw slices_S3x2816_S1x2816_0_0) shapeCasts_S1x2816_S2816))))) (mulf (extractStridedSlice S2x8192x2816 ![0, 1, 0] (padR h w) slices_S2x8194x2816_S2x8192x2816_0_1_0) (broadcastInDim S2x8192x2816 ![0, 1, 2] bcast_S1x1x2816_S2x8192x2816_0_1_2 (broadcastInDim S1x1x2816 ![2] bcast_S2816_S1x1x2816_2 (shapeCast S2816 (extractStridedSlice S1x2816 ![1, 0] cw slices_S3x2816_S1x2816_1_0) shapeCasts_S1x2816_S2816))))) (mulf (extractStridedSlice S2x8192x2816 ![0, 2, 0] (padR h w) slices_S2x8194x2816_S2x8192x2816_0_2_0) (broadcastInDim S2x8192x2816 ![0, 1, 2] bcast_S1x1x2816_S2x8192x2816_0_1_2 (broadcastInDim S1x1x2816 ![2] bcast_S2816_S1x1x2816_2 (shapeCast S2816 (extractStridedSlice S1x2816 ![2, 0] cw slices_S3x2816_S1x2816_2_0) shapeCasts_S1x2816_S2816))))) (broadcastInDim S2x8192x2816 ![0, 1, 2] bcast_S1x1x2816_S2x8192x2816_0_1_2 (broadcastInDim S1x1x2816 ![2] bcast_S2816_S1x1x2816_2 cb))

/-- The convolution of the gate's columns, the first half of the weights'. -/
def gateR (h : FVec Ideal S2x8192x1024 .f32) (w : FVec Ideal S1024x5632 .f32) (cw : FVec Ideal S3x5632 .f32) (cb : FVec Ideal S5632 .f32) : FVec Ideal S2x8192x2816 .f32 :=
  mixR h (extractStridedSlice S1024x2816 ![0, 0] w slices_S1024x5632_S1024x2816_0_0) (extractStridedSlice S3x2816 ![0, 0] cw slices_S3x5632_S3x2816_0_0)
    (extractStridedSlice S2816 ![0] cb slices_S5632_S2816_0)

/-- The convolution of the value's columns, the second half. -/
def valR (h : FVec Ideal S2x8192x1024 .f32) (w : FVec Ideal S1024x5632 .f32) (cw : FVec Ideal S3x5632 .f32) (cb : FVec Ideal S5632 .f32) : FVec Ideal S2x8192x2816 .f32 :=
  mixR h (extractStridedSlice S1024x2816 ![0, 2816] w slices_S1024x5632_S1024x2816_0_2816) (extractStridedSlice S3x2816 ![0, 2816] cw slices_S3x5632_S3x2816_0_2816)
    (extractStridedSlice S2816 ![2816] cb slices_S5632_S2816_2816)

/-- The activation function on an array. -/
def geluR (z : FVec Ideal S2x8192x2816 .f32) : FVec Ideal S2x8192x2816 .f32 :=
  mulf z (mulf (broadcastInDim S2x8192x2816 ![] bcast_S_S2x8192x2816 (constant S_ .f32 0x3F000000#32)) (addf (broadcastInDim S2x8192x2816 ![] bcast_S_S2x8192x2816 (constant S_ .f32 0x3F800000#32)) (Host.tanh (mulf (broadcastInDim S2x8192x2816 ![] bcast_S_S2x8192x2816 (constant S_ .f32 0x3F4C422A#32)) (addf z (mulf (broadcastInDim S2x8192x2816 ![] bcast_S_S2x8192x2816 (constant S_ .f32 0x3D372713#32)) (mulf (mulf z z) z)))))))

/-- The feed-forward product. -/
def ffnR (ug uv : FVec Ideal S2x8192x2816 .f32) (wd : FVec Ideal S2816x1024 .f32) : FVec Ideal S2x8192x1024 .f32 :=
  Host.dotGeneral dot_S2x8192x2816_S2816x1024_S2x8192x1024_2_0_01_1_n_n none (mulf (geluR ug) uv) wd

/-- The rows after the normalised product is added. -/
def row2R (x f : FVec Ideal S2x8192x1024 .f32) (g : FVec Ideal S1024 .f32) : FVec Ideal S2x8192x1024 .f32 :=
  addf x (mulf (mulf f (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf f f) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g)))

/-- The layer's end. -/
def endR (y : FVec Ideal S2x8192x1024 .f32) (p : FVec Ideal S2x8192x256 .f32) (wp : FVec Ideal S256x1024 .f32) (wg : FVec Ideal S1024x1024 .f32) : FVec Ideal S2x8192x1024 .f32 :=
  addf y (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none y wg))))) (Host.dotGeneral dot_S2x8192x256_S256x1024_S2x8192x1024_2_0_01_1_n_n none p wp))

/-- The rows the run's result is made from are these stages in a row. -/
theorem rows_eq (V0 : Valuation τ sig (Elt Ideal)) :
    Value.res_main_v88 V0 = row2R (V0 (Proc.devRef .tc main_arg0)) (ffnR (gateR (V0 (Proc.devRef .tc main_arg1)) (V0 (Proc.devRef .tc main_arg3)) (V0 (Proc.devRef .tc main_arg4)) (V0 (Proc.devRef .tc main_arg5))) (valR (V0 (Proc.devRef .tc main_arg1)) (V0 (Proc.devRef .tc main_arg3)) (V0 (Proc.devRef .tc main_arg4)) (V0 (Proc.devRef .tc main_arg5))) (V0 (Proc.devRef .tc main_arg6))) (V0 (Proc.devRef .tc main_arg7)) := by
  unfold Value.res_main_v88 Value.res_main_v74 Value.res_main_v34 Value.res_main_v32 Value.res_main_v29 Value.res_main_v4 Value.res_main_v2
  rfl

/-- A row of the padded projection: the projection of the row two before, or zero before the first row. -/
theorem padR_apply (h : FVec Ideal S2x8192x1024 .f32) (w : FVec Ideal S1024x2816 .f32) (b : Fin 2) (s : Fin 8192) (k : Fin 3) (j : Fin 2816) (n : Fin 8194)
    (hn : n.val = s.val + k.val) :
    padR h w (ix3 b n j) = if s.val + k.val < 2 then 0 else ∑ d : Fin 1024, h (ix3 b ⟨s.val + k.val - 2, by omega⟩ d) * w (ix2 d j) := by
  unfold padR
  pointwise
  have hs := s.isLt
  have hk := k.isLt
  by_cases h2 : s.val + k.val < 2
  · rw [if_pos h2, dif_neg (by omega)]
    show (((0#32 : BitVec 32).toInt : ℝ) : EReal) = 0
    simp
  · rw [if_neg h2, dif_pos ⟨by omega, by omega⟩]
    refine Finset.sum_congr rfl fun d _ => congrArg (fun r => h (ix3 b r d) * w (ix2 d j)) (Fin.ext ?_)
    show n.val - 2 = s.val + k.val - 2
    omega

/-- An entry of the convolution: three rows of the padded projection by the three taps, and the bias. -/
theorem mixR_apply (h : FVec Ideal S2x8192x1024 .f32) (w : FVec Ideal S1024x2816 .f32) (cw : FVec Ideal S3x2816 .f32) (cb : FVec Ideal S2816 .f32)
    (b : Fin 2) (s : Fin 8192) (j : Fin 2816) : mixR h w cw cb (ix3 b s j)
      = cb (ix1 j) + cw (ix2 0 j) * padR h w (ix3 b ⟨s.val, by omega⟩ j) + cw (ix2 1 j) * padR h w (ix3 b ⟨s.val + 1, by omega⟩ j)
        + cw (ix2 2 j) * padR h w (ix3 b ⟨s.val + 2, by omega⟩ j) := by
  unfold mixR
  pointwise
  have e1 : (⟨1 + s.val, by omega⟩ : Fin 8194) = ⟨s.val + 1, by omega⟩ := Fin.ext (Nat.add_comm _ _)
  have e2 : (⟨2 + s.val, by omega⟩ : Fin 8194) = ⟨s.val + 2, by omega⟩ := Fin.ext (Nat.add_comm _ _)
  rw [e1, e2]
  generalize padR h w (ix3 b ⟨s.val, _⟩ j) = x0
  generalize padR h w (ix3 b ⟨s.val + 1, _⟩ j) = x1
  generalize padR h w (ix3 b ⟨s.val + 2, _⟩ j) = x2
  rw [add_comm _ (cb (ix1 j)), ← add_assoc, ← add_assoc, mul_comm x0, mul_comm x1, mul_comm x2]

/-- An entry of the gate's convolution. -/
theorem gateR_apply (h : FVec Ideal S2x8192x1024 .f32) (w : FVec Ideal S1024x5632 .f32) (cw : FVec Ideal S3x5632 .f32) (cb : FVec Ideal S5632 .f32)
    (b : Fin 2) (s : Fin 8192) (j : Fin 2816) : gateR h w cw cb (ix3 b s j) = Ffn.mix h w cw cb b s ⟨j.val, by omega⟩ := by
  unfold gateR Ffn.mix Ffn.tap
  rw [mixR_apply, padR_apply h _ b s 0 j _ rfl, padR_apply h _ b s 1 j _ rfl, padR_apply h _ b s 2 j _ rfl]
  pointwise

/-- An entry of the value's convolution. -/
theorem valR_apply (h : FVec Ideal S2x8192x1024 .f32) (w : FVec Ideal S1024x5632 .f32) (cw : FVec Ideal S3x5632 .f32) (cb : FVec Ideal S5632 .f32)
    (b : Fin 2) (s : Fin 8192) (j : Fin 2816) : valR h w cw cb (ix3 b s j) = Ffn.mix h w cw cb b s ⟨2816 + j.val, by omega⟩ := by
  unfold valR Ffn.mix Ffn.tap
  rw [mixR_apply, padR_apply h _ b s 0 j _ rfl, padR_apply h _ b s 1 j _ rfl, padR_apply h _ b s 2 j _ rfl]
  pointwise

/-- An entry of the activation. -/
theorem geluR_apply (z : FVec Ideal S2x8192x2816 .f32) (b : Fin 2) (s : Fin 8192) (j : Fin 2816) : geluR z (ix3 b s j) = Ffn.gelu (z (ix3 b s j)) := by
  unfold geluR Ffn.gelu
  pointwise
  rw [← mul_assoc, mul_comm (z (ix3 b s j)) (Ideal.ofBits FTy.f32 1056964608#32)]

/-- An entry of the feed-forward product. -/
theorem ffnR_apply (h : FVec Ideal S2x8192x1024 .f32) (w : FVec Ideal S1024x5632 .f32) (cw : FVec Ideal S3x5632 .f32) (cb : FVec Ideal S5632 .f32)
    (wd : FVec Ideal S2816x1024 .f32) (b : Fin 2) (s : Fin 8192) (e : Fin 1024) :
    ffnR (gateR h w cw cb) (valR h w cw cb) wd (ix3 b s e) = Ffn.ffn h w cw cb wd b s e := by
  unfold ffnR Ffn.ffn
  pointwise
  simp only [geluR_apply, gateR_apply, valR_apply]

/-- An entry of the rows after the normalised product is added. -/
theorem row2R_apply (x f : FVec Ideal S2x8192x1024 .f32) (g : FVec Ideal S1024 .f32) (b : Fin 2) (s : Fin 8192) (e : Fin 1024) :
    row2R x f g (ix3 b s e) = Ffn.row2 (fun k => f (ix3 b s k)) (fun k => x (ix3 b s k)) (fun k => g (ix1 k)) e := by
  unfold row2R Ffn.row2
  pointwise

/-- The reference's result is the layer's function of its arguments. -/
theorem layer_eq (x h : FVec Ideal S2x8192x1024 .f32) (p : FVec Ideal S2x8192x256 .f32) (w : FVec Ideal S1024x5632 .f32) (cw : FVec Ideal S3x5632 .f32)
    (cb : FVec Ideal S5632 .f32) (wd : FVec Ideal S2816x1024 .f32) (g : FVec Ideal S1024 .f32) (wp : FVec Ideal S256x1024 .f32)
    (wg : FVec Ideal S1024x1024 .f32) : endR (row2R x (ffnR (gateR h w cw cb) (valR h w cw cb) wd) g) p wp wg = Ffn.layer x h p w cw cb wd g wp wg := by
  funext y
  obtain ⟨b, s, e, rfl⟩ : ∃ (b : Fin 2) (s : Fin 8192) (e : Fin 1024), y = ix3 b s e := ⟨y 0, y 1, y 2, eq_ix3 y⟩
  unfold endR
  pointwise
  simp only [row2R_apply, ffnR_apply]
  rfl

/-- An array made of the run's rows by the layer's end is the layer's function of the run's arguments. -/
theorem result_eq (m : (ℓ : Loc nD τ sig) → Buf (Elt Ideal) ℓ) (c : Dev nD) (z : FVec Ideal S2x8192x1024 .f32)
    (hz : z = endR (Value.res_main_v88 (StableHlo.launchContents m c)) (m ((c.tc : Thread nD τ).loc main_arg2)) (m ((c.tc : Thread nD τ).loc main_arg8)) (m ((c.tc : Thread nD τ).loc main_arg9))) :
    z = Ffn.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [hz, rows_eq]
  exact layer_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

end Cert.Proof.FfnRef
end
-- ==== Proof.MixValue.lean ====
/- What the merge of the two attention branches computes at a grid point, entry by entry, over the extended reals: the gated sum of the two branch
   projections, the output projection, its norm added to the residual row, and that row's own norm. -/
module
public import proofs.«01_k».proof.Proof.Gen.Kernel3Ideal.Value
public import Idealize.ShloMosaic.Lib.Pointwise
public import Idealize.ShloMosaic.Lib.Pipeline.ValueKit
public import Idealize.ShloMosaic.Lib.Pipeline.ReadBack
@[expose] public section
noncomputable section
namespace Cert.Proof.Mix
open Cert.Kernel3Ideal Cert.Kernel3Ideal.Gen
open Idealize.ShloMosaic Idealize.ShloMosaic.TcCoe Idealize.ShloMosaic.Tactic
open Idealize.SL.Sem

/-- A row divided by the root of its mean square, by the gains. -/
def normed (f g : Fin 1024 → EReal) (e : Fin 1024) : EReal :=
  f e * Ideal.rsqrt (Ideal.div (∑ k, f k * f k) (Ideal.ofBits .f32 0x44800000#32) + Ideal.ofBits .f32 0x358637BD#32) * g e

/-- The gated sum of the two branches' projections of a row. -/
def merged (a b : Fin 512 → EReal) (s t : Fin 1024 → EReal) (u v : Fin 512 → Fin 1024 → EReal) (k : Fin 1024) : EReal :=
  s k * (∑ j, a j * u j k) + t k * (∑ j, b j * v j k)

/-- The residual row after the merged branches' output projection is normed and added. -/
def rowOut (x : Fin 1024 → EReal) (z : Fin 1024 → EReal) (w : Fin 1024 → Fin 1024 → EReal) (g : Fin 1024 → EReal) (e : Fin 1024) : EReal :=
  x e + normed (fun e => ∑ k, z k * w k e) g e

/-- A gate by a branch's projection, in the first half of a point's rows: the stick-breaking branch, -/
theorem pay4_apply (v0 : FVec Ideal S1x256x512 .bf16) (v2 : FVec Ideal S512x1024 .bf16) (v20 : FVec Ideal S1x256x1024 .bf16) (s : Fin 256) (k : Fin 1024) :
    (k0_pay4 v0 v2 v20 : FVec Ideal S256x1024 .f32) (ix2 s k) = v20 (ix3 0 s k) * ∑ j, v0 (ix3 0 s j) * v2 (ix2 j k) := by
  unfold k0_pay4
  pointwise

/-- and the other one. -/
theorem pay5_apply (v0 : FVec Ideal S1x256x512 .bf16) (v2 : FVec Ideal S512x1024 .bf16) (v20 : FVec Ideal S1x256x1024 .bf16) (s : Fin 256) (k : Fin 1024) :
    (k0_pay5 v0 v2 v20 : FVec Ideal S256x1024 .f32) (ix2 s k) = v20 (ix3 0 s k) * ∑ j, v0 (ix3 0 s j) * v2 (ix2 j k) := by
  unfold k0_pay5
  pointwise

/-- A branch's projection in the second half: the stick-breaking branch, -/
theorem pay2_apply (v0 : FVec Ideal S1x256x512 .bf16) (v2 : FVec Ideal S512x1024 .bf16) (s : Fin 256) (k : Fin 1024) :
    (k0_pay2 v0 v2 : FVec Ideal S256x1024 .f32) (ix2 s k) = ∑ j, v0 (ix3 0 s j) * v2 (ix2 j k) := by
  unfold k0_pay2
  pointwise

/-- and the other one. -/
theorem pay3_apply (v0 : FVec Ideal S1x256x512 .bf16) (v2 : FVec Ideal S512x1024 .bf16) (s : Fin 256) (k : Fin 1024) :
    (k0_pay3 v0 v2 : FVec Ideal S256x1024 .f32) (ix2 s k) = ∑ j, v0 (ix3 0 s j) * v2 (ix2 j k) := by
  unfold k0_pay3
  pointwise

/-- The residual row in the first half, from the two gated projections. -/
theorem pay6_apply (p q : FVec Ideal S256x1024 .f32) (x : FVec Ideal S1x256x1024 .f32) (w : FVec Ideal S1024x1024 .bf16) (g : FVec Ideal S1x1024 .f32)
    (s : Fin 256) (e : Fin 1024) : k0_pay6 p q x w g (ix2 s e)
      = rowOut (fun k => x (ix3 0 s k)) (fun k => p (ix2 s k) + q (ix2 s k)) (fun k e => w (ix2 k e)) (fun k => g (ix2 0 k)) e := by
  unfold k0_pay6 rowOut normed
  pointwise

/-- The residual row in the second half, from the two projections and the gates. -/
theorem pay10_apply (p q : FVec Ideal S256x1024 .f32) (a b : FVec Ideal S1x256x1024 .bf16) (x : FVec Ideal S1x256x1024 .f32) (w : FVec Ideal S1024x1024 .bf16)
    (g : FVec Ideal S1x1024 .f32) (s : Fin 256) (e : Fin 1024) : k0_pay10 p q a b x w g (ix2 s e)
      = rowOut (fun k => x (ix3 0 s k)) (fun k => a (ix3 0 s k) * p (ix2 s k) + b (ix3 0 s k) * q (ix2 s k)) (fun k e => w (ix2 k e))
        (fun k => g (ix2 0 k)) e := by
  unfold k0_pay10 rowOut normed
  pointwise

/-- The norm of the residual row in the first half, -/
theorem pay8_apply (p q : FVec Ideal S256x1024 .f32) (x : FVec Ideal S1x256x1024 .f32) (w : FVec Ideal S1024x1024 .bf16) (g h : FVec Ideal S1x1024 .f32)
    (s : Fin 256) (e : Fin 1024) : k0_pay9 (k0_pay8 p q x w g h) (ix3 0 s e) = normed (fun e => k0_pay6 p q x w g (ix2 s e)) (fun k => h (ix2 0 k)) e := by
  unfold k0_pay9 k0_pay8 normed
  pointwise

/-- and in the second. -/
theorem pay1_apply (r : FVec Ideal S256x1024 .f32) (h : FVec Ideal S1x1024 .f32)
    (s : Fin 256) (e : Fin 1024) : k0_pay1 r h (ix3 0 s e) = normed (fun e => r (ix2 s e)) (fun k => h (ix2 0 k)) e := by
  unfold k0_pay1 normed
  pointwise

/-- A row as stored: the first half's, -/
theorem pay7_apply (p q : FVec Ideal S256x1024 .f32) (x : FVec Ideal S1x256x1024 .f32) (w : FVec Ideal S1024x1024 .bf16) (g : FVec Ideal S1x1024 .f32)
    (s : Fin 256) (e : Fin 1024) : k0_pay7 p q x w g (ix3 0 s e) = k0_pay6 p q x w g (ix2 s e) := by
  unfold k0_pay7
  pointwise

/-- and the second's. -/
theorem pay11_apply (p q : FVec Ideal S256x1024 .f32) (a b : FVec Ideal S1x256x1024 .bf16) (x : FVec Ideal S1x256x1024 .f32) (w : FVec Ideal S1024x1024 .bf16)
    (g : FVec Ideal S1x1024 .f32) (s : Fin 256) (e : Fin 1024) : k0_pay11 p q a b x w g (ix3 0 s e) = k0_pay10 p q a b x w g (ix2 s e) := by
  unfold k0_pay11
  pointwise

variable (x0 : FVec Ideal S1x512x1024 .f32) (x1 x2 : FVec Ideal S1x512x512 .bf16) (x3 x4 : FVec Ideal S1x512x1024 .bf16) (x5 x6 : FVec Ideal S512x1024 .bf16)
  (x7 : FVec Ideal S1024x1024 .bf16) (x8 x9 : FVec Ideal S1x1024 .f32)

/-- The residual row n of a point, of its blocks. -/
def rowB (n : Fin 512) : Fin 1024 → EReal :=
  rowOut (fun k => x0 (ix3 0 n k)) (merged (fun j => x1 (ix3 0 n j)) (fun j => x2 (ix3 0 n j)) (fun k => x3 (ix3 0 n k)) (fun k => x4 (ix3 0 n k))
    (fun j k => x5 (ix2 j k)) (fun j k => x6 (ix2 j k))) (fun k e => x7 (ix2 k e)) (fun k => x8 (ix2 0 k))

/-- The first half's residual rows. -/
theorem first_apply (s : Fin 256) (n : Fin 512) (hn : n.val = s.val) (e : Fin 1024) :
    k0_pay6 (k0_pay14 x0 x1 x2 x3 x4 x5 x6 x7 x8 x9) (k0_pay15 x0 x1 x2 x3 x4 x5 x6 x7 x8 x9) (View.ld (Val := Elt Ideal) (e' := .f32) x0 r0_3)
      (View.ld (Val := Elt Ideal) (e' := .bf16) x7 r0_4) (View.ld (Val := Elt Ideal) (e' := .f32) x8 r0_5) (ix2 s e) = rowB x0 x1 x2 x3 x4 x5 x6 x7 x8 n e := by
  obtain ⟨n, h⟩ := n
  obtain rfl : n = s.val := hn
  unfold k0_pay14 k0_pay15
  rw [pay6_apply]
  simp only [pay4_apply, pay5_apply]
  unfold rowB rowOut merged
  pointwise

/-- The second half's. -/
theorem second_apply (s : Fin 256) (n : Fin 512) (hn : n.val = 256 + s.val) (e : Fin 1024) :
    k0_pay10 (k0_pay12 x0 x1 x2 x3 x4 x5 x6 x7 x8 x9) (k0_pay13 x0 x1 x2 x3 x4 x5 x6 x7 x8 x9) (View.ld (Val := Elt Ideal) (e' := .bf16) x3 r0_6)
      (View.ld (Val := Elt Ideal) (e' := .bf16) x4 r0_6) (View.ld (Val := Elt Ideal) (e' := .f32) x0 r0_6)
      (View.ld (Val := Elt Ideal) (e' := .bf16) x7 r0_4) (View.ld (Val := Elt Ideal) (e' := .f32) x8 r0_5) (ix2 s e) = rowB x0 x1 x2 x3 x4 x5 x6 x7 x8 n e := by
  obtain ⟨n, h⟩ := n
  obtain rfl : n = 256 + s.val := hn
  unfold k0_pay12 k0_pay13
  rw [pay10_apply]
  simp only [pay2_apply, pay3_apply]
  unfold rowB rowOut merged
  pointwise

/-- The residual rows as a block, -/
def blockX : FVec Ideal S1x512x1024 .f32 := fun y => rowB x0 x1 x2 x3 x4 x5 x6 x7 x8 (y 1) (y 2)

/-- and their norms. -/
def blockH : FVec Ideal S1x512x1024 .bf16 := fun y => normed (rowB x0 x1 x2 x3 x4 x5 x6 x7 x8 (y 1)) (fun k => x9 (ix2 0 k)) (y 2)

/-- An index of half a block's rows, by its row and its column. -/
theorem split (y : S1x256x1024.Idx) : ∃ (s : Fin 256) (l : Fin 1024), y = ix3 0 s l :=
  ⟨y 1, y 2, by
    have h0 : (show Fin 1 from y 0) = (0 : Fin 1) := Subsingleton.elim _ _
    exact (eq_ix3 y).trans (congrArg (fun z : Fin 1 => (ix3 z (show Fin 256 from y 1) (show Fin 1024 from y 2))) h0)⟩

/-- The first half's rows are a block's first, -/
theorem emb3 (s : Fin 256) (l : Fin 1024) : r0_3.emb (ix3 0 s l) = ix3 0 ⟨s.val, by omega⟩ l := by
  funext a
  fin_cases a <;> apply Fin.ext
  · rfl
  · show 0 + 1 * s.val = s.val
    omega
  · show 0 + 1 * l.val = l.val
    omega

/-- the second half's its last. -/
theorem emb6 (s : Fin 256) (l : Fin 1024) : r0_6.emb (ix3 0 s l) = ix3 0 ⟨256 + s.val, by omega⟩ l := by
  funext a
  fin_cases a <;> apply Fin.ext
  · rfl
  · show 256 + 1 * s.val = 256 + s.val
    omega
  · show 0 + 1 * l.val = l.val
    omega

/-- The block of residual rows a point leaves. -/
theorem out10_eq : out0_10 (F := Ideal) x0 x1 x2 x3 x4 x5 x6 x7 x8 x9 = blockX x0 x1 x2 x3 x4 x5 x6 x7 x8 := by
  funext y
  unfold out0_10
  refine View.canon_apply_of_pieces (Val := Elt Ideal) (e := .f32) (blockX x0 x1 x2 x3 x4 x5 x6 x7 x8) _ ?_ y (cover0_10 _ _ y)
  refine View.PiecesOf.mem ?_
  refine ⟨fun z => ?_, fun z => ?_, trivial⟩
  · obtain ⟨s, l, rfl⟩ := split z
    refine Eq.trans ?_ (congrArg (blockX x0 x1 x2 x3 x4 x5 x6 x7 x8) (emb6 s l).symm)
    exact (pay11_apply _ _ _ _ _ _ _ s l).trans (second_apply x0 x1 x2 x3 x4 x5 x6 x7 x8 x9 s _ rfl l)
  · obtain ⟨s, l, rfl⟩ := split z
    refine Eq.trans ?_ (congrArg (blockX x0 x1 x2 x3 x4 x5 x6 x7 x8) (emb3 s l).symm)
    exact (pay7_apply _ _ _ _ _ s l).trans (first_apply x0 x1 x2 x3 x4 x5 x6 x7 x8 x9 s _ rfl l)

/-- The gains of the second norm as loaded. -/
theorem gains_apply (k : Fin 1024) : View.ld (Val := Elt Ideal) (e' := .f32) x9 r0_5 (ix2 0 k) = x9 (ix2 0 k) := by
  pointwise

/-- The block of normed rows a point leaves. -/
theorem out11_eq : out0_11 (F := Ideal) x0 x1 x2 x3 x4 x5 x6 x7 x8 x9 = blockH x0 x1 x2 x3 x4 x5 x6 x7 x8 x9 := by
  funext y
  unfold out0_11
  refine View.canon_apply_of_pieces (Val := Elt Ideal) (e := .bf16) (blockH x0 x1 x2 x3 x4 x5 x6 x7 x8 x9) _ ?_ y (cover0_11 _ _ y)
  refine View.PiecesOf.mem ?_
  refine ⟨fun z => ?_, fun z => ?_, trivial⟩
  · obtain ⟨s, l, rfl⟩ := split z
    refine Eq.trans ?_ (congrArg (blockH x0 x1 x2 x3 x4 x5 x6 x7 x8 x9) (emb6 s l).symm)
    refine (pay1_apply _ _ s l).trans ?_
    exact congrArg₂ (fun f g => normed f g l) (funext fun e => second_apply x0 x1 x2 x3 x4 x5 x6 x7 x8 x9 s _ rfl e) (funext fun k => gains_apply x9 k)
  · obtain ⟨s, l, rfl⟩ := split z
    refine Eq.trans ?_ (congrArg (blockH x0 x1 x2 x3 x4 x5 x6 x7 x8 x9) (emb3 s l).symm)
    refine (pay8_apply _ _ _ _ _ _ s l).trans ?_
    exact congrArg₂ (fun f g => normed f g l) (funext fun e => first_apply x0 x1 x2 x3 x4 x5 x6 x7 x8 x9 s _ rfl e) (funext fun k => gains_apply x9 k)

end Cert.Proof.Mix
end
-- ==== Proof.MixFinal.lean ====
/- The merge kernel's two results after the run, over the extended reals, as functions of the argument arrays. -/
module
public import proofs.«01_k».proof.Proof.MixValue
@[expose] public section
set_option maxRecDepth 16384
noncomputable section
namespace Cert.Proof.Mix
open Cert.Kernel3Ideal Cert.Kernel3Ideal.Gen
open Idealize.ShloMosaic Idealize.ShloMosaic.TcCoe Idealize.ShloMosaic.Tactic
open Idealize.SL.Sem

section Spec
variable (x : FVec Ideal S2x8192x1024 .f32) (ya yb : FVec Ideal S2x8192x512 .f32) (sa sb : FVec Ideal S2x8192x1024 .f32) (wa wb : FVec Ideal S512x1024 .f32)
  (wo : FVec Ideal S1024x1024 .f32) (g h : FVec Ideal S1024 .f32)

/-- Row s of sequence b of the stream after the token mixing: the two branches' outputs projected, gated and added, projected again, normed, and added to
    the row before. -/
def rowX (b : Fin 2) (s : Fin 8192) : Fin 1024 → EReal :=
  rowOut (fun k => x (ix3 b s k)) (merged (fun j => ya (ix3 b s j)) (fun j => yb (ix3 b s j)) (fun k => sa (ix3 b s k)) (fun k => sb (ix3 b s k))
    (fun j k => wa (ix2 j k)) (fun j k => wb (ix2 j k))) (fun k e => wo (ix2 k e)) (fun k => g (ix1 k))

/-- The stream after the token mixing, -/
def layerX : FVec Ideal S2x8192x1024 .f32 := fun y => rowX x ya yb sa sb wa wb wo g (y 0) (y 1) (y 2)

/-- and its norm, the feed-forward part's input. -/
def layerH : FVec Ideal S2x8192x1024 .bf16 := fun y => normed (rowX x ya yb sa sb wa wb wo g (y 0) (y 1)) (fun k => h (ix1 k)) (y 2)
end Spec

variable (m : (ℓ : Loc nD τ sig) → Buf (Elt Ideal) ℓ)

/-- What the host hands the kernel: arrays narrowed, -/
def narrow {s : Shape} (a : FVec Ideal s .f32) : FVec Ideal s .bf16 := truncf .bf16 a bitsLt_bf16_f32
/-- and the norms' gains as rows. -/
def gainRow (a : FVec Ideal S1024 .f32) : FVec Ideal S1x1024 .f32 := shapeCast S1x1024 a shapeCasts_S1024_S1x1024

/-- What the call is handed for the stick-breaking branch's output: it, narrowed. -/
theorem V_v0 (c : Dev nD) : V m c main_v0 = narrow (m ((c : Thread nD τ).loc main_arg1)) := by
  unfold V hostOps0
  after_results_simp <;> rfl

/-- What the call is handed for the other branch's output: it, narrowed. -/
theorem V_v1 (c : Dev nD) : V m c main_v1 = narrow (m ((c : Thread nD τ).loc main_arg2)) := by
  unfold V hostOps0
  after_results_simp <;> rfl

/-- What the call is handed for the first gate: it, narrowed. -/
theorem V_v2 (c : Dev nD) : V m c main_v2 = narrow (m ((c : Thread nD τ).loc main_arg3)) := by
  unfold V hostOps0
  after_results_simp <;> rfl

/-- What the call is handed for the second gate: it, narrowed. -/
theorem V_v3 (c : Dev nD) : V m c main_v3 = narrow (m ((c : Thread nD τ).loc main_arg4)) := by
  unfold V hostOps0
  after_results_simp <;> rfl

/-- What the call is handed for the first branch's projection: it, narrowed. -/
theorem V_v4 (c : Dev nD) : V m c main_v4 = narrow (m ((c : Thread nD τ).loc main_arg5)) := by
  unfold V hostOps0
  after_results_simp <;> rfl

/-- What the call is handed for the second branch's projection: it, narrowed. -/
theorem V_v5 (c : Dev nD) : V m c main_v5 = narrow (m ((c : Thread nD τ).loc main_arg6)) := by
  unfold V hostOps0
  after_results_simp <;> rfl

/-- What the call is handed for the output projection: it, narrowed. -/
theorem V_v6 (c : Dev nD) : V m c main_v6 = narrow (m ((c : Thread nD τ).loc main_arg7)) := by
  unfold V hostOps0
  after_results_simp <;> rfl

/-- The gains of the norm after the mixing, as a row. -/
theorem V_v7 (c : Dev nD) : V m c main_v7 = gainRow (m ((c : Thread nD τ).loc main_arg8)) := by
  unfold V hostOps0
  after_results_simp <;> rfl

/-- The gains of the feed-forward part's norm, as a row. -/
theorem V_v8 (c : Dev nD) : V m c main_v8 = gainRow (m ((c : Thread nD τ).loc main_arg9)) := by
  unfold V hostOps0
  after_results_simp <;> rfl

/-- The blocks a grid point moves: its rows of the streams and of the two results. -/
theorem idx_facts : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

/-- The weights' blocks are whole at every point. -/
theorem idx_zero : ∀ t : Fin cfg0.N, win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The residual stream's block holds the point's 512 rows. -/
theorem iblk0_apply (c : Dev nD) (t : Fin cfg0.N) (b : Fin 2) (hb : b.val = (grid0.coords t 0).val) (s : Fin 512) (r : Fin 8192)
    (hr : r.val = 512 * (grid0.coords t 1).val + s.val) (d : Fin 1024) :
    iblk m c 0 t (ix3 0 s d) = m ((c : Thread nD τ).loc main_arg0) (ix3 b r d) := by
  obtain ⟨e0, e1, e2, e3, e4, e10, e11⟩ := idx_facts t
  have : iblk m c 0 t (ix3 0 s d) = V m c main_arg0 (ix3 b r d) := by
    blk_simp [iblk]
    refine congrArg (V m c main_arg0) ?_
    funext a
    fin_cases a <;> apply Fin.ext <;> blk_simp [e0] <;> simp [hb, hr] <;> omega
  rw [this, V_main_arg0]

/-- So does the block of the stick-breaking branch's output. -/
theorem iblk1_apply (c : Dev nD) (t : Fin cfg0.N) (b : Fin 2) (hb : b.val = (grid0.coords t 0).val) (s : Fin 512) (r : Fin 8192)
    (hr : r.val = 512 * (grid0.coords t 1).val + s.val) (d : Fin 512) :
    iblk m c 1 t (ix3 0 s d) = m ((c : Thread nD τ).loc main_arg1) (ix3 b r d) := by
  obtain ⟨e0, e1, e2, e3, e4, e10, e11⟩ := idx_facts t
  have : iblk m c 1 t (ix3 0 s d) = V m c main_v0 (ix3 b r d) := by
    blk_simp [iblk]
    refine congrArg (V m c main_v0) ?_
    funext a
    fin_cases a <;> apply Fin.ext <;> blk_simp [e1] <;> simp [hb, hr] <;> omega
  rw [this, V_v0]
  rfl

/-- So does the block of the other branch's output. -/
theorem iblk2_apply (c : Dev nD) (t : Fin cfg0.N) (b : Fin 2) (hb : b.val = (grid0.coords t 0).val) (s : Fin 512) (r : Fin 8192)
    (hr : r.val = 512 * (grid0.coords t 1).val + s.val) (d : Fin 512) :
    iblk m c 2 t (ix3 0 s d) = m ((c : Thread nD τ).loc main_arg2) (ix3 b r d) := by
  obtain ⟨e0, e1, e2, e3, e4, e10, e11⟩ := idx_facts t
  have : iblk m c 2 t (ix3 0 s d) = V m c main_v1 (ix3 b r d) := by
    blk_simp [iblk]
    refine congrArg (V m c main_v1) ?_
    funext a
    fin_cases a <;> apply Fin.ext <;> blk_simp [e2] <;> simp [hb, hr] <;> omega
  rw [this, V_v1]
  rfl

/-- So does the block of the first gate. -/
theorem iblk3_apply (c : Dev nD) (t : Fin cfg0.N) (b : Fin 2) (hb : b.val = (grid0.coords t 0).val) (s : Fin 512) (r : Fin 8192)
    (hr : r.val = 512 * (grid0.coords t 1).val + s.val) (d : Fin 1024) :
    iblk m c 3 t (ix3 0 s d) = m ((c : Thread nD τ).loc main_arg3) (ix3 b r d) := by
  obtain ⟨e0, e1, e2, e3, e4, e10, e11⟩ := idx_facts t
  have : iblk m c 3 t (ix3 0 s d) = V m c main_v2 (ix3 b r d) := by
    blk_simp [iblk]
    refine congrArg (V m c main_v2) ?_
    funext a
    fin_cases a <;> apply Fin.ext <;> blk_simp [e3] <;> simp [hb, hr] <;> omega
  rw [this, V_v2]
  rfl

/-- So does the block of the second gate. -/
theorem iblk4_apply (c : Dev nD) (t : Fin cfg0.N) (b : Fin 2) (hb : b.val = (grid0.coords t 0).val) (s : Fin 512) (r : Fin 8192)
    (hr : r.val = 512 * (grid0.coords t 1).val + s.val) (d : Fin 1024) :
    iblk m c 4 t (ix3 0 s d) = m ((c : Thread nD τ).loc main_arg4) (ix3 b r d) := by
  obtain ⟨e0, e1, e2, e3, e4, e10, e11⟩ := idx_facts t
  have : iblk m c 4 t (ix3 0 s d) = V m c main_v3 (ix3 b r d) := by
    blk_simp [iblk]
    refine congrArg (V m c main_v3) ?_
    funext a
    fin_cases a <;> apply Fin.ext <;> blk_simp [e4] <;> simp [hb, hr] <;> omega
  rw [this, V_v3]
  rfl

/-- The block of the first branch's projection is the whole of it. -/
theorem iblk5_apply (c : Dev nD) (t : Fin cfg0.N) (i : Fin 512) (j : Fin 1024) :
    iblk m c 5 t (ix2 i j) = m ((c : Thread nD τ).loc main_arg5) (ix2 i j) := by
  obtain ⟨e5, e6, e7, e8, e9⟩ := idx_zero t
  have : iblk m c 5 t (ix2 i j) = V m c main_v4 (ix2 i j) := by
    blk_simp [iblk]
    refine congrArg (V m c main_v4) ?_
    funext a
    fin_cases a <;> apply Fin.ext <;> blk_simp [e5] <;> simp
  rw [this, V_v4]
  rfl

/-- The block of the second branch's projection is the whole of it. -/
theorem iblk6_apply (c : Dev nD) (t : Fin cfg0.N) (i : Fin 512) (j : Fin 1024) :
    iblk m c 6 t (ix2 i j) = m ((c : Thread nD τ).loc main_arg6) (ix2 i j) := by
  obtain ⟨e5, e6, e7, e8, e9⟩ := idx_zero t
  have : iblk m c 6 t (ix2 i j) = V m c main_v5 (ix2 i j) := by
    blk_simp [iblk]
    refine congrArg (V m c main_v5) ?_
    funext a
    fin_cases a <;> apply Fin.ext <;> blk_simp [e6] <;> simp
  rw [this, V_v5]
  rfl

/-- The block of the output projection is the whole of it. -/
theorem iblk7_apply (c : Dev nD) (t : Fin cfg0.N) (i : Fin 1024) (j : Fin 1024) :
    iblk m c 7 t (ix2 i j) = m ((c : Thread nD τ).loc main_arg7) (ix2 i j) := by
  obtain ⟨e5, e6, e7, e8, e9⟩ := idx_zero t
  have : iblk m c 7 t (ix2 i j) = V m c main_v6 (ix2 i j) := by
    blk_simp [iblk]
    refine congrArg (V m c main_v6) ?_
    funext a
    fin_cases a <;> apply Fin.ext <;> blk_simp [e7] <;> simp
  rw [this, V_v6]
  rfl

/-- The gains of the norm after the mixing in a point's block. -/
theorem iblk8_apply (c : Dev nD) (t : Fin cfg0.N) (j : Fin 1024) : iblk m c 8 t (ix2 0 j) = m ((c : Thread nD τ).loc main_arg8) (ix1 j) := by
  obtain ⟨e5, e6, e7, e8, e9⟩ := idx_zero t
  have : iblk m c 8 t (ix2 0 j) = V m c main_v7 (ix2 0 j) := by
    blk_simp [iblk]
    refine congrArg (V m c main_v7) ?_
    funext a
    fin_cases a <;> apply Fin.ext <;> blk_simp [e8] <;> simp
  rw [this, V_v7]
  unfold gainRow
  pointwise

/-- The gains of the feed-forward part's norm in a point's block. -/
theorem iblk9_apply (c : Dev nD) (t : Fin cfg0.N) (j : Fin 1024) : iblk m c 9 t (ix2 0 j) = m ((c : Thread nD τ).loc main_arg9) (ix1 j) := by
  obtain ⟨e5, e6, e7, e8, e9⟩ := idx_zero t
  have : iblk m c 9 t (ix2 0 j) = V m c main_v8 (ix2 0 j) := by
    blk_simp [iblk]
    refine congrArg (V m c main_v8) ?_
    funext a
    fin_cases a <;> apply Fin.ext <;> blk_simp [e9] <;> simp
  rw [this, V_v8]
  unfold gainRow
  pointwise

/-- A residual row of a point, from the argument arrays. -/
theorem rowB_eq (c : Dev nD) (t : Fin cfg0.N) (b : Fin 2) (hb : b.val = (grid0.coords t 0).val) (s : Fin 512) (r : Fin 8192)
    (hr : r.val = 512 * (grid0.coords t 1).val + s.val) :
    rowB (iblk m c 0 t) (iblk m c 1 t) (iblk m c 2 t) (iblk m c 3 t) (iblk m c 4 t) (iblk m c 5 t) (iblk m c 6 t) (iblk m c 7 t) (iblk m c 8 t) s
      = rowX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b r := by
  unfold rowB rowX
  simp only [iblk0_apply m c t b hb s r hr, iblk1_apply m c t b hb s r hr, iblk2_apply m c t b hb s r hr, iblk3_apply m c t b hb s r hr,
    iblk4_apply m c t b hb s r hr, iblk5_apply, iblk6_apply, iblk7_apply, iblk8_apply]

/-- An index of a block, by its row and its column. -/
theorem splitB (y : S1x512x1024.Idx) : ∃ (s : Fin 512) (l : Fin 1024), y = ix3 0 s l :=
  ⟨y 1, y 2, by
    have h0 : (show Fin 1 from y 0) = (0 : Fin 1) := Subsingleton.elim _ _
    exact (eq_ix3 y).trans (congrArg (fun z : Fin 1 => (ix3 z (show Fin 512 from y 1) (show Fin 1024 from y 2))) h0)⟩

/-- The first result after the run: the stream after the token mixing. -/
theorem final_10 (c : Dev nD) : (dats m 0 c).arrAt 10 cfg0.N
      = layerX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  obtain ⟨e0, e1, e2, e3, e4, e10, e11⟩ := idx_facts t
  have hb : (grid0.coords t 0).val < 2 := (grid0.coords t 0).isLt
  have hi : (grid0.coords t 1).val < 16 := (grid0.coords t 1).isLt
  obtain ⟨s, l, rfl⟩ : ∃ (s : Fin 512) (l : Fin 1024), y = (show S1x512x1024.Idx from ix3 0 s l) := splitB y
  have hr : (⟨512 * (grid0.coords t 1).val + s.val, by omega⟩ : Fin 8192).val = 512 * (grid0.coords t 1).val + s.val := rfl
  have hb' : (⟨(grid0.coords t 0).val, hb⟩ : Fin 2).val = (grid0.coords t 0).val := rfl
  refine (congrFun (out10_eq (iblk m c 0 t) (iblk m c 1 t) (iblk m c 2 t) (iblk m c 3 t) (iblk m c 4 t) (iblk m c 5 t) (iblk m c 6 t) (iblk m c 7 t) (iblk m c 8 t) (iblk m c 9 t)) (ix3 0 s l)).trans ?_
  refine Eq.trans ?_ (congrArg (layerX _ _ _ _ _ _ _ _ _) (?_ : ix3 (⟨(grid0.coords t 0).val, hb⟩ : Fin 2) (⟨512 * (grid0.coords t 1).val + s.val, by omega⟩ : Fin 8192) l = _))
  · exact congrFun (rowB_eq m c t _ hb' s _ hr) l
  · funext a
    fin_cases a <;> apply Fin.ext <;> blk_simp [e10] <;> simp <;> omega

/-- The second result: its norm. -/
theorem final_11 (c : Dev nD) : (dats m 0 c).arrAt 11 cfg0.N
      = layerH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11]
  obtain ⟨e0, e1, e2, e3, e4, e10, e11⟩ := idx_facts t
  have hb : (grid0.coords t 0).val < 2 := (grid0.coords t 0).isLt
  have hi : (grid0.coords t 1).val < 16 := (grid0.coords t 1).isLt
  obtain ⟨s, l, rfl⟩ : ∃ (s : Fin 512) (l : Fin 1024), y = (show S1x512x1024.Idx from ix3 0 s l) := splitB y
  have hr : (⟨512 * (grid0.coords t 1).val + s.val, by omega⟩ : Fin 8192).val = 512 * (grid0.coords t 1).val + s.val := rfl
  have hb' : (⟨(grid0.coords t 0).val, hb⟩ : Fin 2).val = (grid0.coords t 0).val := rfl
  refine (congrFun (out11_eq (iblk m c 0 t) (iblk m c 1 t) (iblk m c 2 t) (iblk m c 3 t) (iblk m c 4 t) (iblk m c 5 t) (iblk m c 6 t) (iblk m c 7 t) (iblk m c 8 t) (iblk m c 9 t)) (ix3 0 s l)).trans ?_
  refine Eq.trans ?_ (congrArg (layerH _ _ _ _ _ _ _ _ _ _) (?_ : ix3 (⟨(grid0.coords t 0).val, hb⟩ : Fin 2) (⟨512 * (grid0.coords t 1).val + s.val, by omega⟩ : Fin 8192) l = _))
  · exact congrArg₂ (fun f g => normed f g l) (rowB_eq m c t _ hb' s _ hr) (funext fun k => iblk9_apply m c t k)
  · funext a
    fin_cases a <;> apply Fin.ext <;> blk_simp [e11] <;> simp <;> omega

end Cert.Proof.Mix
end
-- ==== Proof.MixRef.lean ====
/- The reference's two results: the stream after the token mixing and its norm, as functions of the argument arrays. -/
module
public import proofs.«01_k».proof.Proof.MixFinal
public import proofs.«01_k».proof.Proof.Gen.Reference3Ideal.Run
@[expose] public section
set_option maxRecDepth 16384
noncomputable section
namespace Cert.Proof.MixRef
open Cert.Reference3Ideal Cert.Reference3Ideal.Gen
open Idealize.ShloMosaic Idealize.ShloMosaic.TcCoe Idealize.ShloMosaic.Tactic
open Idealize.SL.Sem

/-- The gated sum of the branches' projections, by the output projection. -/
def projR (ya yb : FVec Ideal S2x8192x512 .f32) (sa sb : FVec Ideal S2x8192x1024 .f32) (wa wb : FVec Ideal S512x1024 .f32) (wo : FVec Ideal S1024x1024 .f32) : FVec Ideal S2x8192x1024 .f32 :=
  Host.dotGeneral dot_S2x8192x1024_S1024x1024_S2x8192x1024_2_0_01_1_n_n none (addf (mulf sa (Host.dotGeneral dot_S2x8192x512_S512x1024_S2x8192x1024_2_0_01_1_n_n none ya wa)) (mulf sb (Host.dotGeneral dot_S2x8192x512_S512x1024_S2x8192x1024_2_0_01_1_n_n none yb wb))) wo

/-- The norm of an array's rows. -/
def normR (f : FVec Ideal S2x8192x1024 .f32) (g : FVec Ideal S1024 .f32) : FVec Ideal S2x8192x1024 .f32 :=
  mulf (mulf f (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf f f) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- An entry of the norm. -/
theorem normR_apply (f : FVec Ideal S2x8192x1024 .f32) (g : FVec Ideal S1024 .f32) (b : Fin 2) (s : Fin 8192) (e : Fin 1024) :
    normR f g (ix3 b s e) = Mix.normed (fun k => f (ix3 b s k)) (fun k => g (ix1 k)) e := by
  unfold normR Mix.normed
  pointwise

/-- An entry of the projected sum. -/
theorem projR_apply (ya yb : FVec Ideal S2x8192x512 .f32) (sa sb : FVec Ideal S2x8192x1024 .f32) (wa wb : FVec Ideal S512x1024 .f32) (wo : FVec Ideal S1024x1024 .f32)
    (b : Fin 2) (s : Fin 8192) (e : Fin 1024) : projR ya yb sa sb wa wb wo (ix3 b s e)
      = ∑ k : Fin 1024, Mix.merged (fun j => ya (ix3 b s j)) (fun j => yb (ix3 b s j)) (fun k => sa (ix3 b s k)) (fun k => sb (ix3 b s k))
          (fun j k => wa (ix2 j k)) (fun j k => wb (ix2 j k)) k * wo (ix2 k e) := by
  unfold projR Mix.merged
  pointwise

/-- The first result is the stream after the token mixing, -/
theorem layerX_eq (x : FVec Ideal S2x8192x1024 .f32) (ya yb : FVec Ideal S2x8192x512 .f32) (sa sb : FVec Ideal S2x8192x1024 .f32) (wa wb : FVec Ideal S512x1024 .f32)
    (wo : FVec Ideal S1024x1024 .f32) (g : FVec Ideal S1024 .f32) :
    addf x (normR (projR ya yb sa sb wa wb wo) g) = Mix.layerX x ya yb sa sb wa wb wo g := by
  funext y
  obtain ⟨b, s, e, rfl⟩ : ∃ (b : Fin 2) (s : Fin 8192) (e : Fin 1024), y = ix3 b s e := ⟨y 0, y 1, y 2, eq_ix3 y⟩
  show x (ix3 b s e) + normR (projR ya yb sa sb wa wb wo) g (ix3 b s e) = _
  rw [normR_apply]
  simp only [projR_apply]
  rfl

/-- and the second its norm. -/
theorem layerH_eq (x : FVec Ideal S2x8192x1024 .f32) (ya yb : FVec Ideal S2x8192x512 .f32) (sa sb : FVec Ideal S2x8192x1024 .f32) (wa wb : FVec Ideal S512x1024 .f32)
    (wo : FVec Ideal S1024x1024 .f32) (g h : FVec Ideal S1024 .f32) :
    truncf .bf16 (normR (addf x (normR (projR ya yb sa sb wa wb wo) g)) h) bitsLt_bf16_f32 = Mix.layerH x ya yb sa sb wa wb wo g h := by
  rw [layerX_eq]
  funext y
  obtain ⟨b, s, e, rfl⟩ : ∃ (b : Fin 2) (s : Fin 8192) (e : Fin 1024), y = ix3 b s e := ⟨y 0, y 1, y 2, eq_ix3 y⟩
  show normR (Mix.layerX x ya yb sa sb wa wb wo g) h (ix3 b s e) = _
  rw [normR_apply]
  rfl

/-- The run's second result, by the argument arrays. -/
theorem hidden_eq (m : (ℓ : Loc nD τ sig) → Buf (Elt Ideal) ℓ) (c : Dev nD) : Value.res_main_v33 m c
    = Mix.layerH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine Eq.trans ?_ (layerH_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
  unfold Value.res_main_v33
  rfl

/-- The run's first result, by the argument arrays. -/
theorem stream_eq (m : (ℓ : Loc nD τ sig) → Buf (Elt Ideal) ℓ) (c : Dev nD) (z : FVec Ideal S2x8192x1024 .f32)
    (hz : z = addf (m ((c.tc : Thread nD τ).loc main_arg0)) (normR (projR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))) :
    z = Mix.layerX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  hz.trans (layerX_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))

end Cert.Proof.MixRef
end
-- ==== Proof.InSpec.lean ====
/- The layer's input projection, over the extended reals, as functions of the argument arrays: the normed rows by the projection's columns. -/
module
public import proofs.«01_k».proof.Proof.MixValue
@[expose] public section
noncomputable section
namespace Cert.Proof.In
open Idealize.ShloMosaic Idealize.ShloMosaic.TcCoe

/-- A gate of a projected number: one over one plus the exponential of its negation. -/
def gate (z : EReal) : EReal := Ideal.div (Ideal.ofBits .f32 0x3F800000#32) (Ideal.ofBits .f32 0x3F800000#32 + Ideal.exp (-z))

variable (x : FVec Ideal (⟨3, ![2, 8192, 1024]⟩ : Shape) .f32) (g : FVec Ideal (⟨1, ![1024]⟩ : Shape) .f32) (w : FVec Ideal (⟨2, ![1024, 5128]⟩ : Shape) .f32)

/-- Column j of the projection of row s of sequence b: the row's norm by the weights' column. -/
def proj (b : Fin 2) (s : Fin 8192) (j : Fin 5128) : EReal :=
  ∑ k : Fin 1024, Mix.normed (fun k => x (ix3 b s k)) (fun k => g (ix1 k)) k * w (ix2 k j)

/-- Queries, scaled, in blocks of 512 rows laid out column by column, from the projection's columns from o on. -/
def queries (o : ℕ) (ho : o + 512 ≤ 5128) : FVec Ideal (⟨4, ![2, 16, 512, 512]⟩ : Shape) .bf16 := fun y =>
  proj x g w (y 0) ⟨(y 1).val * 512 + (y 3).val, by have h1 : (y 1).val < 16 := (y 1).isLt; have h3 : (y 3).val < 512 := (y 3).isLt; omega⟩
    ⟨o + (y 2).val, by have h2 : (y 2).val < 512 := (y 2).isLt; omega⟩ * Ideal.ofBits .f32 0x3E38AA3B#32

/-- Keys, row by row. -/
def keys (o : ℕ) (ho : o + 512 ≤ 5128) : FVec Ideal (⟨3, ![2, 8192, 512]⟩ : Shape) .bf16 := fun y =>
  proj x g w (y 0) (y 1) ⟨o + (y 2).val, by have h2 : (y 2).val < 512 := (y 2).isLt; omega⟩

/-- Values, in blocks of 256 rows laid out column by column. -/
def values (o : ℕ) (ho : o + 512 ≤ 5128) : FVec Ideal (⟨4, ![2, 32, 512, 256]⟩ : Shape) .bf16 := fun y =>
  proj x g w (y 0) ⟨(y 1).val * 256 + (y 3).val, by have h1 : (y 1).val < 32 := (y 1).isLt; have h3 : (y 3).val < 256 := (y 3).isLt; omega⟩
    ⟨o + (y 2).val, by have h2 : (y 2).val < 512 := (y 2).isLt; omega⟩

/-- A branch's gates, row by row. -/
def gates (o : ℕ) (ho : o + 1024 ≤ 5128) : FVec Ideal (⟨3, ![2, 8192, 1024]⟩ : Shape) .bf16 := fun y =>
  gate (proj x g w (y 0) (y 1) ⟨o + (y 2).val, by have h2 : (y 2).val < 1024 := (y 2).isLt; omega⟩)

end Cert.Proof.In
end
-- ==== Proof.InValue.lean ====
/- What the input projection's kernel stores at a grid point, entry by entry, over the extended reals: the point's normed rows by a slice of the weights. -/
module
public import proofs.«01_k».proof.Proof.InSpec
public import proofs.«01_k».proof.Proof.Gen.Kernel4Ideal.Value
public import Idealize.ShloMosaic.Lib.Pointwise
public import Idealize.ShloMosaic.Lib.Pipeline.ValueKit
public import Idealize.ShloMosaic.Lib.Pipeline.ReadBack
@[expose] public section
noncomputable section
namespace Cert.Proof.In
open Cert.Kernel4Ideal Cert.Kernel4Ideal.Gen
open Idealize.ShloMosaic Idealize.ShloMosaic.TcCoe Idealize.ShloMosaic.Tactic
open Idealize.SL.Sem

variable (x : FVec Ideal S1x256x1024 .f32) (g : FVec Ideal S1x1024 .f32)

/-- The point's rows, normed. -/
theorem pay3_apply (s : Fin 256) (k : Fin 1024) :
    (k0_pay3 x g : FVec Ideal S256x1024 .bf16) (ix2 s k) = Mix.normed (fun k => x (ix3 0 s k)) (fun k => g (ix2 0 k)) k := by
  unfold k0_pay3 Mix.normed
  pointwise

variable (h : FVec Ideal S256x1024 .bf16) (w : FVec Ideal S1024x512 .bf16) (u : FVec Ideal S1024x1024 .bf16)

/-- The first branch's queries, -/
theorem pay5_apply (k : Fin 512) (s : Fin 256) : (k0_pay6 (k0_pay5 x g w) : FVec Ideal S1x1x512x256 .bf16) (ix4 0 0 k s)
    = (∑ d, (k0_pay3 x g : FVec Ideal S256x1024 .bf16) (ix2 s d) * w (ix2 d k)) * Ideal.ofBits .f32 0x3E38AA3B#32 := by
  unfold k0_pay6 k0_pay5
  generalize (k0_pay3 x g : FVec Ideal S256x1024 .bf16) = h
  pointwise

/-- its keys, -/
theorem pay7_apply (s : Fin 256) (k : Fin 512) : (k0_pay7 h w : FVec Ideal S1x256x512 .bf16) (ix3 0 s k) = ∑ d, h (ix2 s d) * w (ix2 d k) := by
  unfold k0_pay7
  pointwise

/-- its values; -/
theorem pay8_apply (k : Fin 512) (s : Fin 256) : (k0_pay8 h w : FVec Ideal S1x1x512x256 .bf16) (ix4 0 0 k s) = ∑ d, h (ix2 s d) * w (ix2 d k) := by
  unfold k0_pay8
  pointwise

/-- the second branch's queries, -/
theorem pay18_apply (k : Fin 512) (s : Fin 256) : (k0_pay19 (k0_pay18 h w) : FVec Ideal S1x1x512x256 .bf16) (ix4 0 0 k s)
    = (∑ d, h (ix2 s d) * w (ix2 d k)) * Ideal.ofBits .f32 0x3E38AA3B#32 := by
  unfold k0_pay19 k0_pay18
  pointwise

/-- its keys, -/
theorem pay20_apply (s : Fin 256) (k : Fin 512) : (k0_pay20 h w : FVec Ideal S1x256x512 .bf16) (ix3 0 s k) = ∑ d, h (ix2 s d) * w (ix2 d k) := by
  unfold k0_pay20
  pointwise

/-- its values; -/
theorem pay21_apply (k : Fin 512) (s : Fin 256) : (k0_pay21 h w : FVec Ideal S1x1x512x256 .bf16) (ix4 0 0 k s) = ∑ d, h (ix2 s d) * w (ix2 d k) := by
  unfold k0_pay21
  pointwise

/-- the first branch's gates -/
theorem pay25_apply (s : Fin 256) (k : Fin 1024) : (k0_pay25 h u : FVec Ideal S1x256x1024 .bf16) (ix3 0 s k) = gate (∑ d, h (ix2 s d) * u (ix2 d k)) := by
  unfold k0_pay25 gate
  pointwise
  rw [zero_sub]

/-- and the second's. -/
theorem pay26_apply (s : Fin 256) (k : Fin 1024) : (k0_pay1 (k0_pay26 h u) : FVec Ideal S1x256x1024 .bf16) (ix3 0 s k) = gate (∑ d, h (ix2 s d) * u (ix2 d k)) := by
  unfold k0_pay1 k0_pay26 gate
  pointwise
  rw [zero_sub]

end Cert.Proof.In
end
-- ==== Proof.InFinal.lean ====
/- The input projection's results after the kernel's run, over the extended reals, as functions of the argument arrays. -/
module
public import proofs.«01_k».proof.Proof.InValue
@[expose] public section
set_option maxRecDepth 16384
noncomputable section
namespace Cert.Proof.In
open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ)

/-- What the host hands the kernel: the projection's weights but for the gates', narrowed, -/
def qkvCols (a : FVec Ideal S1024x5128 .f32) : FVec Ideal S1024x3072 .bf16 :=
  truncf .bf16 (extractStridedSlice S1024x3072 ![0, 0] a slices_S1024x5128_S1024x3072_0_0) bitsLt_bf16_f32
/-- the gates', narrowed, -/
def gateCols (a : FVec Ideal S1024x5128 .f32) : FVec Ideal S1024x2048 .bf16 :=
  truncf .bf16 (extractStridedSlice S1024x2048 ![0, 3080] a slices_S1024x5128_S1024x2048_0_3080) bitsLt_bf16_f32
/-- and the norm's gains as a row. -/
def gainRow (a : FVec Ideal S1024 .f32) : FVec Ideal S1x1024 .f32 := shapeCast S1x1024 a shapeCasts_S1024_S1x1024

/-- What the call is handed for the queries', keys' and values' weights. -/
theorem V_v1 (c : Dev nD) : V m c main_v1 = qkvCols (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

/-- What it is handed for the gates'. -/
theorem V_v14 (c : Dev nD) : V m c main_v14 = gateCols (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

/-- The gains of the norm, as a row. -/
theorem V_v61 (c : Dev nD) : V m c main_v61 = gainRow (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

/-- The blocks a grid point moves: its rows of the stream and of the results; two points share a block of queries. -/
theorem idx_facts : ∀ t : Fin cfg0.N, win0_0.index t = ![(grid0.coords t 0).val, (grid0.coords t 1).val, 0]
    ∧ win0_10.index t = ![(grid0.coords t 0).val, (grid0.coords t 1).val / 2, 0, (grid0.coords t 1).val % 2]
    ∧ win0_11.index t = ![(grid0.coords t 0).val, (grid0.coords t 1).val, 0]
    ∧ win0_12.index t = ![(grid0.coords t 0).val, (grid0.coords t 1).val, 0, 0]
    ∧ win0_13.index t = ![(grid0.coords t 0).val, (grid0.coords t 1).val / 2, 0, (grid0.coords t 1).val % 2]
    ∧ win0_15.index t = ![(grid0.coords t 0).val, (grid0.coords t 1).val, 0]
    ∧ win0_17.index t = ![(grid0.coords t 0).val, (grid0.coords t 1).val, 0, 0]
    ∧ win0_18.index t = ![(grid0.coords t 0).val, (grid0.coords t 1).val, 0]
    ∧ win0_19.index t = ![(grid0.coords t 0).val, (grid0.coords t 1).val, 0] :=
  (by decide +kernel : ∀ t : Fin grid0.N, _)

/-- The weights' blocks are whole at every point. -/
theorem idx_zero : ∀ t : Fin cfg0.N, win0_1.index t = ![0, 0] ∧ win0_2.index t = ![0, 0] ∧ win0_5.index t = ![0, 0] :=
  (by decide +kernel : ∀ t : Fin grid0.N, _)

/-- The stream's block holds the point's 256 rows. -/
theorem iblk0_apply (c : Dev nD) (t : Fin cfg0.N) (b : Fin 2) (hb : b.val = (grid0.coords t 0).val) (s : Fin 256) (r : Fin 8192)
    (hr : r.val = 256 * (grid0.coords t 1).val + s.val) (d : Fin 1024) :
    iblk m c 0 t (ix3 0 s d) = m ((c : Thread nD τ).loc main_arg0) (ix3 b r d) := by
  obtain ⟨e0, -⟩ := idx_facts t
  have : iblk m c 0 t (ix3 0 s d) = V m c main_arg0 (ix3 b r d) := by
    blk_simp [iblk]
    refine congrArg (V m c main_arg0) ?_
    funext a
    fin_cases a <;> apply Fin.ext <;> blk_simp [e0] <;> simp [hb, hr] <;> omega
  rw [this, V_main_arg0]

/-- The gains in a point's block. -/
theorem iblk1_apply (c : Dev nD) (t : Fin cfg0.N) (j : Fin 1024) : iblk m c 1 t (ix2 0 j) = m ((c : Thread nD τ).loc main_arg1) (ix1 j) := by
  obtain ⟨e1, e2, e5⟩ := idx_zero t
  have : iblk m c 1 t (ix2 0 j) = V m c main_v61 (ix2 0 j) := by
    blk_simp [iblk]
    refine congrArg (V m c main_v61) ?_
    funext a
    fin_cases a <;> apply Fin.ext <;> blk_simp [e1] <;> simp
  rw [this, V_v61]
  unfold gainRow
  pointwise

/-- The block of the queries', keys' and values' weights: the first columns of the projection's. -/
theorem iblk2_apply (c : Dev nD) (t : Fin cfg0.N) (i : Fin 1024) (j : Fin 3072) (n : Fin 5128) (hn : n.val = j.val) :
    iblk m c 2 t (ix2 i j) = m ((c : Thread nD τ).loc main_arg2) (ix2 i n) := by
  obtain ⟨n, hn'⟩ := n
  obtain rfl : n = j.val := hn
  obtain ⟨e1, e2, e5⟩ := idx_zero t
  have : iblk m c 2 t (ix2 i j) = V m c main_v1 (ix2 i j) := by
    blk_simp [iblk]
    refine congrArg (V m c main_v1) ?_
    funext a
    fin_cases a <;> apply Fin.ext <;> blk_simp [e2] <;> simp
  rw [this, V_v1]
  unfold qkvCols
  generalize m ((c : Thread nD τ).loc main_arg2) = w
  pointwise

/-- The block of the gates' weights: the last columns. -/
theorem iblk5_apply (c : Dev nD) (t : Fin cfg0.N) (i : Fin 1024) (j : Fin 2048) (n : Fin 5128) (hn : n.val = 3080 + j.val) :
    iblk m c 5 t (ix2 i j) = m ((c : Thread nD τ).loc main_arg2) (ix2 i n) := by
  obtain ⟨n, hn'⟩ := n
  obtain rfl : n = 3080 + j.val := hn
  obtain ⟨e1, e2, e5⟩ := idx_zero t
  have : iblk m c 5 t (ix2 i j) = V m c main_v14 (ix2 i j) := by
    blk_simp [iblk]
    refine congrArg (V m c main_v14) ?_
    funext a
    fin_cases a <;> apply Fin.ext <;> blk_simp [e5] <;> simp
  rw [this, V_v14]
  unfold gateCols
  generalize m ((c : Thread nD τ).loc main_arg2) = w
  pointwise

/-- A normed row of a point, from the argument arrays. -/
theorem normed_eq (c : Dev nD) (t : Fin cfg0.N) (b : Fin 2) (hb : b.val = (grid0.coords t 0).val) (s : Fin 256) (r : Fin 8192)
    (hr : r.val = 256 * (grid0.coords t 1).val + s.val) (d : Fin 1024) :
    (k0_pay3 (iblk m c 0 t) (iblk m c 1 t) : FVec Ideal S256x1024 .bf16) (ix2 s d)
      = Mix.normed (fun k => m ((c : Thread nD τ).loc main_arg0) (ix3 b r k)) (fun k => m ((c : Thread nD τ).loc main_arg1) (ix1 k)) d := by
  refine (pay3_apply _ _ s d).trans ?_
  exact congrArg₂ (fun f g => Mix.normed f g d) (funext fun k => iblk0_apply m c t b hb s r hr k) (funext fun k => iblk1_apply m c t k)

/-- An index of a block of queries or values, by its column and its row, -/
theorem splitT (y : S1x1x512x256.Idx) : ∃ (k : Fin 512) (s : Fin 256), y = ix4 0 0 k s :=
  ⟨y 2, y 3, by
    have h0 : (show Fin 1 from y 0) = (0 : Fin 1) := Subsingleton.elim _ _
    have h1 : (show Fin 1 from y 1) = (0 : Fin 1) := Subsingleton.elim _ _
    exact (eq_ix4 y).trans (congrArg₂ (fun z u : Fin 1 => (ix4 z u (show Fin 512 from y 2) (show Fin 256 from y 3))) h0 h1)⟩

/-- of keys, -/
theorem splitK (y : S1x256x512.Idx) : ∃ (s : Fin 256) (k : Fin 512), y = ix3 0 s k :=
  ⟨y 1, y 2, by
    have h0 : (show Fin 1 from y 0) = (0 : Fin 1) := Subsingleton.elim _ _
    exact (eq_ix3 y).trans (congrArg (fun z : Fin 1 => (ix3 z (show Fin 256 from y 1) (show Fin 512 from y 2))) h0)⟩

/-- and of gates. -/
theorem splitG (y : S1x256x1024.Idx) : ∃ (s : Fin 256) (k : Fin 1024), y = ix3 0 s k :=
  ⟨y 1, y 2, by
    have h0 : (show Fin 1 from y 0) = (0 : Fin 1) := Subsingleton.elim _ _
    exact (eq_ix3 y).trans (congrArg (fun z : Fin 1 => (ix3 z (show Fin 256 from y 1) (show Fin 1024 from y 2))) h0)⟩

/-- A point's rows by a slice of the queries', keys' and values' weights: columns of the projection. -/
theorem cols_eq (c : Dev nD) (t : Fin cfg0.N) (b : Fin 2) (hb : b.val = (grid0.coords t 0).val) (s : Fin 256) (r : Fin 8192)
    (hr : r.val = 256 * (grid0.coords t 1).val + s.val) (o : ℕ) (inb : ∀ a, (![0, o] : Fin 2 → ℕ) a + (![1024, 512] : Fin 2 → ℕ) a ≤ S1024x3072.size a)
    (k : Fin 512) (n : Fin 5128) (hn : n.val = o + k.val) :
    (∑ d : Fin 1024, (k0_pay3 (iblk m c 0 t) (iblk m c 1 t) : FVec Ideal S256x1024 .bf16) (ix2 s d)
        * View.ld (Val := Elt Ideal) (e' := .bf16) (iblk m c 2 t) (Rect.unit (s := S1024x3072) ![0, o] ![1024, 512] inb) (ix2 d k))
      = proj (m ((c : Thread nD τ).loc main_arg0)) (m ((c : Thread nD τ).loc main_arg1)) (m ((c : Thread nD τ).loc main_arg2)) b r n := by
  have ho : o + 512 ≤ 3072 := inb 1
  have hk := k.isLt
  refine Finset.sum_congr rfl fun d _ => congrArg₂ (· * ·) (normed_eq m c t b hb s r hr d) ?_
  refine (congrArg (iblk m c 2 t) (?_ : _ = ix2 d (⟨o + k.val, by omega⟩ : Fin 3072))).trans (iblk2_apply m c t d _ n hn)
  funext a
  fin_cases a <;> apply Fin.ext
  · show 0 + 1 * d.val = d.val
    omega
  · show o + 1 * k.val = o + k.val
    omega

/-- A point's rows by a slice of the gates' weights: the projection's last columns. -/
theorem gateCols_eq (c : Dev nD) (t : Fin cfg0.N) (b : Fin 2) (hb : b.val = (grid0.coords t 0).val) (s : Fin 256) (r : Fin 8192)
    (hr : r.val = 256 * (grid0.coords t 1).val + s.val) (o : ℕ) (inb : ∀ a, (![0, o] : Fin 2 → ℕ) a + (![1024, 1024] : Fin 2 → ℕ) a ≤ S1024x2048.size a)
    (k : Fin 1024) (n : Fin 5128) (hn : n.val = 3080 + (o + k.val)) :
    (∑ d : Fin 1024, (k0_pay3 (iblk m c 0 t) (iblk m c 1 t) : FVec Ideal S256x1024 .bf16) (ix2 s d)
        * View.ld (Val := Elt Ideal) (e' := .bf16) (iblk m c 5 t) (Rect.unit (s := S1024x2048) ![0, o] ![1024, 1024] inb) (ix2 d k))
      = proj (m ((c : Thread nD τ).loc main_arg0)) (m ((c : Thread nD τ).loc main_arg1)) (m ((c : Thread nD τ).loc main_arg2)) b r n := by
  have ho : o + 1024 ≤ 2048 := inb 1
  have hk := k.isLt
  refine Finset.sum_congr rfl fun d _ => congrArg₂ (· * ·) (normed_eq m c t b hb s r hr d) ?_
  refine (congrArg (iblk m c 5 t) (?_ : _ = ix2 d (⟨o + k.val, by omega⟩ : Fin 2048))).trans (iblk5_apply m c t d _ n hn)
  funext a
  fin_cases a <;> apply Fin.ext
  · show 0 + 1 * d.val = d.val
    omega
  · show o + 1 * k.val = o + k.val
    omega

/-- The first branch's queries that a point stores, by the argument arrays, -/
theorem point_10 (c : Dev nD) (t : Fin cfg0.N) (y : S1x1x512x256.Idx) :
    (k0_pay6 (k0_pay5 (iblk m c 0 t) (iblk m c 1 t) (View.ld (Val := Elt Ideal) (e' := .bf16) (iblk m c 2 t) (Rect.unit (s := S1024x3072) ![0, 0] ![1024, 512] inb_S1024x3072_S1024x512_0_0))) : FVec Ideal S1x1x512x256 .bf16) y
      = queries (m ((c : Thread nD τ).loc main_arg0)) (m ((c : Thread nD τ).loc main_arg1)) (m ((c : Thread nD τ).loc main_arg2)) 0 (by decide) (((View.whole main_v62_0).slice (win0_10.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨k, s, rfl⟩ := splitT y
  have hs := s.isLt
  refine Eq.trans ?_ (congrArg (queries _ _ _ 0 _) (?_ : ix4 (⟨(grid0.coords t 0).val, hb⟩ : Fin 2) (⟨(grid0.coords t 1).val / 2, by omega⟩ : Fin 16) k (⟨256 * ((grid0.coords t 1).val % 2) + s.val, by omega⟩ : Fin 512) = _))
  · refine (pay5_apply _ _ _ k s).trans ?_
    refine congrArg (· * Ideal.ofBits .f32 0x3E38AA3B#32) ?_
    exact cols_eq m c t _ rfl s _ (by show (grid0.coords t 1).val / 2 * 512 + (256 * ((grid0.coords t 1).val % 2) + s.val) = 256 * (grid0.coords t 1).val + s.val; omega) 0 _ k _ rfl
  · funext a
    fin_cases a <;> apply Fin.ext <;> blk_simp [e10] <;> simp <;> omega

/-- and after the run. -/
theorem final_10 (c : Dev nD) : (dats m 0 c).arrAt 10 cfg0.N = queries (m ((c : Thread nD τ).loc main_arg0)) (m ((c : Thread nD τ).loc main_arg1)) (m ((c : Thread nD τ).loc main_arg2)) 0 (by decide) := by
  refine (dats m 0 c).arrAt_eq_of_covers 10 _ (by decide +kernel) fun t hf y => ?_
  blk_simp
  rw [after0_10]
  by_cases h : t.val % 32 = 0
  · rw [outsAt0_A m c t h]
    frame_out
    exact point_10 m c t y
  · rw [outsAt0_B m c t h]
    frame_out
    exact point_10 m c t y

/-- The first branch's keys that a point stores, by the argument arrays, -/
theorem point_11 (c : Dev nD) (t : Fin cfg0.N) (y : S1x256x512.Idx) :
    (k0_pay7 (k0_pay3 (iblk m c 0 t) (iblk m c 1 t)) (View.ld (Val := Elt Ideal) (e' := .bf16) (iblk m c 2 t) (Rect.unit (s := S1024x3072) ![0, 512] ![1024, 512] inb_S1024x3072_S1024x512_0_512)) : FVec Ideal S1x256x512 .bf16) y
      = keys (m ((c : Thread nD τ).loc main_arg0)) (m ((c : Thread nD τ).loc main_arg1)) (m ((c : Thread nD τ).loc main_arg2)) 512 (by decide) (((View.whole main_v62_1).slice (win0_11.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨s, k, rfl⟩ := splitK y
  have hs := s.isLt
  refine Eq.trans ?_ (congrArg (keys _ _ _ 512 _) (?_ : ix3 (⟨(grid0.coords t 0).val, hb⟩ : Fin 2) (⟨256 * (grid0.coords t 1).val + s.val, by omega⟩ : Fin 8192) k = _))
  · refine (pay7_apply _ _ s k).trans ?_
    exact cols_eq m c t _ rfl s _ rfl 512 _ k _ rfl
  · funext a
    fin_cases a <;> apply Fin.ext <;> blk_simp [e11] <;> simp <;> omega

/-- and after the run. -/
theorem final_11 (c : Dev nD) : (dats m 0 c).arrAt 11 cfg0.N = keys (m ((c : Thread nD τ).loc main_arg0)) (m ((c : Thread nD τ).loc main_arg1)) (m ((c : Thread nD τ).loc main_arg2)) 512 (by decide) := by
  refine (dats m 0 c).arrAt_eq_of_covers 11 _ (by decide +kernel) fun t hf y => ?_
  blk_simp
  rw [after0_11]
  by_cases h : t.val % 32 = 0
  · rw [outsAt0_A m c t h]
    frame_out
    exact point_11 m c t y
  · rw [outsAt0_B m c t h]
    frame_out
    exact point_11 m c t y

/-- The first branch's values that a point stores, by the argument arrays, -/
theorem point_12 (c : Dev nD) (t : Fin cfg0.N) (y : S1x1x512x256.Idx) :
    (k0_pay8 (k0_pay3 (iblk m c 0 t) (iblk m c 1 t)) (View.ld (Val := Elt Ideal) (e' := .bf16) (iblk m c 2 t) (Rect.unit (s := S1024x3072) ![0, 1024] ![1024, 512] inb_S1024x3072_S1024x512_0_1024)) : FVec Ideal S1x1x512x256 .bf16) y
      = values (m ((c : Thread nD τ).loc main_arg0)) (m ((c : Thread nD τ).loc main_arg1)) (m ((c : Thread nD τ).loc main_arg2)) 1024 (by decide) (((View.whole main_v62_2).slice (win0_12.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨k, s, rfl⟩ := splitT y
  have hs := s.isLt
  refine Eq.trans ?_ (congrArg (values _ _ _ 1024 _) (?_ : ix4 (⟨(grid0.coords t 0).val, hb⟩ : Fin 2) (⟨(grid0.coords t 1).val, hi⟩ : Fin 32) k s = _))
  · refine (pay8_apply _ _ k s).trans ?_
    exact cols_eq m c t _ rfl s _ (by show (grid0.coords t 1).val * 256 + s.val = 256 * (grid0.coords t 1).val + s.val; omega) 1024 _ k _ rfl
  · funext a
    fin_cases a <;> apply Fin.ext <;> blk_simp [e12] <;> simp <;> omega

/-- and after the run. -/
theorem final_12 (c : Dev nD) : (dats m 0 c).arrAt 12 cfg0.N = values (m ((c : Thread nD τ).loc main_arg0)) (m ((c : Thread nD τ).loc main_arg1)) (m ((c : Thread nD τ).loc main_arg2)) 1024 (by decide) := by
  refine (dats m 0 c).arrAt_eq_of_covers 12 _ (by decide +kernel) fun t hf y => ?_
  blk_simp
  rw [after0_12]
  by_cases h : t.val % 32 = 0
  · rw [outsAt0_A m c t h]
    frame_out
    exact point_12 m c t y
  · rw [outsAt0_B m c t h]
    frame_out
    exact point_12 m c t y

/-- The second branch's queries that a point stores, by the argument arrays, -/
theorem point_13 (c : Dev nD) (t : Fin cfg0.N) (y : S1x1x512x256.Idx) :
    (k0_pay19 (k0_pay18 (k0_pay3 (iblk m c 0 t) (iblk m c 1 t)) (View.ld (Val := Elt Ideal) (e' := .bf16) (iblk m c 2 t) (Rect.unit (s := S1024x3072) ![0, 1536] ![1024, 512] inb_S1024x3072_S1024x512_0_1536))) : FVec Ideal S1x1x512x256 .bf16) y
      = queries (m ((c : Thread nD τ).loc main_arg0)) (m ((c : Thread nD τ).loc main_arg1)) (m ((c : Thread nD τ).loc main_arg2)) 1536 (by decide) (((View.whole main_v62_3).slice (win0_13.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨k, s, rfl⟩ := splitT y
  have hs := s.isLt
  refine Eq.trans ?_ (congrArg (queries _ _ _ 1536 _) (?_ : ix4 (⟨(grid0.coords t 0).val, hb⟩ : Fin 2) (⟨(grid0.coords t 1).val / 2, by omega⟩ : Fin 16) k (⟨256 * ((grid0.coords t 1).val % 2) + s.val, by omega⟩ : Fin 512) = _))
  · refine (pay18_apply _ _ k s).trans ?_
    refine congrArg (· * Ideal.ofBits .f32 0x3E38AA3B#32) ?_
    exact cols_eq m c t _ rfl s _ (by show (grid0.coords t 1).val / 2 * 512 + (256 * ((grid0.coords t 1).val % 2) + s.val) = 256 * (grid0.coords t 1).val + s.val; omega) 1536 _ k _ rfl
  · funext a
    fin_cases a <;> apply Fin.ext <;> blk_simp [e13] <;> simp <;> omega

/-- and after the run. -/
theorem final_13 (c : Dev nD) : (dats m 0 c).arrAt 13 cfg0.N = queries (m ((c : Thread nD τ).loc main_arg0)) (m ((c : Thread nD τ).loc main_arg1)) (m ((c : Thread nD τ).loc main_arg2)) 1536 (by decide) := by
  refine (dats m 0 c).arrAt_eq_of_covers 13 _ (by decide +kernel) fun t hf y => ?_
  blk_simp
  rw [after0_13]
  by_cases h : t.val % 32 = 0
  · rw [outsAt0_A m c t h]
    frame_out
    exact point_13 m c t y
  · rw [outsAt0_B m c t h]
    frame_out
    exact point_13 m c t y

/-- The second branch's keys that a point stores, by the argument arrays, -/
theorem point_15 (c : Dev nD) (t : Fin cfg0.N) (y : S1x256x512.Idx) :
    (k0_pay20 (k0_pay3 (iblk m c 0 t) (iblk m c 1 t)) (View.ld (Val := Elt Ideal) (e' := .bf16) (iblk m c 2 t) (Rect.unit (s := S1024x3072) ![0, 2048] ![1024, 512] inb_S1024x3072_S1024x512_0_2048)) : FVec Ideal S1x256x512 .bf16) y
      = keys (m ((c : Thread nD τ).loc main_arg0)) (m ((c : Thread nD τ).loc main_arg1)) (m ((c : Thread nD τ).loc main_arg2)) 2048 (by decide) (((View.whole main_v62_5).slice (win0_15.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨s, k, rfl⟩ := splitK y
  have hs := s.isLt
  refine Eq.trans ?_ (congrArg (keys _ _ _ 2048 _) (?_ : ix3 (⟨(grid0.coords t 0).val, hb⟩ : Fin 2) (⟨256 * (grid0.coords t 1).val + s.val, by omega⟩ : Fin 8192) k = _))
  · refine (pay20_apply _ _ s k).trans ?_
    exact cols_eq m c t _ rfl s _ rfl 2048 _ k _ rfl
  · funext a
    fin_cases a <;> apply Fin.ext <;> blk_simp [e15] <;> simp <;> omega

/-- and after the run. -/
theorem final_15 (c : Dev nD) : (dats m 0 c).arrAt 15 cfg0.N = keys (m ((c : Thread nD τ).loc main_arg0)) (m ((c : Thread nD τ).loc main_arg1)) (m ((c : Thread nD τ).loc main_arg2)) 2048 (by decide) := by
  refine (dats m 0 c).arrAt_eq_of_covers 15 _ (by decide +kernel) fun t hf y => ?_
  blk_simp
  rw [after0_15]
  by_cases h : t.val % 32 = 0
  · rw [outsAt0_A m c t h]
    frame_out
    exact point_15 m c t y
  · rw [outsAt0_B m c t h]
    frame_out
    exact point_15 m c t y

/-- The second branch's values that a point stores, by the argument arrays, -/
theorem point_17 (c : Dev nD) (t : Fin cfg0.N) (y : S1x1x512x256.Idx) :
    (k0_pay21 (k0_pay3 (iblk m c 0 t) (iblk m c 1 t)) (View.ld (Val := Elt Ideal) (e' := .bf16) (iblk m c 2 t) (Rect.unit (s := S1024x3072) ![0, 2560] ![1024, 512] inb_S1024x3072_S1024x512_0_2560)) : FVec Ideal S1x1x512x256 .bf16) y
      = values (m ((c : Thread nD τ).loc main_arg0)) (m ((c : Thread nD τ).loc main_arg1)) (m ((c : Thread nD τ).loc main_arg2)) 2560 (by decide) (((View.whole main_v62_7).slice (win0_17.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨k, s, rfl⟩ := splitT y
  have hs := s.isLt
  refine Eq.trans ?_ (congrArg (values _ _ _ 2560 _) (?_ : ix4 (⟨(grid0.coords t 0).val, hb⟩ : Fin 2) (⟨(grid0.coords t 1).val, hi⟩ : Fin 32) k s = _))
  · refine (pay21_apply _ _ k s).trans ?_
    exact cols_eq m c t _ rfl s _ (by show (grid0.coords t 1).val * 256 + s.val = 256 * (grid0.coords t 1).val + s.val; omega) 2560 _ k _ rfl
  · funext a
    fin_cases a <;> apply Fin.ext <;> blk_simp [e17] <;> simp <;> omega

/-- and after the run. -/
theorem final_17 (c : Dev nD) : (dats m 0 c).arrAt 17 cfg0.N = values (m ((c : Thread nD τ).loc main_arg0)) (m ((c : Thread nD τ).loc main_arg1)) (m ((c : Thread nD τ).loc main_arg2)) 2560 (by decide) := by
  refine (dats m 0 c).arrAt_eq_of_covers 17 _ (by decide +kernel) fun t hf y => ?_
  blk_simp
  rw [after0_17]
  by_cases h : t.val % 32 = 0
  · rw [outsAt0_A m c t h]
    frame_out
    exact point_17 m c t y
  · rw [outsAt0_B m c t h]
    frame_out
    exact point_17 m c t y

/-- The first branch's gates that a point stores, by the argument arrays, -/
theorem point_18 (c : Dev nD) (t : Fin cfg0.N) (y : S1x256x1024.Idx) :
    (k0_pay25 (k0_pay3 (iblk m c 0 t) (iblk m c 1 t)) (View.ld (Val := Elt Ideal) (e' := .bf16) (iblk m c 5 t) (Rect.unit (s := S1024x2048) ![0, 0] ![1024, 1024] inb_S1024x2048_S1024x1024_0_0)) : FVec Ideal S1x256x1024 .bf16) y
      = gates (m ((c : Thread nD τ).loc main_arg0)) (m ((c : Thread nD τ).loc main_arg1)) (m ((c : Thread nD τ).loc main_arg2)) 3080 (by decide) (((View.whole main_v62_8).slice (win0_18.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨s, k, rfl⟩ := splitG y
  have hs := s.isLt
  refine Eq.trans ?_ (congrArg (gates _ _ _ 3080 _) (?_ : ix3 (⟨(grid0.coords t 0).val, hb⟩ : Fin 2) (⟨256 * (grid0.coords t 1).val + s.val, by omega⟩ : Fin 8192) k = _))
  · refine (pay25_apply _ _ s k).trans ?_
    refine congrArg gate ?_
    exact gateCols_eq m c t _ rfl s _ rfl 0 _ k _ (by show 3080 + k.val = 3080 + (0 + k.val); omega)
  · funext a
    fin_cases a <;> apply Fin.ext <;> blk_simp [e18] <;> simp <;> omega

/-- and after the run. -/
theorem final_18 (c : Dev nD) : (dats m 0 c).arrAt 18 cfg0.N = gates (m ((c : Thread nD τ).loc main_arg0)) (m ((c : Thread nD τ).loc main_arg1)) (m ((c : Thread nD τ).loc main_arg2)) 3080 (by decide) := by
  refine (dats m 0 c).arrAt_eq_of_covers 18 _ (by decide +kernel) fun t hf y => ?_
  blk_simp
  rw [after0_18]
  by_cases h : t.val % 32 = 0
  · rw [outsAt0_A m c t h]
    frame_out
    exact point_18 m c t y
  · rw [outsAt0_B m c t h]
    frame_out
    exact point_18 m c t y

/-- The second branch's gates that a point stores, by the argument arrays, -/
theorem point_19 (c : Dev nD) (t : Fin cfg0.N) (y : S1x256x1024.Idx) :
    (k0_pay1 (k0_pay26 (k0_pay3 (iblk m c 0 t) (iblk m c 1 t)) (View.ld (Val := Elt Ideal) (e' := .bf16) (iblk m c 5 t) (Rect.unit (s := S1024x2048) ![0, 1024] ![1024, 1024] inb_S1024x2048_S1024x1024_0_1024))) : FVec Ideal S1x256x1024 .bf16) y
      = gates (m ((c : Thread nD τ).loc main_arg0)) (m ((c : Thread nD τ).loc main_arg1)) (m ((c : Thread nD τ).loc main_arg2)) 4104 (by decide) (((View.whole main_v62_9).slice (win0_19.rect t)).emb y) := by
  obtain ⟨e0, e10, e11, e12, e13, e15, e17, e18, e19⟩ := idx_facts t
  have hb : (grid0.coords t 0).val < 2 := (grid0.coords t 0).isLt
  have hi : (grid0.coords t 1).val < 32 := (grid0.coords t 1).isLt
  obtain ⟨s, k, rfl⟩ := splitG y
  have hs := s.isLt
  refine Eq.trans ?_ (congrArg (gates _ _ _ 4104 _) (?_ : ix3 (⟨(grid0.coords t 0).val, hb⟩ : Fin 2) (⟨256 * (grid0.coords t 1).val + s.val, by omega⟩ : Fin 8192) k = _))
  · refine (pay26_apply _ _ s k).trans ?_
    refine congrArg gate ?_
    exact gateCols_eq m c t _ rfl s _ rfl 1024 _ k _ (by show 4104 + k.val = 3080 + (1024 + k.val); omega)
  · funext a
    fin_cases a <;> apply Fin.ext <;> blk_simp [e19] <;> simp <;> omega

/-- and after the run. -/
theorem final_19 (c : Dev nD) : (dats m 0 c).arrAt 19 cfg0.N = gates (m ((c : Thread nD τ).loc main_arg0)) (m ((c : Thread nD τ).loc main_arg1)) (m ((c : Thread nD τ).loc main_arg2)) 4104 (by decide) := by
  refine (dats m 0 c).arrAt_eq_of_covers 19 _ (by decide +kernel) fun t hf y => ?_
  blk_simp
  rw [after0_19]
  by_cases h : t.val % 32 = 0
  · rw [outsAt0_A m c t h]
    frame_out
    exact point_19 m c t y
  · rw [outsAt0_B m c t h]
    frame_out
    exact point_19 m c t y

end Cert.Proof.In
end
-- ==== Proof.InRef.lean ====
/- The fourth reference's results: the projections and the gates, as functions of the argument arrays. -/
module
public import proofs.«01_k».proof.Proof.InSpec
public import proofs.«01_k».proof.Proof.Gen.Reference4Ideal.Run
@[expose] public section
set_option maxRecDepth 16384
noncomputable section
namespace Cert.Proof.InRef
open Cert.Reference4Ideal Cert.Reference4Ideal.Gen
open Idealize.ShloMosaic Idealize.ShloMosaic.TcCoe Idealize.ShloMosaic.Tactic
open Idealize.SL.Sem

variable (x : FVec Ideal S2x8192x1024 .f32) (g : FVec Ideal S1024 .f32) (w : FVec Ideal S1024x5128 .f32)

/-- The norm of an array's rows. -/
def normR (f : FVec Ideal S2x8192x1024 .f32) (g : FVec Ideal S1024 .f32) : FVec Ideal S2x8192x1024 .f32 :=
  mulf (mulf f (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf f f) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- An entry of the norm. -/
theorem normR_apply (f : FVec Ideal S2x8192x1024 .f32) (g : FVec Ideal S1024 .f32) (b : Fin 2) (s : Fin 8192) (e : Fin 1024) :
    normR f g (ix3 b s e) = Mix.normed (fun k => f (ix3 b s k)) (fun k => g (ix1 k)) e := by
  unfold normR Mix.normed
  pointwise

/-- The projection of the normed rows. -/
def projR : FVec Ideal S2x8192x5128 .f32 := Host.dotGeneral dot_S2x8192x1024_S1024x5128_S2x8192x5128_2_0_01_1_n_n none (normR x g) w

/-- An entry of it. -/
theorem projR_apply (b : Fin 2) (s : Fin 8192) (j : Fin 5128) : projR x g w (ix3 b s j) = In.proj x g w b s j := by
  unfold projR In.proj
  simp only [← normR_apply]
  generalize normR x g = h
  pointwise

/-- The queries laid out in blocks, -/
theorem queries_eq (o : ℕ) (ho : o + 512 ≤ 5128) (hs : S2x8192x5128.Slices ![0, 0, o] S2x8192x512) :
    truncf .bf16 (transpose S2x16x512x512 [0, 1, 3, 2] (shapeCast S2x16x512x512 (mulf (extractStridedSlice S2x8192x512 ![0, 0, o] (projR x g w) hs) (broadcastInDim S2x8192x512 ![] bcast_S_S2x8192x512 (constant S_ .f32 0x3E38AA3B#32))) shapeCasts_S2x8192x512_S2x16x512x512) transposes_S2x16x512x512_S2x16x512x512_0_1_3_2) bitsLt_bf16_f32
      = In.queries x g w o ho := by
  funext y
  obtain ⟨b, i, k, l, rfl⟩ : ∃ (b : Fin 2) (i : Fin 16) (k : Fin 512) (l : Fin 512), y = ix4 b i k l := ⟨y 0, y 1, y 2, y 3, eq_ix4 y⟩
  show _ = In.proj x g w b ⟨i.val * 512 + l.val, _⟩ ⟨o + k.val, _⟩ * _
  rw [← projR_apply]
  generalize projR x g w = p
  pointwise

/-- the values, -/
theorem values_eq (o : ℕ) (ho : o + 512 ≤ 5128) (hs : S2x8192x5128.Slices ![0, 0, o] S2x8192x512) :
    truncf .bf16 (transpose S2x32x512x256 [0, 1, 3, 2] (shapeCast S2x32x256x512 (extractStridedSlice S2x8192x512 ![0, 0, o] (projR x g w) hs) shapeCasts_S2x8192x512_S2x32x256x512) transposes_S2x32x256x512_S2x32x512x256_0_1_3_2) bitsLt_bf16_f32
      = In.values x g w o ho := by
  funext y
  obtain ⟨b, i, k, l, rfl⟩ : ∃ (b : Fin 2) (i : Fin 32) (k : Fin 512) (l : Fin 256), y = ix4 b i k l := ⟨y 0, y 1, y 2, y 3, eq_ix4 y⟩
  show _ = In.proj x g w b ⟨i.val * 256 + l.val, _⟩ ⟨o + k.val, _⟩
  rw [← projR_apply]
  generalize projR x g w = p
  pointwise

/-- the keys, -/
theorem keys_eq (o : ℕ) (ho : o + 512 ≤ 5128) (hs : S2x8192x5128.Slices ![0, 0, o] S2x8192x512) :
    truncf .bf16 (extractStridedSlice S2x8192x512 ![0, 0, o] (projR x g w) hs) bitsLt_bf16_f32 = In.keys x g w o ho := by
  funext y
  obtain ⟨b, s, k, rfl⟩ : ∃ (b : Fin 2) (s : Fin 8192) (k : Fin 512), y = ix3 b s k := ⟨y 0, y 1, y 2, eq_ix3 y⟩
  show _ = In.proj x g w b s ⟨o + k.val, _⟩
  rw [← projR_apply]
  generalize projR x g w = p
  pointwise

/-- and the gates. -/
theorem gates_eq (o : ℕ) (ho : o + 1024 ≤ 5128) (hs : S2x8192x5128.Slices ![0, 0, o] S2x8192x1024) :
    truncf .bf16 (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, o] (projR x g w) hs))))) bitsLt_bf16_f32
      = In.gates x g w o ho := by
  funext y
  obtain ⟨b, s, k, rfl⟩ : ∃ (b : Fin 2) (s : Fin 8192) (k : Fin 1024), y = ix3 b s k := ⟨y 0, y 1, y 2, eq_ix3 y⟩
  show _ = In.gate (In.proj x g w b s ⟨o + k.val, _⟩)
  rw [← projR_apply]
  generalize projR x g w = p
  unfold In.gate
  pointwise

end Cert.Proof.InRef
end
-- ==== Proof.lean ====
/-
  The claims: the frames of the kernel, of its idealization and of the reference, the idealization's ledger, and the equality of the
  idealized kernel's result and the reference's, for finite queries and keys; and the same of the second call, the feed-forward part of the
  layer, of the third, the merge of the attention branches before it, and of the fourth, the layer's input projection, whose equalities
  need no condition.
-/
module

public import proofs.«01_k».proof.Defs
public import proofs.«01_k».proof.Proof.KernelRun
public import proofs.«01_k».proof.Proof.KernelIdealRun
public import proofs.«01_k».proof.Proof.Final
public import proofs.«01_k».proof.Proof.RefValue
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnFinal
public import proofs.«01_k».proof.Proof.FfnRef
public import proofs.«01_k».proof.Proof.MixFinal
public import proofs.«01_k».proof.Proof.MixRef
public import proofs.«01_k».proof.Proof.InFinal
public import proofs.«01_k».proof.Proof.InRef

@[expose] public section

noncomputable section

namespace Cert.Proof

open Idealize.ShloMosaic Idealize.SL.Sem

/-- The kernel runs, its arguments end unchanged and the machine is quiescent. -/
theorem frame_kernel : Cert.quiescent_Kernel := fun m ρ _ => Kernel.frame (F := Bits) m ρ

/-- The same of the idealized kernel. -/
theorem frame_ideal : Cert.quiescent_KernelIdeal := fun m ρ _ => KernelIdeal.frame (F := Ideal) m ρ

/-- The same of the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The ledger of the two named constants. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "mask" .f32 0xF149F2CA#32 ⊥ rfl⟩

/-- The idealized kernel's frame, under the precondition. -/
theorem frame_ideal_finite [Cert.Pre_finite.Facts] : Cert.quiescent_KernelIdeal_pre_finite := fun m ρ _ => KernelIdeal.frame (F := Ideal) m ρ

/-- The reference's frame, under the precondition. -/
theorem frame_reference_finite [Cert.Pre_finite.Facts] : Cert.quiescent_ReferenceIdeal_pre_finite := fun m ρ _ => frame_reference m ρ trivial

/-- The idealized kernel and the reference compute the same array of extended reals: the stick-breaking attention of the arguments. -/
theorem algebraic [Cert.Pre_finite.Facts] : Cert.algebraic_KernelIdeal_ReferenceIdeal_pre_finite := fun m ρ m' ρ' hpre hargs => by
  have hfin := fun c => finite_of_pre _ _ _ (hpre c)
  refine ⟨fun c => Sb.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨?_, h.2.1 c⟩)
      (θ_run_and (KernelIdeal.run_main (F := Ideal) m ρ) (KernelIdeal.frame (F := Ideal) m ρ))
    exact (h.1.out_eq c 3).trans (KernelIdeal.final_o m c (hfin c).1 (hfin c).2)
  · refine (θ_run Cert.ReferenceIdeal.defs _ _).mono (fun r h c => ⟨(h c).1.trans ?_, (h c).2⟩)
      (Cert.ReferenceIdeal.Value.run (F := Ideal) m' ρ')
    obtain ⟨e0, e1, e2⟩ := hargs c
    refine (ReferenceIdeal.res_attn m' c (e0 ▸ (hfin c).1) (e1 ▸ (hfin c).2)).trans ?_
    rw [e0, e1, e2]

/-- The second call's kernel runs, its arguments end unchanged and the machine is quiescent. -/
theorem frame_kernel2 : Cert.quiescent_Kernel2 := fun m ρ _ => Cert.Kernel2.Gen.frame m ρ

/-- The same of its idealization. -/
theorem frame_ideal2 : Cert.quiescent_Kernel2Ideal := fun m ρ _ => Cert.Kernel2Ideal.Gen.frame m ρ

/-- The same of the second reference. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The second idealization rewrites nothing. -/
theorem preserves2 : Cert.preserves_Kernel2_Kernel2Ideal := trivial

/-- The idealized second kernel and its reference compute the same array of extended reals: the feed-forward part of the layer. -/
theorem algebraic2 : Cert.algebraic_Kernel2Ideal_Reference2Ideal := fun m ρ m' ρ' _ hargs => by
  refine ⟨fun c => Ffn.layer (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)), ?_, ?_⟩
  · exact (θ_run Cert.Kernel2Ideal.defs _ _).mono (fun r h c => ⟨(h c).1.trans (Ffn.final_o m c), (h c).2⟩)
      (Cert.Kernel2Ideal.Value.run_blocks (F := Ideal) m ρ)
  · refine (θ_run Cert.Reference2Ideal.defs _ _).mono (fun r h c => ⟨(FfnRef.result_eq m' c _ (h c).1).trans ?_, (h c).2⟩)
      (Cert.Reference2Ideal.Value.run (F := Ideal) m' ρ')
    obtain ⟨e0, e1, e2, e3, e4, e5, e6, e7, e8, e9⟩ := hargs c
    rw [e0, e1, e2, e3, e4, e5, e6, e7, e8, e9]

/-- The third call's kernel runs, its arguments end unchanged and the machine is quiescent. -/
theorem frame_kernel3 : Cert.quiescent_Kernel3 := fun m ρ _ => Cert.Kernel3.Gen.frame m ρ

/-- The same of its idealization. -/
theorem frame_ideal3 : Cert.quiescent_Kernel3Ideal := fun m ρ _ => Cert.Kernel3Ideal.Gen.frame m ρ

/-- The same of the third reference. -/
theorem frame_reference3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The third idealization rewrites nothing. -/
theorem preserves3 : Cert.preserves_Kernel3_Kernel3Ideal := trivial

/-- The idealized third kernel and its reference compute the same two arrays of extended reals: the stream after the token mixing and its norm. -/
theorem algebraic3 : Cert.algebraic_Kernel3Ideal_Reference3Ideal := fun m ρ m' ρ' _ hargs => by
  refine ⟨fun c => Mix.layerX (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    fun c => Mix.layerH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)), ?_, ?_⟩
  · exact (θ_run Cert.Kernel3Ideal.defs _ _).mono (fun r h c => ⟨(h c).1.trans (Mix.final_10 m c), (h c).2.1.trans (Mix.final_11 m c), (h c).2.2⟩)
      (Cert.Kernel3Ideal.Value.run_blocks (F := Ideal) m ρ)
  · refine (θ_run Cert.Reference3Ideal.defs _ _).mono
      (fun r h c => ⟨(MixRef.stream_eq m' c _ (h c).1).trans ?_, ((h c).2.1.trans (MixRef.hidden_eq m' c)).trans ?_, (h c).2.2⟩)
      (Cert.Reference3Ideal.Value.run (F := Ideal) m' ρ')
    · obtain ⟨e0, e1, e2, e3, e4, e5, e6, e7, e8, e9⟩ := hargs c
      rw [e0, e1, e2, e3, e4, e5, e6, e7, e8]
    · obtain ⟨e0, e1, e2, e3, e4, e5, e6, e7, e8, e9⟩ := hargs c
      rw [e0, e1, e2, e3, e4, e5, e6, e7, e8, e9]

/-- The fourth call's kernel runs, its arguments end unchanged and the machine is quiescent. -/
theorem frame_kernel4 : Cert.quiescent_Kernel4 := fun m ρ _ => Cert.Kernel4.Gen.frame m ρ

/-- The same of its idealization. -/
theorem frame_ideal4 : Cert.quiescent_Kernel4Ideal := fun m ρ _ => Cert.Kernel4Ideal.Gen.frame m ρ

/-- The same of the fourth reference. -/
theorem frame_reference4 : Cert.quiescent_Reference4Ideal := fun m ρ _ =>
  (θ_run Cert.Reference4Ideal.defs _ _).mono (fun r h => ⟨fun c => (h c).2.2.2.2.2.2.2.2, Idealize.ShloMosaic.sem_eq_zero_of_no_sems (by decide) r.2⟩)
    (Cert.Reference4Ideal.Value.run (F := Ideal) m ρ)

/-- The fourth idealization rewrites nothing. -/
theorem preserves4 : Cert.preserves_Kernel4_Kernel4Ideal := trivial

/-- A function of three equal arguments. -/
theorem congr3 {α β γ δ : Type _} (f : α → β → γ → δ) {a a' : α} {b b' : β} {c c' : γ} (ha : a = a') (hb : b = b') (hc : c = c') :
    f a b c = f a' b' c' := by
  subst ha hb hc
  rfl

set_option maxHeartbeats 4000000 in
/-- The idealized fourth kernel and its reference compute the same eight arrays of extended reals: both branches' queries, keys and values, and their
    gates. -/
theorem algebraic4 : Cert.algebraic_Kernel4Ideal_Reference4Ideal := fun m ρ m' ρ' _ hargs => by
  refine ⟨fun c => In.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 0 (by decide),
    fun c => In.keys (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 512 (by decide),
    fun c => In.values (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 1024 (by decide),
    fun c => In.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 1536 (by decide),
    fun c => In.keys (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 2048 (by decide),
    fun c => In.values (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 2560 (by decide),
    fun c => In.gates (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 3080 (by decide),
    fun c => In.gates (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 4104 (by decide), ?_, ?_⟩
  · exact (θ_run Cert.Kernel4Ideal.defs _ _).mono (fun r h c => ⟨(h c).1.trans (In.final_10 m c), (h c).2.1.trans (In.final_11 m c), (h c).2.2.1.trans (In.final_12 m c), (h c).2.2.2.1.trans (In.final_13 m c), (h c).2.2.2.2.2.1.trans (In.final_15 m c), (h c).2.2.2.2.2.2.2.1.trans (In.final_17 m c), (h c).2.2.2.2.2.2.2.2.1.trans (In.final_18 m c), (h c).2.2.2.2.2.2.2.2.2.1.trans (In.final_19 m c), (h c).2.2.2.2.2.2.2.2.2.2⟩)
      (Cert.Kernel4Ideal.Value.run_blocks (F := Ideal) m ρ)
  · refine (θ_run Cert.Reference4Ideal.defs _ _).mono
      (fun r h c => ⟨((h c).1.trans (InRef.queries_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 0 (by decide) Cert.Reference4Ideal.Gen.slices_S2x8192x5128_S2x8192x512_0_0_0)).trans ?_,
        ((h c).2.1.trans (InRef.keys_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 512 (by decide) Cert.Reference4Ideal.Gen.slices_S2x8192x5128_S2x8192x512_0_0_512)).trans ?_,
        ((h c).2.2.1.trans (InRef.values_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 1024 (by decide) Cert.Reference4Ideal.Gen.slices_S2x8192x5128_S2x8192x512_0_0_1024)).trans ?_,
        ((h c).2.2.2.1.trans (InRef.queries_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 1536 (by decide) Cert.Reference4Ideal.Gen.slices_S2x8192x5128_S2x8192x512_0_0_1536)).trans ?_,
        ((h c).2.2.2.2.1.trans (InRef.keys_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 2048 (by decide) Cert.Reference4Ideal.Gen.slices_S2x8192x5128_S2x8192x512_0_0_2048)).trans ?_,
        ((h c).2.2.2.2.2.1.trans (InRef.values_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 2560 (by decide) Cert.Reference4Ideal.Gen.slices_S2x8192x5128_S2x8192x512_0_0_2560)).trans ?_,
        ((h c).2.2.2.2.2.2.1.trans (InRef.gates_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 3080 (by decide) Cert.Reference4Ideal.Gen.slices_S2x8192x5128_S2x8192x1024_0_0_3080)).trans ?_,
        ((h c).2.2.2.2.2.2.2.1.trans (InRef.gates_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) 4104 (by decide) Cert.Reference4Ideal.Gen.slices_S2x8192x5128_S2x8192x1024_0_0_4104)).trans ?_,
        (h c).2.2.2.2.2.2.2.2⟩)
      (Cert.Reference4Ideal.Value.run (F := Ideal) m' ρ')
    · exact congr3 (fun x g w => In.queries x g w 0 (by decide)) (hargs c).1 (hargs c).2.1 (hargs c).2.2.1
    · exact congr3 (fun x g w => In.keys x g w 512 (by decide)) (hargs c).1 (hargs c).2.1 (hargs c).2.2.1
    · exact congr3 (fun x g w => In.values x g w 1024 (by decide)) (hargs c).1 (hargs c).2.1 (hargs c).2.2.1
    · exact congr3 (fun x g w => In.queries x g w 1536 (by decide)) (hargs c).1 (hargs c).2.1 (hargs c).2.2.1
    · exact congr3 (fun x g w => In.keys x g w 2048 (by decide)) (hargs c).1 (hargs c).2.1 (hargs c).2.2.1
    · exact congr3 (fun x g w => In.values x g w 2560 (by decide)) (hargs c).1 (hargs c).2.1 (hargs c).2.2.1
    · exact congr3 (fun x g w => In.gates x g w 3080 (by decide)) (hargs c).1 (hargs c).2.1 (hargs c).2.2.1
    · exact congr3 (fun x g w => In.gates x g w 4104 (by decide)) (hargs c).1 (hargs c).2.1 (hargs c).2.2.1

/-- Every claim, with the side conditions the programs state. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, frame_kernel, frame_ideal, frame_ideal_finite, frame_reference,
    frame_reference_finite, frame_kernel2, frame_ideal2, frame_reference2, frame_kernel3, frame_ideal3, frame_reference3,
    frame_kernel4, frame_ideal4, frame_reference4,
    preserves, algebraic, preserves2, algebraic2, preserves3, algebraic3, preserves4, algebraic4⟩

end Cert.Proof

end
